-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![4096, 8, 128]⟩ ⟨3, ![4096, 128, 128]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4096, 8, 128]⟩ ⟨3, ![4096, 128, 128]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024 : Shape := ⟨2, ![256, 1024]⟩
abbrev S1024x16384 : Shape := ⟨2, ![1024, 16384]⟩
abbrev S4096x8x128 : Shape := ⟨3, ![4096, 8, 128]⟩
abbrev S16384x1024 : Shape := ⟨2, ![16384, 1024]⟩
abbrev S3x64x1024 : Shape := ⟨3, ![3, 64, 1024]⟩
abbrev S3x16x1024 : Shape := ⟨3, ![3, 16, 1024]⟩
abbrev S2x4096x128 : Shape := ⟨3, ![2, 4096, 128]⟩
abbrev S1024x1024 : Shape := ⟨2, ![1024, 1024]⟩
abbrev S2 : Shape := ⟨1, ![2]⟩
abbrev S12 : Shape := ⟨1, ![12]⟩
abbrev S_ : Shape := ⟨0, ![]⟩
abbrev S1 : Shape := ⟨1, ![1]⟩
abbrev S1x4096x128 : Shape := ⟨3, ![1, 4096, 128]⟩
abbrev S4096x128 : Shape := ⟨2, ![4096, 128]⟩
abbrev S4096x1x128 : Shape := ⟨3, ![4096, 1, 128]⟩
abbrev S256x4096 : Shape := ⟨2, ![256, 4096]⟩
abbrev S256x128 : Shape := ⟨2, ![256, 128]⟩
abbrev S256 : Shape := ⟨1, ![256]⟩
abbrev S256x1 : Shape := ⟨2, ![256, 1]⟩
abbrev S1x64x1024 : Shape := ⟨3, ![1, 64, 1024]⟩
abbrev S64x1024 : Shape := ⟨2, ![64, 1024]⟩
abbrev S1x16x1024 : Shape := ⟨3, ![1, 16, 1024]⟩
abbrev S16x1024 : Shape := ⟨2, ![16, 1024]⟩

abbrev nBuf : Space → Nat
  | .hbm => 6
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S1024x16384, .f32⟩
  | .hbm, ⟨2, _⟩ => ⟨S4096x8x128, .f32⟩
  | .hbm, ⟨3, _⟩ => ⟨S4096x8x128, .f32⟩
  | .hbm, ⟨4, _⟩ => ⟨S16384x1024, .f32⟩
  | .hbm, ⟨5, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S3x64x1024, .f32⟩
  | .local _ .vmem, ⟨5, _⟩ => ⟨S3x16x1024, .f32⟩
  | .local _ .vmem, ⟨6, _⟩ => ⟨S2x4096x128, .f32⟩
  | .local _ .vmem, ⟨7, _⟩ => ⟨S2x4096x128, .f32⟩
  | .local _ .vmem, ⟨8, _⟩ => ⟨S1024x1024, .f32⟩
  | .local _ .vmem, ⟨9, _⟩ => ⟨S1024x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_9 : BitVec 32 := 4#32
  let v25 : BitVec 32 := Scalar.muli v19 c4_i32_9
  let c4_i32_5 : BitVec 32 := 4#32
  let v20 : BitVec 32 := Scalar.remsi v2 c4_i32_5
  let c3_i32 : BitVec 32 := 3#32
  let v26 : BitVec 32 := Scalar.addi v20 c3_i32
  let c4_i32_10 : BitVec 32 := 4#32
  let v27 : BitVec 32 := Scalar.remsi v26 c4_i32_10
  let v28 : BitVec 32 := Scalar.addi v25 v27
  let c1_i32_18 : BitVec 32 := 1#32
  let v38 : BitVec 32 := Scalar.muli v28 c1_i32_18
  let v39 : BitVec 32 := Scalar.addi c0_i32_19 v38
  v39.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_21 : BitVec 32 := 1#32
  let v40 : BitVec 32 := Scalar.muli v24 c1_i32_21
  let v41 : BitVec 32 := Scalar.addi c0_i32_22 v40
  v41.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_14 : BitVec 32 := 3#32
  let v33 : BitVec 32 := Scalar.addi v19 c3_i32_14
  let c4_i32_15 : BitVec 32 := 4#32
  let v34 : BitVec 32 := Scalar.remsi v33 c4_i32_15
  let c4_i32_16 : BitVec 32 := 4#32
  let v35 : BitVec 32 := Scalar.muli v34 c4_i32_16
  let c4_i32_5 : BitVec 32 := 4#32
  let v20 : BitVec 32 := Scalar.remsi v2 c4_i32_5
  let v36 : BitVec 32 := Scalar.addi v35 v20
  let c1_i32_24 : BitVec 32 := 1#32
  let v42 : BitVec 32 := Scalar.muli v36 c1_i32_24
  let v43 : BitVec 32 := Scalar.addi c0_i32_25 v42
  v43.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_27 : BitVec 32 := 1#32
  let v44 : BitVec 32 := Scalar.muli v32 c1_i32_27
  let v45 : BitVec 32 := Scalar.addi c0_i32_28 v44
  v45.toNat
def k0_off1 (d0 : Dev nD) : Fin 2 → Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v46 : BitVec 32 := Scalar.muli v2 c8_i32
  let c128_i32 : BitVec 32 := 128#32
  let v47 : BitVec 32 := Scalar.muli v46 c128_i32
  ![0, v47.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_30 : BitVec 32 := 8#32
  let v48 : BitVec 32 := Scalar.muli v2 c8_i32_30
  let c128_i32_31 : BitVec 32 := 128#32
  let v49 : BitVec 32 := Scalar.muli v48 c128_i32_31
  let c0_i32_35 : BitVec 32 := 0#32
  ![v49.toNat, 0]
def k0_off3 (d0 : Dev nD) (c0_i32_395 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v558 : BitVec 32 := Scalar.subi v20 c0_i32_395
  let c4_i32_396 : BitVec 32 := 4#32
  let v559 : BitVec 32 := Scalar.addi v558 c4_i32_396
  let c4_i32_397 : BitVec 32 := 4#32
  let v560 : BitVec 32 := Scalar.remsi v559 c4_i32_397
  let c64_i32_401 : BitVec 32 := 64#32
  let v564 : BitVec 32 := Scalar.muli v560 c64_i32_401
  let c0_i32_409 : BitVec 32 := 0#32
  ![v564.toNat, 0]
def k0_dev5 (d0 : Dev nD) : Nat :=
  let c0_i32_406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_405 : BitVec 32 := 1#32
  let v565 : BitVec 32 := Scalar.muli v24 c1_i32_405
  let v566 : BitVec 32 := Scalar.addi c0_i32_406 v565
  v566.toNat
def k0_off4 (d0 : Dev nD) (c0_i32_398 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v561 : BitVec 32 := Scalar.subi v20 c0_i32_398
  let c3_i32_399 : BitVec 32 := 3#32
  let v562 : BitVec 32 := Scalar.addi v561 c3_i32_399
  let c4_i32_400 : BitVec 32 := 4#32
  let v563 : BitVec 32 := Scalar.remsi v562 c4_i32_400
  let c64_i32_425 : BitVec 32 := 64#32
  let v586 : BitVec 32 := Scalar.muli v563 c64_i32_425
  let v587 : Index := Scalar.indexCast v586
  let c0_426 : Index := 0#32
  ![v587.toNat, 0]
def k0_dev6 (d0 : Dev nD) : Nat :=
  let c0_i32_442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_441 : BitVec 32 := 1#32
  let v603 : BitVec 32 := Scalar.muli v24 c1_i32_441
  let v604 : BitVec 32 := Scalar.addi c0_i32_442 v603
  v604.toNat
def k0_dev7 (d0 : Dev nD) : Nat :=
  let c0_i32_478 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_477 : BitVec 32 := 1#32
  let v641 : BitVec 32 := Scalar.muli v24 c1_i32_477
  let v642 : BitVec 32 := Scalar.addi c0_i32_478 v641
  v642.toNat
def k0_off5 (d0 : Dev nD) (c0_i32_505 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_502 : BitVec 32 := 1#32
  let v672 : BitVec 32 := Scalar.addi v20 c1_i32_502
  let c4_i32_503 : BitVec 32 := 4#32
  let v673 : BitVec 32 := Scalar.remsi v672 c4_i32_503
  let c64_i32_504 : BitVec 32 := 64#32
  let v674 : BitVec 32 := Scalar.muli v673 c64_i32_504
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v675 : BitVec 32 := Scalar.subi v19 c0_i32_505
  let c4_i32_506 : BitVec 32 := 4#32
  let v676 : BitVec 32 := Scalar.addi v675 c4_i32_506
  let c4_i32_507 : BitVec 32 := 4#32
  let v677 : BitVec 32 := Scalar.remsi v676 c4_i32_507
  let c16_i32_511 : BitVec 32 := 16#32
  let v681 : BitVec 32 := Scalar.muli v677 c16_i32_511
  let v682 : BitVec 32 := Scalar.addi v674 v681
  let c0_i32_519 : BitVec 32 := 0#32
  ![v682.toNat, 0]
def k0_dev8 (d0 : Dev nD) : Nat :=
  let c0_i32_516 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_515 : BitVec 32 := 1#32
  let v683 : BitVec 32 := Scalar.muli v32 c1_i32_515
  let v684 : BitVec 32 := Scalar.addi c0_i32_516 v683
  v684.toNat
def k0_off6 (d0 : Dev nD) (c0_i32_508 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_502 : BitVec 32 := 1#32
  let v672 : BitVec 32 := Scalar.addi v20 c1_i32_502
  let c4_i32_503 : BitVec 32 := 4#32
  let v673 : BitVec 32 := Scalar.remsi v672 c4_i32_503
  let c64_i32_504 : BitVec 32 := 64#32
  let v674 : BitVec 32 := Scalar.muli v673 c64_i32_504
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v678 : BitVec 32 := Scalar.subi v19 c0_i32_508
  let c3_i32_509 : BitVec 32 := 3#32
  let v679 : BitVec 32 := Scalar.addi v678 c3_i32_509
  let c4_i32_510 : BitVec 32 := 4#32
  let v680 : BitVec 32 := Scalar.remsi v679 c4_i32_510
  let c16_i32_535 : BitVec 32 := 16#32
  let v704 : BitVec 32 := Scalar.muli v680 c16_i32_535
  let v705 : BitVec 32 := Scalar.addi v674 v704
  let v706 : Index := Scalar.indexCast v705
  let c0_536 : Index := 0#32
  ![v706.toNat, 0]
def k0_dev9 (d0 : Dev nD) : Nat :=
  let c0_i32_552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_551 : BitVec 32 := 1#32
  let v723 : BitVec 32 := Scalar.muli v32 c1_i32_551
  let v724 : BitVec 32 := Scalar.addi c0_i32_552 v723
  v724.toNat
def k0_dev10 (d0 : Dev nD) : Nat :=
  let c0_i32_588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_587 : BitVec 32 := 1#32
  let v763 : BitVec 32 := Scalar.muli v32 c1_i32_587
  let v764 : BitVec 32 := Scalar.addi c0_i32_588 v763
  v764.toNat
def k0_off7 (d0 : Dev nD) (c0_i32_614 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_502 : BitVec 32 := 1#32
  let v672 : BitVec 32 := Scalar.addi v20 c1_i32_502
  let c4_i32_503 : BitVec 32 := 4#32
  let v673 : BitVec 32 := Scalar.remsi v672 c4_i32_503
  let c64_i32_504 : BitVec 32 := 64#32
  let v674 : BitVec 32 := Scalar.muli v673 c64_i32_504
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_613 : BitVec 32 := 1#32
  let v795 : BitVec 32 := Scalar.addi v19 c1_i32_613
  let v796 : BitVec 32 := Scalar.subi v795 c0_i32_614
  let c4_i32_615 : BitVec 32 := 4#32
  let v797 : BitVec 32 := Scalar.addi v796 c4_i32_615
  let c4_i32_616 : BitVec 32 := 4#32
  let v798 : BitVec 32 := Scalar.remsi v797 c4_i32_616
  let c16_i32_618 : BitVec 32 := 16#32
  let v801 : BitVec 32 := Scalar.muli v798 c16_i32_618
  let v802 : BitVec 32 := Scalar.addi v674 v801
  let c0_i32_623 : BitVec 32 := 0#32
  ![v802.toNat, 0]
def k0_dev11 (d0 : Dev nD) : Nat :=
  let c0_i32_622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_621 : BitVec 32 := 1#32
  let v803 : BitVec 32 := Scalar.muli v32 c1_i32_621
  let v804 : BitVec 32 := Scalar.addi c0_i32_622 v803
  v804.toNat
def k0_dev12 (d0 : Dev nD) : Nat :=
  let c0_i32_645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_644 : BitVec 32 := 1#32
  let v829 : BitVec 32 := Scalar.muli v32 c1_i32_644
  let v830 : BitVec 32 := Scalar.addi c0_i32_645 v829
  v830.toNat
def k0_dev13 (d0 : Dev nD) : Nat :=
  let c0_i32_668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_11 : BitVec 32 := 1#32
  let v29 : BitVec 32 := Scalar.addi v19 c1_i32_11
  let c4_i32_12 : BitVec 32 := 4#32
  let v30 : BitVec 32 := Scalar.remsi v29 c4_i32_12
  let c4_i32_13 : BitVec 32 := 4#32
  let v31 : BitVec 32 := Scalar.muli v30 c4_i32_13
  let c4_i32_5 : BitVec 32 := 4#32
  let v20 : BitVec 32 := Scalar.remsi v2 c4_i32_5
  let v32 : BitVec 32 := Scalar.addi v31 v20
  let c1_i32_667 : BitVec 32 := 1#32
  let v855 : BitVec 32 := Scalar.muli v32 c1_i32_667
  let v856 : BitVec 32 := Scalar.addi c0_i32_668 v855
  v856.toNat
def k0_off8 (d0 : Dev nD) (c0_i32_683 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_682 : BitVec 32 := 1#32
  let v873 : BitVec 32 := Scalar.addi v20 c1_i32_682
  let v874 : BitVec 32 := Scalar.subi v873 c0_i32_683
  let c4_i32_684 : BitVec 32 := 4#32
  let v875 : BitVec 32 := Scalar.addi v874 c4_i32_684
  let c4_i32_685 : BitVec 32 := 4#32
  let v876 : BitVec 32 := Scalar.remsi v875 c4_i32_685
  let c64_i32_687 : BitVec 32 := 64#32
  let v878 : BitVec 32 := Scalar.muli v876 c64_i32_687
  let c0_i32_691 : BitVec 32 := 0#32
  ![v878.toNat, 0]
def k0_dev14 (d0 : Dev nD) : Nat :=
  let c0_i32_690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_689 : BitVec 32 := 1#32
  let v879 : BitVec 32 := Scalar.muli v24 c1_i32_689
  let v880 : BitVec 32 := Scalar.addi c0_i32_690 v879
  v880.toNat
def k0_dev15 (d0 : Dev nD) : Nat :=
  let c0_i32_712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_711 : BitVec 32 := 1#32
  let v903 : BitVec 32 := Scalar.muli v24 c1_i32_711
  let v904 : BitVec 32 := Scalar.addi c0_i32_712 v903
  v904.toNat
def k0_dev16 (d0 : Dev nD) : Nat :=
  let c0_i32_734 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_6 : BitVec 32 := 4#32
  let v21 : BitVec 32 := Scalar.muli v19 c4_i32_6
  let c4_i32_5 : BitVec 32 := 4#32
  let v20 : BitVec 32 := Scalar.remsi v2 c4_i32_5
  let c1_i32_7 : BitVec 32 := 1#32
  let v22 : BitVec 32 := Scalar.addi v20 c1_i32_7
  let c4_i32_8 : BitVec 32 := 4#32
  let v23 : BitVec 32 := Scalar.remsi v22 c4_i32_8
  let v24 : BitVec 32 := Scalar.addi v21 v23
  let c1_i32_733 : BitVec 32 := 1#32
  let v927 : BitVec 32 := Scalar.muli v24 c1_i32_733
  let v928 : BitVec 32 := Scalar.addi c0_i32_734 v927
  v928.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x1024 : Shape := ⟨2, ![256, 1024]⟩
abbrev S1024x16384 : Shape := ⟨2, ![1024, 16384]⟩
abbrev S4096x128x128 : Shape := ⟨3, ![4096, 128, 128]⟩
abbrev S16384x1024 : Shape := ⟨2, ![16384, 1024]⟩
abbrev S256x16384 : Shape := ⟨2, ![256, 16384]⟩
abbrev S256x128x128 : Shape := ⟨3, ![256, 128, 128]⟩
abbrev S256 : Shape := ⟨1, ![256]⟩
abbrev S_ : Shape := ⟨0, ![]⟩
abbrev S256x1 : Shape := ⟨2, ![256, 1]⟩
abbrev S4096 : Shape := ⟨1, ![4096]⟩
abbrev S1x4096 : Shape := ⟨2, ![1, 4096]⟩
abbrev S256x4096 : Shape := ⟨2, ![256, 4096]⟩
abbrev S128x256x4096 : Shape := ⟨3, ![128, 256, 4096]⟩
abbrev S1x256x4096 : Shape := ⟨3, ![1, 256, 4096]⟩
abbrev S128x256 : Shape := ⟨2, ![128, 256]⟩
abbrev S128x256x1 : Shape := ⟨3, ![128, 256, 1]⟩
abbrev S1x256x1 : Shape := ⟨3, ![1, 256, 1]⟩
abbrev S128x128x256 : Shape := ⟨3, ![128, 128, 256]⟩

abbrev nBuf : Space → Nat
  | .hbm => 123
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x16384, .f32⟩
  | .hbm, ⟨2, _⟩ => ⟨S4096x128x128, .f32⟩
  | .hbm, ⟨3, _⟩ => ⟨S4096x128x128, .f32⟩
  | .hbm, ⟨4, _⟩ => ⟨S16384x1024, .f32⟩
  | .hbm, ⟨5, _⟩ => ⟨S256x16384, .f32⟩
  | .hbm, ⟨6, _⟩ => ⟨S256x128x128, .f32⟩
  | .hbm, ⟨7, _⟩ => ⟨S256, .i32⟩
  | .hbm, ⟨8, _⟩ => ⟨S_, .i32⟩
  | .hbm, ⟨9, _⟩ => ⟨S_, .i32⟩
  | .hbm, ⟨10, _⟩ => ⟨S256, .i32⟩
  | .hbm, ⟨11, _⟩ => ⟨S256, .i32⟩
  | .hbm, ⟨12, _⟩ => ⟨S256, .i32⟩
  | .hbm, ⟨13, _⟩ => ⟨S_, .i32⟩
  | .hbm, ⟨14, _⟩ => ⟨S256, .i32⟩
  | .hbm, ⟨15, _⟩ => ⟨S256, .i1⟩
  | .hbm, ⟨16, _⟩ => ⟨S256, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i1⟩
  | .hbm, ⟨21, _⟩ => ⟨S256, .i1⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S4096, .i32⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096, .i32⟩
  | .hbm, ⟨37, _⟩ => ⟨S4096, .i32⟩
  | .hbm, ⟨38, _⟩ => ⟨S_, .i32⟩
  | .hbm, ⟨39, _⟩ => ⟨S4096, .i32⟩
  | .hbm, ⟨40, _⟩ => ⟨S4096, .i1⟩
  | .hbm, ⟨41, _⟩ => ⟨S4096, .i1⟩
  | .hbm, ⟨42, _⟩ => ⟨S_, .i32⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S1x4096, .i32⟩
  | .hbm, ⟨47, _⟩ => ⟨S256x4096, .i32⟩
  | .hbm, ⟨48, _⟩ => ⟨S256x4096, .i32⟩
  | .hbm, ⟨49, _⟩ => ⟨S256x4096, .i1⟩
  | .hbm, ⟨50, _⟩ => ⟨S_, .i32⟩
  | .hbm, ⟨51, _⟩ => ⟨S1x4096, .i32⟩
  | .hbm, ⟨52, _⟩ => ⟨S1x4096, .i1⟩
  | .hbm, ⟨53, _⟩ => ⟨S256x4096, .i1⟩
  | .hbm, ⟨54, _⟩ => ⟨S256x4096, .i1⟩
  | .hbm, ⟨55, _⟩ => ⟨S256x4096, .i32⟩
  | .hbm, ⟨56, _⟩ => ⟨S256x4096, .i32⟩
  | .hbm, ⟨57, _⟩ => ⟨S256x4096, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S256x4096, .i32⟩
  | .hbm, ⟨65, _⟩ => ⟨S256x4096, .i32⟩
  | .hbm, ⟨66, _⟩ => ⟨S_, .i32⟩
  | .hbm, ⟨67, _⟩ => ⟨S256x4096, .i32⟩
  | .hbm, ⟨68, _⟩ => ⟨S256x4096, .i1⟩
  | .hbm, ⟨69, _⟩ => ⟨S_, .i32⟩
  | .hbm, ⟨70, _⟩ => ⟨S256x4096, .i32⟩
  | .hbm, ⟨71, _⟩ => ⟨S256x4096, .i1⟩
  | .hbm, ⟨72, _⟩ => ⟨S_, .i32⟩
  | .hbm, ⟨73, _⟩ => ⟨S_, .i1⟩
  | .hbm, ⟨74, _⟩ => ⟨S256x4096, .i1⟩
  | .hbm, ⟨75, _⟩ => ⟨S256x4096, .i1⟩
  | .hbm, ⟨76, _⟩ => ⟨S256x4096, .i1⟩
  | .hbm, ⟨77, _⟩ => ⟨S256x4096, .i32⟩
  | .hbm, ⟨78, _⟩ => ⟨S256x4096, .i32⟩
  | .hbm, ⟨79, _⟩ => ⟨S256x4096, .i32⟩
  | .hbm, ⟨80, _⟩ => ⟨S_, .i32⟩
  | .hbm, ⟨81, _⟩ => ⟨S256x4096, .i32⟩
  | .hbm, ⟨82, _⟩ => ⟨S256x4096, .i1⟩
  | .hbm, ⟨83, _⟩ => ⟨S256x4096, .i1⟩
  | .hbm, ⟨84, _⟩ => ⟨S128x256x4096, .f32⟩
  | .hbm, ⟨85, _⟩ => ⟨S_, .f32⟩
  | .hbm, ⟨86, _⟩ => ⟨S128x256x4096, .f32⟩
  | .hbm, ⟨87, _⟩ => ⟨S128x256x4096, .f32⟩
  | .hbm, ⟨88, _⟩ => ⟨S1x256x4096, .i1⟩
  | .hbm, ⟨89, _⟩ => ⟨S_, .f32⟩
  | .hbm, ⟨90, _⟩ => ⟨S_, .f32⟩
  | .hbm, ⟨91, _⟩ => ⟨S128x256x4096, .i1⟩
  | .hbm, ⟨92, _⟩ => ⟨S128x256x4096, .f32⟩
  | .hbm, ⟨93, _⟩ => ⟨S128x256x4096, .f32⟩
  | .hbm, ⟨94, _⟩ => ⟨S_, .f32⟩
  | .hbm, ⟨95, _⟩ => ⟨S128x256, .f32⟩
  | .hbm, ⟨96, _⟩ => ⟨S128x256x1, .f32⟩
  | .hbm, ⟨97, _⟩ => ⟨S128x256x4096, .f32⟩
  | .hbm, ⟨98, _⟩ => ⟨S128x256x4096, .f32⟩
  | .hbm, ⟨99, _⟩ => ⟨S128x256x4096, .f32⟩
  | .hbm, ⟨100, _⟩ => ⟨S_, .i1⟩
  | .hbm, ⟨101, _⟩ => ⟨S256, .i1⟩
  | .hbm, ⟨102, _⟩ => ⟨S1x256x1, .i1⟩
  | .hbm, ⟨103, _⟩ => ⟨S_, .f32⟩
  | .hbm, ⟨104, _⟩ => ⟨S128x256, .f32⟩
  | .hbm, ⟨105, _⟩ => ⟨S128x256x1, .f32⟩
  | .hbm, ⟨106, _⟩ => ⟨S_, .f32⟩
  | .hbm, ⟨107, _⟩ => ⟨S_, .f32⟩
  | .hbm, ⟨108, _⟩ => ⟨S128x256x1, .i1⟩
  | .hbm, ⟨109, _⟩ => ⟨S128x256x1, .f32⟩
  | .hbm, ⟨110, _⟩ => ⟨S128x256x1, .f32⟩
  | .hbm, ⟨111, _⟩ => ⟨S128x256x4096, .f32⟩
  | .hbm, ⟨112, _⟩ => ⟨S128x256x4096, .f32⟩
  | .hbm, ⟨113, _⟩ => ⟨S1x256x1, .i1⟩
  | .hbm, ⟨114, _⟩ => ⟨S_, .f32⟩
  | .hbm, ⟨115, _⟩ => ⟨S_, .f32⟩
  | .hbm, ⟨116, _⟩ => ⟨S128x256x4096, .i1⟩
  | .hbm, ⟨117, _⟩ => ⟨S128x256x4096, .f32⟩
  | .hbm, ⟨118, _⟩ => ⟨S128x256x4096, .f32⟩
  | .hbm, ⟨119, _⟩ => ⟨S128x128x256, .f32⟩
  | .hbm, ⟨120, _⟩ => ⟨S256x128x128, .f32⟩
  | .hbm, ⟨121, _⟩ => ⟨S256x16384, .f32⟩
  | .hbm, ⟨122, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.Topo.lean ====
/-
  The sixteen devices as four planes of four: device `c` is position `c % 4` of plane `c / 4`. Each plane's four devices
  form a ring (`rt`, `lt`), and so do the four devices of one position (`zn`, `zp`). The kernel's computed device numbers
  and row offsets are rewritten here in terms of these.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Tactic

@[expose] public section

noncomputable section

namespace Cert.KernelIdeal.Hand

open Cert.KernelIdeal Cert.KernelIdeal.Gen
open Idealize.ShloMosaic Idealize.ShloMosaic.TcCoe

/-! ## Neighbours -/

set_option backward.proofsInPublic true in
/-- The next device of the plane's ring. -/
def rt (c : Dev nD) : Dev nD := ⟨c.val / 4 * 4 + (c.val % 4 + 1) % 4, by have := c.isLt; simp only [nD] at *; omega⟩
set_option backward.proofsInPublic true in
/-- The previous device of the plane's ring. -/
def lt (c : Dev nD) : Dev nD := ⟨c.val / 4 * 4 + (c.val % 4 + 3) % 4, by have := c.isLt; simp only [nD] at *; omega⟩
set_option backward.proofsInPublic true in
/-- The device of the same position in the next plane. -/
def zn (c : Dev nD) : Dev nD := ⟨(c.val / 4 + 1) % 4 * 4 + c.val % 4, by have := c.isLt; simp only [nD] at *; omega⟩
set_option backward.proofsInPublic true in
/-- The device of the same position in the previous plane. -/
def zp (c : Dev nD) : Dev nD := ⟨(c.val / 4 + 3) % 4 * 4 + c.val % 4, by have := c.isLt; simp only [nD] at *; omega⟩

theorem lt_rt (c : Dev nD) : lt (rt c) = c := by revert c; decide
theorem rt_lt (c : Dev nD) : rt (lt c) = c := by revert c; decide
theorem zp_zn (c : Dev nD) : zp (zn c) = c := by revert c; decide
theorem zn_zp (c : Dev nD) : zn (zp c) = c := by revert c; decide
/-- A ring has four devices: three steps back are one step on. -/
theorem lt_lt_lt (c : Dev nD) : lt (lt (lt c)) = rt c := by revert c; decide
theorem zp_zp_zp (c : Dev nD) : zp (zp (zp c)) = zn c := by revert c; decide

/-- The plane rings, and the rings across the planes, as permutations of the devices. -/
def ringA : Dev nD ≃ Dev nD := ⟨rt, lt, lt_rt, rt_lt⟩
def ringZ : Dev nD ≃ Dev nD := ⟨zn, zp, zp_zn, zn_zp⟩

/-- Where hop `k` of a device goes, and where the hop that it receives at `k` comes from: hops 0, 1, 2 and 9, 10, 11 run
    along the plane's ring, hops 3 … 8 across the planes. -/
def tgt (c : Dev nD) (k : Fin 12) : Dev nD := if 3 ≤ k.val ∧ k.val < 9 then zn c else rt c
def ring (k : Fin 12) : Dev nD ≃ Dev nD := if 3 ≤ k.val ∧ k.val < 9 then ringZ else ringA

theorem ring_apply (k : Fin 12) (c : Dev nD) : ring k c = tgt c k := by
  unfold ring tgt; split <;> rfl

/-! ## The kernel's device numbers -/

theorem dev1_eq (c : Dev nD) : (⟨k0_dev1 c, k0_dev1_lt c⟩ : Dev nD) = lt c := by revert c; decide
theorem dev2_eq (c : Dev nD) : (⟨k0_dev2 c, k0_dev2_lt c⟩ : Dev nD) = rt c := by revert c; decide
theorem dev3_eq (c : Dev nD) : (⟨k0_dev3 c, k0_dev3_lt c⟩ : Dev nD) = zp c := by revert c; decide
theorem dev4_eq (c : Dev nD) : (⟨k0_dev4 c, k0_dev4_lt c⟩ : Dev nD) = zn c := by revert c; decide
theorem dev5_eq (c : Dev nD) : (⟨k0_dev5 c, k0_dev5_lt c⟩ : Dev nD) = tgt c 0 := by revert c; decide
theorem dev6_eq (c : Dev nD) : (⟨k0_dev6 c, k0_dev6_lt c⟩ : Dev nD) = tgt c 1 := by revert c; decide
theorem dev7_eq (c : Dev nD) : (⟨k0_dev7 c, k0_dev7_lt c⟩ : Dev nD) = tgt c 2 := by revert c; decide
theorem dev8_eq (c : Dev nD) : (⟨k0_dev8 c, k0_dev8_lt c⟩ : Dev nD) = tgt c 3 := by revert c; decide
theorem dev9_eq (c : Dev nD) : (⟨k0_dev9 c, k0_dev9_lt c⟩ : Dev nD) = tgt c 4 := by revert c; decide
theorem dev10_eq (c : Dev nD) : (⟨k0_dev10 c, k0_dev10_lt c⟩ : Dev nD) = tgt c 5 := by revert c; decide
theorem dev11_eq (c : Dev nD) : (⟨k0_dev11 c, k0_dev11_lt c⟩ : Dev nD) = tgt c 6 := by revert c; decide
theorem dev12_eq (c : Dev nD) : (⟨k0_dev12 c, k0_dev12_lt c⟩ : Dev nD) = tgt c 7 := by revert c; decide
theorem dev13_eq (c : Dev nD) : (⟨k0_dev13 c, k0_dev13_lt c⟩ : Dev nD) = tgt c 8 := by revert c; decide
theorem dev14_eq (c : Dev nD) : (⟨k0_dev14 c, k0_dev14_lt c⟩ : Dev nD) = tgt c 9 := by revert c; decide
theorem dev15_eq (c : Dev nD) : (⟨k0_dev15 c, k0_dev15_lt c⟩ : Dev nD) = tgt c 10 := by revert c; decide
theorem dev16_eq (c : Dev nD) : (⟨k0_dev16 c, k0_dev16_lt c⟩ : Dev nD) = tgt c 11 := by revert c; decide

/-! ## Row blocks

The accumulator's 256 rows are four chunks of 64, one per position of the plane's ring; the chunk that a device ends the
first reduction with is four sub-blocks of 16 rows, one per plane. -/

set_option backward.proofsInPublic true in
/-- The chunk that device `c` sends at hop `s` of the plane's reduction. -/
def qi (c : Dev nD) (s : Fin 4) : Fin 4 := ⟨(c.val % 4 + 4 - s.val) % 4, Nat.mod_lt _ (by decide)⟩
set_option backward.proofsInPublic true in
/-- The sub-block (of the accumulator's sixteen) that device `c` sends at hop `s` of the reduction across the planes. -/
def ui (c : Dev nD) (s : Fin 4) : Fin 16 :=
  ⟨4 * ((c.val % 4 + 1) % 4) + (c.val / 4 + 4 - s.val) % 4, by omega⟩

theorem inb_ch : ∀ q : Fin 4, ∀ a, (![64 * q.val, 0] : Fin 2 → ℕ) a + S64x1024.size a ≤ S256x1024.size a := by decide
theorem inb_sb : ∀ u : Fin 16, ∀ a, (![16 * u.val, 0] : Fin 2 → ℕ) a + S16x1024.size a ≤ S256x1024.size a := by decide
theorem inb_al : ∀ s : Fin 3, ∀ a, (![s.val, 0, 0] : Fin 3 → ℕ) a + S1x64x1024.size a ≤ S3x64x1024.size a := by decide
theorem inb_bl : ∀ s : Fin 3, ∀ a, (![s.val, 0, 0] : Fin 3 → ℕ) a + S1x16x1024.size a ≤ S3x16x1024.size a := by decide

/-- The accumulator and the two landing buffers. -/
abbrev accM : Memref sig .tc .vmem S256x1024 .f32 := Memref.whole cc0_scratch1
abbrev alM : Memref sig .tc .vmem S3x64x1024 .f32 := Memref.whole cc0_scratch2
abbrev blM : Memref sig .tc .vmem S3x16x1024 .f32 := Memref.whole cc0_scratch3
/-- Chunk `q` and sub-block `u` of the accumulator, and the landing slots. -/
abbrev ch (q : Fin 4) : Memref sig .tc .vmem S64x1024 .f32 := accM.slice (Rect.unit (s := S256x1024) ![64 * q.val, 0] S64x1024.size (inb_ch q)) (fun _ => rfl)
abbrev sb (u : Fin 16) : Memref sig .tc .vmem S16x1024 .f32 := accM.slice (Rect.unit (s := S256x1024) ![16 * u.val, 0] S16x1024.size (inb_sb u)) (fun _ => rfl)
abbrev al1 (s : Fin 3) : Memref sig .tc .vmem S1x64x1024 .f32 := alM.slice (Rect.unit (s := S3x64x1024) ![s.val, 0, 0] S1x64x1024.size (inb_al s)) (fun _ => rfl)
abbrev bl1 (s : Fin 3) : Memref sig .tc .vmem S1x16x1024 .f32 := blM.slice (Rect.unit (s := S3x16x1024) ![s.val, 0, 0] S1x16x1024.size (inb_bl s)) (fun _ => rfl)
abbrev al (s : Fin 3) : Memref sig .tc .vmem S64x1024 .f32 := (al1 s).squeeze S64x1024 squeezes_S1x64x1024_S64x1024
abbrev bl (s : Fin 3) : Memref sig .tc .vmem S16x1024 .f32 := (bl1 s).squeeze S16x1024 squeezes_S1x16x1024_S16x1024

theorem off3_eq (c : Dev nD) : ∀ r : Fin 3, k0_off3 c (BitVec.ofNat 32 r.val) = ![64 * (qi c r.castSucc).val, 0] := by revert c; decide
theorem off4_eq (c : Dev nD) : ∀ r : Fin 3, k0_off4 c (BitVec.ofNat 32 r.val) = ![64 * (qi c r.succ).val, 0] := by revert c; decide
theorem off5_eq (c : Dev nD) : ∀ r : Fin 3, k0_off5 c (BitVec.ofNat 32 r.val) = ![16 * (ui c r.castSucc).val, 0] := by revert c; decide
theorem off6_eq (c : Dev nD) : ∀ r : Fin 3, k0_off6 c (BitVec.ofNat 32 r.val) = ![16 * (ui c r.succ).val, 0] := by revert c; decide
theorem off7_eq (c : Dev nD) : ∀ r : Fin 3, k0_off7 c (BitVec.ofNat 32 r.val) = ![16 * (ui c (r.castSucc + 3)).val, 0] := by revert c; decide
theorem off8_eq (c : Dev nD) : ∀ r : Fin 3, k0_off8 c (BitVec.ofNat 32 r.val) = ![64 * (qi c (r.castSucc + 3)).val, 0] := by revert c; decide

/-- What a neighbour sends is what this device calls the next block: the same rows on both devices. -/
theorem qi_rt (c : Dev nD) (s : Fin 4) : qi (rt c) (s + 1) = qi c s := by revert c s; decide
theorem ui_zn (c : Dev nD) (s : Fin 4) : ui (zn c) (s + 1) = ui c s := by revert c s; decide

end Cert.KernelIdeal.Hand

end
-- ==== Proof.Proto.lean ====
/-
  The protocol of the sixteen devices. Per device: a barrier cell (its four neighbours signal it one unit each, it waits
  for four), and per hop a send cell and a receive cell.

  * The barrier hands a device its right neighbour's first landing buffer and its next plane's second one.
  * A hop of the two reductions lands in the neighbour's landing slot, and hands over with it the rows it was read from:
    the neighbour gives them back two (one) hops later, written.
  * A hop of the two gathers writes the neighbour's own rows, which came to this device that way.
  * `AP`, `ZP`, `GV`, `XV`, `HV` are the contents at each hop, from the partial results `PV`.
-/
module

public import proofs.«01_k».proof.Proof.Topo
public import Idealize.ShloMosaic.Lib.Rounds
public import Idealize.ShloMosaic.Lib.Ring
public import Idealize.ShloMosaic.Lib.Transfers
public import Idealize.ShloMosaic.Lib.Pointwise.Index

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's rounds, the protocol's rounds, the local transfers' counters -/

abbrev UB : Type := URounds (GSem nD τ sig) (Fin 4)
abbrev UU : Type := UR sig nD τ × (UB × Counters)
/-- The program has no loop with a variant. -/
abbrev 𝒱₀ : Variants := Variants.none

local notation "𝕄" => MT nD τ sig Unit (Elt F) ℕ UU ℕ

abbrev EP : Emb (UR sig nD τ) (MT nD τ sig Unit (Elt F) ℕ UU ℕ) := embL
/-- The protocol's part of the algebra. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
/-- The counters' part. -/
abbrev EC : UEmb Counters (MT nD τ sig Unit (Elt F) ℕ UU ℕ) := countersEmb (U := UU)

/-! ## Holding a view -/

/-- The elements under a view, at some contents that the view reads as `w`. -/
def At {sp : Space} {s : Shape} {e : EltTy} (v : View sig .tc sp s e) (c : Dev nD) (q : PosShare TreeShare) (w : s.Idx → Elt F e) : sProp 𝕄 :=
  iprop(∃ f : Buf (Elt F) (v.loc (c : Thread nD τ)), (v.loc (c : Thread nD τ) ↦[v.set]{q} f) ∗ ⌜v.read (Elt F) f = w⌝)
/-- … at any contents. -/
def Any {sp : Space} {s : Shape} {e : EltTy} (v : View sig .tc sp s e) (c : Dev nD) : sProp 𝕄 :=
  iprop(∃ f : Buf (Elt F) (v.loc (c : Thread nD τ)), v.loc (c : Thread nD τ) ↦[v.set]{fullShare} f)

omit [FloatOps F] in
instance At_storable {sp : Space} {s : Shape} {e : EltTy} (v : View sig .tc sp s e) (c : Dev nD) (q : PosShare TreeShare) (w : s.Idx → Elt F e) :
    BI.Storable (upEmb : UEmb _ 𝕄) (At v c q w) := by unfold At; infer_instance
omit [FloatOps F] in
instance Any_storable {sp : Space} {s : Shape} {e : EltTy} (v : View sig .tc sp s e) (c : Dev nD) :
    BI.Storable (upEmb : UEmb _ 𝕄) (Any (F := F) v c) := by unfold Any; infer_instance

omit [FloatOps F] in
theorem At.any {sp : Space} {s : Shape} {e : EltTy} (v : View sig .tc sp s e) (c : Dev nD) (w : s.Idx → Elt F e) :
    (At v c fullShare w : sProp 𝕄) ⊢ Any v c := by
  unfold At Any; iintro ⟨%f, H, -⟩; iexists f; iexact H

/-! ## Contents -/

section Vals
-- each device's partial result: what it adds into the sum over the devices
variable (PV : Dev nD → FVec F S256x1024 .f32)

/-- Chunk `q`, and sub-block `u`, of the rows of `v`. -/
def rows64 (q : Fin 4) (v : FVec F S256x1024 .f32) : FVec F S64x1024 .f32 := (ch q).view.read (Elt F) v
def rows16 (u : Fin 16) (v : FVec F S256x1024 .f32) : FVec F S16x1024 .f32 := (sb u).view.read (Elt F) v
/-- A slot's contents as the kernel loads them: with the leading unit axis. -/
def lead64 (v : FVec F S64x1024 .f32) : FVec F S1x64x1024 .f32 :=
  fun i => v ((Shape.reshapeEquiv (squeezes_S1x64x1024_S64x1024).numel_eq).symm i)
def lead16 (v : FVec F S16x1024 .f32) : FVec F S1x16x1024 .f32 :=
  fun i => v ((Shape.reshapeEquiv (squeezes_S1x16x1024_S16x1024).numel_eq).symm i)

/-- The kernel's sum of a chunk and what landed, at each of the three hops; and of a sub-block. -/
def addA (s : ℕ) : FVec F S64x1024 .f32 → FVec F S1x64x1024 .f32 → FVec F S64x1024 .f32 :=
  match s with | 0 => k0_pay31 | 1 => k0_pay32 | _ => k0_pay33
def addZ (s : ℕ) : FVec F S16x1024 .f32 → FVec F S1x16x1024 .f32 → FVec F S16x1024 .f32 :=
  match s with | 0 => k0_pay34 | 1 => k0_pay35 | _ => fun a b => k0_pay37 a (k0_pay36 b)

/-- Chunk `qi d s` of device `d` once the first `s` hops of the plane's reduction are added. -/
def AP (d : Dev nD) : ℕ → FVec F S64x1024 .f32
  | 0 => rows64 (qi d 0) (PV d)
  | s + 1 => addA s (rows64 (qi d (Fin.ofNat 4 (s + 1))) (PV d)) (lead64 (AP (lt d) s))
/-- Sub-block `t` of a chunk; a chunk of four sub-blocks; an array of four chunks. -/
def sub16 (t : ℕ) (v : FVec F S64x1024 .f32) : FVec F S16x1024 .f32 :=
  fun i => v (ix2 (⟨(16 * t + (i 0).val) % 64, Nat.mod_lt _ (by decide)⟩ : Fin 64) (i 1 : Fin 1024))
def cat16 (f : ℕ → FVec F S16x1024 .f32) : FVec F S64x1024 .f32 :=
  fun i => f ((i 0).val / 16) (ix2 (⟨(i 0).val % 16, Nat.mod_lt _ (by decide)⟩ : Fin 16) (i 1 : Fin 1024))
def cat64 (f : ℕ → FVec F S64x1024 .f32) : FVec F S256x1024 .f32 :=
  fun i => f ((i 0).val / 64) (ix2 (⟨(i 0).val % 64, Nat.mod_lt _ (by decide)⟩ : Fin 64) (i 1 : Fin 1024))

/-- Sub-block `ui d s` of device `d` once the first `s` hops across the planes are added. -/
def ZP (d : Dev nD) : ℕ → FVec F S16x1024 .f32
  | 0 => sub16 ((ui d 0).val % 4) (AP PV d 3)
  | s + 1 => addZ s (sub16 ((ui d (Fin.ofNat 4 (s + 1))).val % 4) (AP PV d 3)) (lead16 (ZP (zp d) s))

/-- What device `d` sends at hop `s` of the gather across the planes: the finished sub-block of the device `s` planes back. -/
def GV (d : Dev nD) : ℕ → FVec F S16x1024 .f32
  | 0 => ZP PV d 3
  | s + 1 => GV (zp d) s

/-- The finished chunk of device `d`, its four sub-blocks gathered. -/
def XV (d : Dev nD) : FVec F S64x1024 .f32 := cat16 fun t => GV PV d ((d.val / 4 + 5 - t) % 4)

/-- What device `d` sends at hop `s` of the gather along the plane: the finished chunk of the device `s` steps back. -/
def HV (d : Dev nD) : ℕ → FVec F S64x1024 .f32
  | 0 => XV PV d
  | s + 1 => HV (lt d) s

/-- The finished result on device `d`. -/
def OV (d : Dev nD) : FVec F S256x1024 .f32 := cat64 fun q => HV PV d ((d.val % 4 + 5 - q) % 4)

/-! ## What changes hands -/

/-- Chunk `qi e s` of device `e`, and sub-block `ui e s` of it, at any contents. -/
abbrev RA (e : Dev nD) (s : Fin 4) : sProp 𝕄 := Any (F := F) (ch (qi e s)).view e
abbrev RZ (e : Dev nD) (s : Fin 4) : sProp 𝕄 := Any (F := F) (sb (ui e s)).view e

/-- A device's landing slots, at any contents. -/
def slotsA (d : Dev nD) : sProp 𝕄 := iprop(Any (F := F) (al 0).view d ∗ Any (F := F) (al 1).view d ∗ Any (F := F) (al 2).view d)
def slotsZ (d : Dev nD) : sProp 𝕄 := iprop(Any (F := F) (bl 0).view d ∗ Any (F := F) (bl 1).view d ∗ Any (F := F) (bl 2).view d)

/-- What `d`'s barrier cell's duty `j` hands `d`. -/
def barPay (d : Dev nD) (j : Fin 4) : sProp 𝕄 :=
  match j with
  | 0 => slotsA (F := F) (rt d)
  | 2 => slotsZ (F := F) (zn d)
  | _ => iprop(emp)

/-- What `d`'s receive cell of hop `k` hands `d`. -/
def recvPay (d : Dev nD) (k : ℕ) : sProp 𝕄 :=
  match k with
  | 0 => iprop(At (al 0).view d fullShare (AP PV (lt d) 0) ∗ RA (lt d) 0)
  | 1 => iprop(At (al 1).view d fullShare (AP PV (lt d) 1) ∗ (RA (lt d) 1 ∗ RA (lt (lt d)) 0))
  | 2 => iprop(At (al 2).view d fullShare (AP PV (lt d) 2) ∗ (RA (lt d) 2 ∗ RA (lt (lt d)) 1 ∗ RA (lt (lt (lt d))) 0))
  | 3 => iprop(At (bl 0).view d fullShare (ZP PV (zp d) 0) ∗ RZ (zp d) 0)
  | 4 => iprop(At (bl 1).view d fullShare (ZP PV (zp d) 1) ∗ (RZ (zp d) 1 ∗ RZ (zp (zp d)) 0))
  | 5 => iprop(At (bl 2).view d fullShare (ZP PV (zp d) 2) ∗ (RZ (zp d) 2 ∗ RZ (zp (zp d)) 1 ∗ RZ (zp (zp (zp d))) 0))
  | 6 => iprop(At (sb (ui d 0)).view d fullShare (GV PV (zp d) 0) ∗ (RZ (zp (zp d)) 2 ∗ RZ (zp (zp (zp d))) 1))
  | 7 => iprop(At (sb (ui d 1)).view d fullShare (GV PV (zp d) 1) ∗ RZ (zp (zp (zp d))) 2)
  | 8 => iprop(At (sb (ui d 2)).view d fullShare (GV PV (zp d) 2) ∗ emp)
  | 9 => iprop(At (ch (qi d 0)).view d fullShare (HV PV (lt d) 0) ∗ (RA (lt (lt d)) 2 ∗ RA (lt (lt (lt d))) 1))
  | 10 => iprop(At (ch (qi d 1)).view d fullShare (HV PV (lt d) 1) ∗ RA (lt (lt (lt d))) 2)
  | 11 => iprop(At (ch (qi d 2)).view d fullShare (HV PV (lt d) 2) ∗ emp)
  | _ => iprop(emp)

/-- What `d`'s send cell of hop `k` hands back to `d`: the rows a gather hop reads; a reduction hop's go to the receiver. -/
def sendPay (d : Dev nD) (k : ℕ) : sProp 𝕄 :=
  match k with
  | 6 => At (sb (ui d 3)).view d fullShare (GV PV d 0)
  | 7 => At (sb (ui d 0)).view d fullShare (GV PV d 1)
  | 8 => At (sb (ui d 1)).view d fullShare (GV PV d 2)
  | 9 => At (ch (qi d 3)).view d fullShare (HV PV d 0)
  | 10 => At (ch (qi d 0)).view d fullShare (HV PV d 1)
  | 11 => At (ch (qi d 1)).view d fullShare (HV PV d 2)
  | _ => iprop(emp)

instance barPay_storable (d : Dev nD) (j : Fin 4) : BI.Storable (upEmb : UEmb _ 𝕄) (barPay (F := F) d j) := by
  unfold barPay slotsA slotsZ; split <;> infer_instance
instance recvPay_storable (d : Dev nD) (k : ℕ) : BI.Storable (upEmb : UEmb _ 𝕄) (recvPay PV d k) := by
  unfold recvPay; split <;> infer_instance
instance sendPay_storable (d : Dev nD) (k : ℕ) : BI.Storable (upEmb : UEmb _ 𝕄) (sendPay PV d k) := by
  unfold sendPay; split <;> infer_instance

/-! ## The cells and the schedule -/

/-- The runtime's barrier semaphore, and the send and receive DMA semaphore of hop `k`. -/
abbrev barS : Sem sig := (SemArray.scalar (sig.barrier 0 rfl) : Sems sig S_).sem
abbrev sendS (k : Fin 12) : DmaSem sig := ⟨8 + k.val, by have := k.isLt; show 8 + k.val < 32; omega⟩
abbrev recvS (k : Fin 12) : DmaSem sig := ⟨20 + k.val, by have := k.isLt; show 20 + k.val < 32; omega⟩
abbrev barCell (c : Dev nD) : GSem nD τ sig := ((c : Thread nD τ), .reg barS)
abbrev sendCell (c : Dev nD) (k : Fin 12) : GSem nD τ sig := ((c : Thread nD τ), .dma (sendS k))
abbrev recvCell (c : Dev nD) (k : Fin 12) : GSem nD τ sig := ((c : Thread nD τ), .dma (recvS k))

/-- The credit of a chunk's transfer, and of a sub-block's. -/
abbrev N64 : ℕ := (ch 0).view.dmaCredit
abbrev N16 : ℕ := (sb 0).view.dmaCredit
theorem N64_pos : 0 < N64 := View.dmaCredit_pos _ (by decide)
theorem N16_pos : 0 < N16 := View.dmaCredit_pos _ (by decide)
/-- … of hop `k`'s. -/
def amt (k : ℕ) : ℕ := if 3 ≤ k ∧ k < 9 then N16 else N64
theorem amt_pos (k : ℕ) : 0 < amt k := by unfold amt; split; exacts [N16_pos, N64_pos]

/-- One round: a barrier cell has four duties of one unit; a send or a receive cell the one duty 0 of its hop's credit. -/
def sched : Rounds.Schedule (GSem nD τ sig) (Fin 4) 𝕄 where
  duties g r := match g.2 with
    | .reg s => if r = 0 ∧ g.1.2 = .tc ∧ s = barS then Finset.univ else ∅
    | .dma s => if r = 0 ∧ g.1.2 = .tc ∧ 8 ≤ s.val then {0} else ∅
  unitless _ := False
  amount g _ _ := match g.2 with
    | .reg _ => 1
    | .dma s => if 20 ≤ s.val then amt (s.val - 20) else amt (s.val - 8)
  payload g _ d := match g.2 with
    | .reg _ => barPay g.1.1 d
    | .dma s => if 20 ≤ s.val then recvPay PV g.1.1 (s.val - 20) else sendPay PV g.1.1 (s.val - 8)
  amount_pos g _ _ _ := by
    split
    · exact Nat.one_pos
    · split <;> exact amt_pos _

instance sched_payload_storable (g : GSem nD τ sig) (r : ℕ) (d : Fin 4) :
    BI.Storable (upEmb : UEmb _ 𝕄) ((sched PV).payload g r d) := by
  dsimp only [sched]
  split
  · infer_instance
  · split <;> infer_instance

theorem duties_bar (c : Dev nD) : (sched PV).duties (barCell c) 0 = Finset.univ := by
  dsimp only [sched]; exact if_pos ⟨rfl, rfl, rfl⟩
theorem duties_send (c : Dev nD) (k : Fin 12) : (sched PV).duties (sendCell c k) 0 = {0} := by
  dsimp only [sched]; exact if_pos ⟨rfl, rfl, by omega⟩
theorem duties_recv (c : Dev nD) (k : Fin 12) : (sched PV).duties (recvCell c k) 0 = {0} := by
  dsimp only [sched]; exact if_pos ⟨rfl, rfl, by omega⟩
theorem duties_later (g : GSem nD τ sig) : ∀ r, 1 ≤ r → (sched PV).duties g r = ∅ := fun r hr => by
  dsimp only [sched]; split <;> exact if_neg fun h => by omega

theorem amount_bar (c : Dev nD) (d : Fin 4) : (sched PV).amount (barCell c) 0 d = 1 := rfl
theorem amount_send (c : Dev nD) (k : Fin 12) (d : Fin 4) : (sched PV).amount (sendCell c k) 0 d = amt k.val := by
  dsimp only [sched]; rw [if_neg (by have := k.isLt; omega), Nat.add_sub_cancel_left]
theorem amount_recv (c : Dev nD) (k : Fin 12) (d : Fin 4) : (sched PV).amount (recvCell c k) 0 d = amt k.val := by
  dsimp only [sched]; rw [if_pos (by omega), Nat.add_sub_cancel_left]

theorem expect_bar (c : Dev nD) : (sched PV).expect (barCell c) 0 = 4 := by
  unfold Schedule.expect Schedule.amountOf
  rw [duties_bar, Finset.sum_congr rfl fun d _ => amount_bar PV c d]; rfl
theorem expect_send (c : Dev nD) (k : Fin 12) : (sched PV).expect (sendCell c k) 0 = amt k.val := by
  unfold Schedule.expect Schedule.amountOf; rw [duties_send, Finset.sum_singleton, amount_send]
theorem expect_recv (c : Dev nD) (k : Fin 12) : (sched PV).expect (recvCell c k) 0 = amt k.val := by
  unfold Schedule.expect Schedule.amountOf; rw [duties_recv, Finset.sum_singleton, amount_recv]

theorem payload_bar (c : Dev nD) (d : Fin 4) : (sched PV).payload (barCell c) 0 d = barPay c d := rfl
theorem payload_send (c : Dev nD) (k : Fin 12) (d : Fin 4) : (sched PV).payload (sendCell c k) 0 d = sendPay PV c k.val := by
  dsimp only [sched]; rw [if_neg (by have := k.isLt; omega), Nat.add_sub_cancel_left]
theorem payload_recv (c : Dev nD) (k : Fin 12) (d : Fin 4) : (sched PV).payload (recvCell c k) 0 d = recvPay PV c k.val := by
  dsimp only [sched]; rw [if_pos (by omega), Nat.add_sub_cancel_left]

/-- What each cell's wait hands over. -/
theorem rest_bar (c : Dev nD) : bigSep ((sched PV).duties (barCell c) 0 \ ∅) (fun d => (sched PV).payload (barCell c) 0 d)
    = iprop(slotsA (F := F) (rt c) ∗ emp ∗ slotsZ (F := F) (zn c) ∗ emp) := by
  rw [Finset.sdiff_empty, duties_bar, bigSep_univ_eq_bigSepL [0, 1, 2, 3] (by decide) (by decide)]
  rfl
theorem rest_send (c : Dev nD) (k : Fin 12) : bigSep ((sched PV).duties (sendCell c k) 0 \ ∅) (fun d => (sched PV).payload (sendCell c k) 0 d)
    = sendPay PV c k.val := by
  rw [Finset.sdiff_empty, duties_send, bigSep_singleton, payload_send]
theorem rest_recv (c : Dev nD) (k : Fin 12) : bigSep ((sched PV).duties (recvCell c k) 0 \ ∅) (fun d => (sched PV).payload (recvCell c k) 0 d)
    = recvPay PV c k.val := by
  rw [Finset.sdiff_empty, duties_recv, bigSep_singleton, payload_recv]

end Vals

/-! ## What each core owes at launch; the levels -/

set_option backward.proofsInPublic true in
/-- The credits of the last `n` hops, owed to the receive cells that they land on; the next hop's is the last summand. -/
def oweN (c : Dev nD) : ℕ → CellTallies nD τ sig Unit
  | 0 => 0
  | n + 1 => oweN c n + tallyAt (recvCell (tgt c ⟨11 - n, by omega⟩) ⟨11 - n, by omega⟩) () (amt (11 - n))

/-- Every hop's credit and the four barrier units, the first to be paid last. -/
def O₀ (c : Dev nD) : CellTallies nD τ sig Unit :=
  oweN c 12 + tallyAt (barCell (zn c)) () 1 + tallyAt (barCell (zp c)) () 1 + tallyAt (barCell (rt c)) () 1 + tallyAt (barCell (lt c)) () 1

def L (g : GSem nD τ sig) : Finset Unit := if g.1.2 = .tc then {()} else ∅
/-- Barrier cells at 1, hop `k`'s receive cells at `2 + k`, everything else at 0. -/
def lv (g : GSem nD τ sig) (_ : Unit) : ℕ := match g.2 with
  | .reg _ => 1
  | .dma s => if 20 ≤ s.val then s.val - 18 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (k : Fin 12) : lv (recvCell c k) () = 2 + k.val := by
  dsimp only [lv]; rw [if_pos (by omega)]; omega

/-- What the last `n` hops owe, they owe to receive cells of hops `12 - n` on. -/
theorem oweN_pos {c : Dev nD} {g : GSem nD τ sig} {u : Unit} : ∀ {n : ℕ}, n ≤ 12 → 0 < oweN c n g u →
    ∃ (e : Dev nD) (j : Fin 12), g = recvCell e j ∧ 12 ≤ n + j.val
  | 0, _, h => absurd h (Nat.lt_irrefl 0)
  | n + 1, hn, h => by
      unfold oweN at h
      rw [Pi.add_apply, Finsupp.add_apply, tallyAt_apply] at h
      split at h
      case isTrue hg => exact ⟨_, _, hg.1, by show 12 ≤ n + 1 + (11 - n); omega⟩
      case isFalse =>
        obtain ⟨e, j, hj, hl⟩ := oweN_pos (n := n) (by omega) (by simpa using h)
        exact ⟨e, j, hj, by omega⟩

/-- A wait below everything the last `n` hops owe is allowed. -/
theorem mayWait_oweN (c : Dev nD) (n : ℕ) (hn : n ≤ 12) (sm : SemLoc sig) (hs : lv ((c : Thread nD τ), sm) () < 14 - n) :
    (levAts L lv : sProp 𝕄) ⊢ MayWait (c : Thread nD τ) sm () (oweN c n) :=
  MayOwe.of_cut (L := L) (lev := lv) (13 - n) (fun p hp => by rw [Finset.mem_singleton.mp hp, L_tc]; exact Finset.mem_singleton_self _)
    (fun g u hg => by obtain ⟨e, j, rfl, -⟩ := oweN_pos hn hg; rw [L_tc]; exact Finset.mem_singleton_self _)
    (fun p hp => by rw [Finset.mem_singleton.mp hp]; show lv ((c : Thread nD τ), sm) () ≤ 13 - n; omega)
    (fun g u hg => by obtain ⟨e, j, rfl, hl⟩ := oweN_pos hn hg; rw [lv_recv]; omega)

theorem O₀_pos {c : Dev nD} {g : GSem nD τ sig} {u : Unit} (h : 0 < O₀ c g u) :
    (∃ (e : Dev nD) (j : Fin 12), g = recvCell e j) ∨ ∃ e : Dev nD, g = barCell e := by
  unfold O₀ at h
  simp only [Pi.add_apply, Finsupp.add_apply, tallyAt_apply] at h
  by_cases h1 : 0 < oweN c 12 g u
  · obtain ⟨e, j, hj, -⟩ := oweN_pos (Nat.le_refl 12) h1; exact .inl ⟨e, j, hj⟩
  · by_contra hn
    rw [not_or, not_exists] at hn
    rw [if_neg (fun h' => hn.2 ⟨_, h'.1⟩), if_neg (fun h' => hn.2 ⟨_, h'.1⟩), if_neg (fun h' => hn.2 ⟨_, h'.1⟩), if_neg (fun h' => hn.2 ⟨_, h'.1⟩)] at h
    omega

/-- The pipeline's own waits, on its staging semaphores, whatever is owed. -/
theorem mayWait_stage (c : Dev nD) (q : DmaSem sig) (hq : q.val < 20) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨e, j, rfl⟩ | ⟨e, rfl⟩ <;> (rw [L_tc]; exact Finset.mem_singleton_self _))
      (fun p hp => by rw [Finset.mem_singleton.mp hp]; dsimp only [lv]; rw [if_neg (by omega)])
      (fun g u hg => by
        rcases O₀_pos hg with ⟨e, j, rfl⟩ | ⟨e, rfl⟩
        · rw [lv_recv]; omega
        · exact Nat.one_pos)
  · rw [MayWait_zero]; iintro -; iempintro

end Cert.KernelIdeal.Hand

end
-- ==== Proof.Steps.lean ====
/-
  One step of a body at a time, over what `At` and `Any` hold: a load, a store, a hop's transfer and its waits, and the cutting
  of a buffer into blocks and its joining back from them.
-/
module

public import proofs.«01_k».proof.Proof.Proto

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Holding a view, re-indexed -/

omit [FloatOps F] in
theorem At.intro {sp : Space} {s : Shape} {e : EltTy} (v : View sig .tc sp s e) (c : Dev nD) (q : PosShare TreeShare) (f : Buf (Elt F) (v.loc (c : Thread nD τ))) :
    (v.loc (c : Thread nD τ) ↦[v.set]{q} f : sProp 𝕄) ⊢ At v c q (v.read (Elt F) f) := by
  unfold At; iintro H; iexists f; isplitl [H]; · iexact H
  ipureintro; rfl

omit [FloatOps F] in
theorem Any.at {sp : Space} {s : Shape} {e : EltTy} (v : View sig .tc sp s e) (c : Dev nD) :
    (Any v c : sProp 𝕄) ⊢ iprop(∃ w, At v c fullShare w) := by
  unfold Any; iintro ⟨%f, H⟩; iexists _; iapply (At.intro v c fullShare f); iexact H

omit [FloatOps F] in
/-- A view re-indexed holds the same elements, re-indexed. -/
theorem At.reshape {sp : Space} {s s' : Shape} {e : EltTy} (v : View sig .tc sp s e) (h : s'.numel = s.numel) (c : Dev nD) (q : PosShare TreeShare)
    (w : s'.Idx → Elt F e) :
    (At (v.reshape s' h) c q w : sProp 𝕄) = At v c q (fun i => w ((Shape.reshapeEquiv h).symm i)) := by
  unfold At
  simp only [View.set_reshape]
  congr 1; funext f
  congr 2
  refine propext ⟨fun hf => ?_, fun hf => ?_⟩
  · funext i; rw [← hf]; show v.read (Elt F) f i = v.read (Elt F) f (Shape.reshapeEquiv h ((Shape.reshapeEquiv h).symm i))
    rw [Equiv.apply_symm_apply]
  · funext i
    show v.read (Elt F) f (Shape.reshapeEquiv h i) = w i
    rw [hf]; show w ((Shape.reshapeEquiv h).symm (Shape.reshapeEquiv h i)) = w i
    rw [Equiv.symm_apply_apply]

omit [FloatOps F] in
theorem Any.reshape {sp : Space} {s s' : Shape} {e : EltTy} (v : View sig .tc sp s e) (h : s'.numel = s.numel) (c : Dev nD) :
    (Any (v.reshape s' h) c : sProp 𝕄) = Any (F := F) v c := by
  unfold Any
  simp only [View.set_reshape]

/-! ## Loads and stores -/

section Ops
variable {α : Type} {Q : α → sProp (MT nD τ sig Unit (Elt F) ℕ UU ℕ)}
variable (c : Dev nD) {s : Shape} {e : EltTy} {m : Memref sig .tc .vmem s e}

/-- A load of a rectangle that is held, its offsets rewritten. -/
theorem ld {off off' size : Fin s.rank → ℕ} {inb : ∀ a, off a + size a ≤ s.size a} {inb' : ∀ a, off' a + size a ≤ s.size a} (h : off = off')
    {hl : m.view.LoadsAt (Rect.unit off size inb).toLoadRect} {k : ((Rect.unit off size inb).shape.Idx → Elt F e) → Prog (TpuEff nD τ sig (Elt F) Λ₀ .tc) α}
    {q : PosShare TreeShare} {w : (Rect.unit off' size inb').shape.Idx → Elt F e} :
    (At (m.view.slice (Rect.unit off' size inb')) c q w : sProp 𝕄)
      ⊢ iprop((At (m.view.slice (Rect.unit off' size inb')) c q w -∗ wp frame (wpE (defs₀ (F := F)) 𝒱₀ (c : Thread nD τ) none) Set.univ (k w) Q)
        -∗ wp frame (wpE (defs₀ (F := F)) 𝒱₀ (c : Thread nD τ) none) Set.univ (.op (.load m (Rect.unit off size inb).toLoadRect hl) k) Q) := by
  subst h
  unfold At
  iintro ⟨%f, H, %hf⟩ Hk
  subst hf
  iapply (wp_load_rect 𝒱₀ (c : Thread nD τ) none Set.univ (m := m) (r := Rect.unit off size inb) (Finset.Subset.refl _)) $$ H
  iintro H
  iapply Hk
  iexists f
  isplitl [H]; · iexact H
  ipureintro; rfl

/-- A load whose value is not used, of a rectangle at any contents. -/
theorem ldAny {off off' size : Fin s.rank → ℕ} {inb : ∀ a, off a + size a ≤ s.size a} {inb' : ∀ a, off' a + size a ≤ s.size a} (h : off = off')
    {hl : m.view.LoadsAt (Rect.unit off size inb).toLoadRect} {k : ((Rect.unit off size inb).shape.Idx → Elt F e) → Prog (TpuEff nD τ sig (Elt F) Λ₀ .tc) α} :
    (Any (m.view.slice (Rect.unit off' size inb')) c : sProp 𝕄)
      ⊢ iprop((∀ w, Any (m.view.slice (Rect.unit off' size inb')) c -∗ wp frame (wpE (defs₀ (F := F)) 𝒱₀ (c : Thread nD τ) none) Set.univ (k w) Q)
        -∗ wp frame (wpE (defs₀ (F := F)) 𝒱₀ (c : Thread nD τ) none) Set.univ (.op (.load m (Rect.unit off size inb).toLoadRect hl) k) Q) := by
  subst h
  iintro H Hk
  ihave ⟨%w, H⟩ := (Any.at _ _) $$ H
  iapply (ld c rfl (m := m)) $$ H
  iintro H
  iapply Hk
  iapply (At.any _ _ w)
  iexact H

/-- A store over a rectangle at any contents. -/
theorem stAny {off off' size : Fin s.rank → ℕ} {inb : ∀ a, off a + size a ≤ s.size a} {inb' : ∀ a, off' a + size a ≤ s.size a} (h : off = off')
    {w : (Rect.unit off size inb).shape.Idx → Elt F e} {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α} :
    (Any (m.view.slice (Rect.unit off' size inb')) c : sProp 𝕄)
      ⊢ iprop((At (m.view.slice (Rect.unit off' size inb')) c fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit off size inb) w Finset.univ hx hm) k) Q) := by
  subst h
  unfold Any At
  iintro ⟨%f, H⟩ Hk
  iapply (wp_store 𝒱₀ (c : Thread nD τ) none Set.univ (m := m) (r := Rect.unit off size inb) (Mk := Finset.univ) (f := f)
    (S := (m.view.slice (Rect.unit off size inb')).set) (Finset.Subset.refl _)) $$ H
  iintro H
  iapply Hk
  iexists _
  isplitl [H]; · iexact H
  ipureintro
  exact View.read_write_univ _ _

/-- A store over a rectangle that is held. -/
theorem st {off off' size : Fin s.rank → ℕ} {inb : ∀ a, off a + size a ≤ s.size a} {inb' : ∀ a, off' a + size a ≤ s.size a} (h : off = off')
    {w : (Rect.unit off size inb).shape.Idx → Elt F e} {hx : (m.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α} {w₀ : (Rect.unit off' size inb').shape.Idx → Elt F e} :
    (At (m.view.slice (Rect.unit off' size inb')) c fullShare w₀ : sProp 𝕄)
      ⊢ iprop((At (m.view.slice (Rect.unit off' size inb')) c fullShare w -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit off size inb) w Finset.univ hx hm) k) Q) :=
  (At.any _ _ _).trans (stAny c h)

/-! ## The hops -/

variable (PV : Dev nD → FVec F S256x1024 .f32) (K : Dev nD × Fin 25 → ℕ)

/-- Cell names: the barrier's, and hop `k`'s send and receive cells'. -/
abbrev iS (k : Fin 12) : Fin 25 := ⟨1 + k.val, by omega⟩
abbrev iR (k : Fin 12) : Fin 25 := ⟨13 + k.val, by omega⟩

/-- What hop `k`'s start needs of the protocol. -/
def Start (k : Fin 12) : sProp 𝕄 :=
  iprop(cellInv ER (sched PV) (K (c, iS k)) (sendCell c k) ∗ cellInv ER (sched PV) (K (tgt c k, iR k)) (recvCell (tgt c k) k)
    ∗ dutyTok ER (sendCell c k) 0 0 ∗ reached ER (sendCell c k) 0 ∗ dutyTok ER (recvCell (tgt c k) k) 0 0 ∗ reached ER (recvCell (tgt c k) k) 0)
/-- What its waits need. -/
def WaitS (k : Fin 12) : sProp 𝕄 :=
  iprop(cellInv ER (sched PV) (K (c, iS k)) (sendCell c k) ∗ atPos ER (sendCell c k) 0 (∅ : Finset (Fin 4)) 0)
def WaitR (k : Fin 12) : sProp 𝕄 :=
  iprop(cellInv ER (sched PV) (K (c, iR k)) (recvCell c k) ∗ atPos ER (recvCell c k) 0 (∅ : Finset (Fin 4)) 0 ∗ cred (tallyAt (recvCell c k) () (amt k.val)))

/-- A hop of a reduction starts: the rows read go to the receiver with the landing slot, and so does `Fr`. -/
theorem hop_land {sh : Shape} {src srcP dst dstP : Memref sig .tc .vmem sh .f32} {d : Dev nD} {sS rS : DmaSem sig} {hsc : dstP.view.ref.isScScratch = false}
    {hsrc : srcP.view.WordExact} {hdst : dstP.view.WordExact} {hsem : DmaTarget.Typed .vmem (.dma rS) (.remote (Dev.tc d) dstP (.dma sS) hsc)}
    {kk : PUnit → Prog (TpuEff nD τ sig (Elt F) Λ₀ .tc) α}
    (k : Fin 12) (hs : srcP = src) (ht : dstP = dst) (hd : d = tgt c k) (hsS : sS = sendS k) (hrS : rS = recvS k)
    {n : ℕ} (hO : oweN c (n + 1) = oweN c n + tallyAt (recvCell (tgt c k) k) () (amt k.val)) {W : Waits sig Unit} {w : sh.Idx → Elt F .f32} (Fr : sProp 𝕄)
    (hN : dst.view.dmaCredit = amt k.val) (hsend : (emp : sProp 𝕄) ⊢ sendPay PV c k.val)
    (hrecv : iprop(At dst.view (tgt c k) fullShare w ∗ (Any (F := F) src.view c ∗ Fr)) ⊢ recvPay PV (tgt c k) k.val) :
    (iprop(Start c PV K k ∗ At src.view c fullShare w ∗ Any (F := F) dst.view (tgt c k) ∗ Fr ∗ owes (c : Thread nD τ) (oweN c (n + 1)) W) : sProp 𝕄)
      ⊢ iprop((iprop(cred (tallyAt (sendCell c k) () (amt k.val)) ∗ owes (c : Thread nD τ) (oweN c n) W)
            -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma srcP (.remote (Dev.tc d) dstP (.dma sS) hsc) (.dma rS) hsrc hdst hsem) kk) Q) := by
  subst hs ht hd hsS hrS
  unfold Start
  iintro ⟨⟨Hi1, Hi2, Ht1, Hr1, Ht2, Hr2⟩, Hs, Hd, HF, HO⟩ Hk
  unfold At Any
  icases Hs with ⟨%fs, Hs, %hfs⟩
  icases Hd with ⟨%fd, Hd⟩
  iapply (Rounds.wp_send_landing_pointsTo_with 𝒱₀ ER (sched PV) (c : Thread nD τ) none (c' := (tgt c k : Thread nD τ)) (src := srcP) (dst := dstP)
      (sS := .dma (sendS k)) (sem := .dma (recvS k)) (F := Fr) (q := fullShare) (fs := fs) (fd := fd) (d₁ := 0) (d₂ := 0) (r₁ := 0) (r₂ := 0)
      (by rw [duties_send]; exact Finset.mem_singleton_self _) (by rw [duties_recv]; exact Finset.mem_singleton_self _)
      () () (amt k.val) hN (amount_send PV c k 0) (amount_recv PV (tgt c k) k 0) (oweN c n) rfl
      (by rw [payload_send]; exact hsend)
      (by
        rw [payload_recv]
        refine BIBase.Entails.trans ?_ hrecv
        unfold At Any
        iintro ⟨⟨Hd, HF⟩, Hs⟩
        isplitl [Hd]
        · iexists _
          isplitl [Hd]; · iexact Hd
          ipureintro; rw [View.read_write_univ, hfs]
        isplitl [Hs]; · iexists _; iexact Hs
        iexact HF)) $$ [Hi1 Hi2 Hs Hd HF HO Ht1 Hr1 Ht2 Hr2]
  · isplitl [Hi1]; · iexact Hi1
    isplitl [Hi2]; · iexact Hi2
    isplitl [Hs]; · iexact Hs
    isplitl [Hd HF]
    · isplitl [Hd]; · iexact Hd
      iexact HF
    isplitl [HO]; · rw [← hO]; iexact HO
    isplitl [Ht1]; · iexact Ht1
    isplitl [Hr1]; · iexact Hr1
    isplitl [Ht2]; · iexact Ht2
    iexact Hr2
  iexact Hk

/-- A hop of a gather starts: the rows read come back at the send cell. -/
theorem hop_keep {sh : Shape} {src srcP dst dstP : Memref sig .tc .vmem sh .f32} {d : Dev nD} {sS rS : DmaSem sig} {hsc : dstP.view.ref.isScScratch = false}
    {hsrc : srcP.view.WordExact} {hdst : dstP.view.WordExact} {hsem : DmaTarget.Typed .vmem (.dma rS) (.remote (Dev.tc d) dstP (.dma sS) hsc)}
    {kk : PUnit → Prog (TpuEff nD τ sig (Elt F) Λ₀ .tc) α}
    (k : Fin 12) (hs : srcP = src) (ht : dstP = dst) (hd : d = tgt c k) (hsS : sS = sendS k) (hrS : rS = recvS k)
    {n : ℕ} (hO : oweN c (n + 1) = oweN c n + tallyAt (recvCell (tgt c k) k) () (amt k.val)) {W : Waits sig Unit} {w : sh.Idx → Elt F .f32} (Fr : sProp 𝕄)
    (hN : dst.view.dmaCredit = amt k.val) (hsend : At src.view c fullShare w ⊢ sendPay PV c k.val)
    (hrecv : iprop(At dst.view (tgt c k) fullShare w ∗ Fr) ⊢ recvPay PV (tgt c k) k.val) :
    (iprop(Start c PV K k ∗ At src.view c fullShare w ∗ Any (F := F) dst.view (tgt c k) ∗ Fr ∗ owes (c : Thread nD τ) (oweN c (n + 1)) W) : sProp 𝕄)
      ⊢ iprop((iprop(cred (tallyAt (sendCell c k) () (amt k.val)) ∗ owes (c : Thread nD τ) (oweN c n) W)
            -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma srcP (.remote (Dev.tc d) dstP (.dma sS) hsc) (.dma rS) hsrc hdst hsem) kk) Q) := by
  subst hs ht hd hsS hrS
  unfold Start
  iintro ⟨⟨Hi1, Hi2, Ht1, Hr1, Ht2, Hr2⟩, Hs, Hd, HF, HO⟩ Hk
  unfold At Any
  icases Hs with ⟨%fs, Hs, %hfs⟩
  icases Hd with ⟨%fd, Hd⟩
  iapply (Rounds.wp_send_pointsTo_with 𝒱₀ ER (sched PV) (c : Thread nD τ) none (c' := (tgt c k : Thread nD τ)) (src := srcP) (dst := dstP)
      (sS := .dma (sendS k)) (sem := .dma (recvS k)) (F := Fr) (q := fullShare) (fs := fs) (fd := fd) (d₁ := 0) (d₂ := 0) (r₁ := 0) (r₂ := 0)
      (by rw [duties_send]; exact Finset.mem_singleton_self _) (by rw [duties_recv]; exact Finset.mem_singleton_self _)
      () () (amt k.val) hN (amount_send PV c k 0) (amount_recv PV (tgt c k) k 0) (oweN c n) rfl
      (by
        rw [payload_send]
        refine BIBase.Entails.trans ?_ hsend
        unfold At
        iintro Hs
        iexists _
        isplitl [Hs]; · iexact Hs
        ipureintro; exact hfs)
      (by
        rw [payload_recv]
        refine BIBase.Entails.trans ?_ hrecv
        unfold At
        iintro ⟨Hd, HF⟩
        isplitl [Hd]
        · iexists _
          isplitl [Hd]; · iexact Hd
          ipureintro; rw [View.read_write_univ, hfs]
        iexact HF)) $$ [Hi1 Hi2 Hs Hd HF HO Ht1 Hr1 Ht2 Hr2]
  · isplitl [Hi1]; · iexact Hi1
    isplitl [Hi2]; · iexact Hi2
    isplitl [Hs]; · iexact Hs
    isplitl [Hd HF]
    · isplitl [Hd]; · iexact Hd
      iexact HF
    isplitl [HO]; · rw [← hO]; iexact HO
    isplitl [Ht1]; · iexact Ht1
    isplitl [Hr1]; · iexact Hr1
    isplitl [Ht2]; · iexact Ht2
    iexact Hr2
  iexact Hk

/-- The wait on hop `k`'s send cell. -/
theorem wait_send {sh sh' : Shape} {e' : EltTy} {sp' sp : Space} {srcw : Memref sig .tc sp' sh' e'} {dstw dst : Memref sig .tc sp sh e} {sS : DmaSem sig} {hsrc : srcw.view.WordExact} {hdst : dstw.view.WordExact}
    {kk : PUnit → Prog (TpuEff nD τ sig (Elt F) Λ₀ .tc) α} (k : Fin 12) (ht : dstw = dst) (hsS : sS = sendS k) (hN : dst.view.dmaCredit = amt k.val)
    {n : ℕ} (hn : n ≤ 12) {W : Waits sig Unit} :
    (iprop(WaitS c PV K k ∗ cred (tallyAt (sendCell c k) () (amt k.val)) ∗ owes (c : Thread nD τ) (oweN c n) W ∗ levAts L lv) : sProp 𝕄)
      ⊢ iprop((iprop(∃ W', sendPay PV c k.val ∗ semVal (sendCell c k) 0 ∗ owes (c : Thread nD τ) (oweN c n) W')
            -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sS srcw dstw hsrc hdst) kk) Q) := by
  subst ht hsS
  unfold WaitS
  iintro ⟨⟨#Hi, Ha⟩, Hc, HO, Hlv⟩ Hk
  iapply (Rounds.wp_wait_rest_token 𝒱₀ ER (sched PV) (c : Thread nD τ) none (κ := K (c, iS k))
      (wpE_waitDma2_eq 𝒱₀ (c : Thread nD τ) none Set.univ) (Set.mem_univ _) () (O := oweN c n) (W := W) (R := 0) (m := 0) (T := ∅)
      (by rw [Nat.zero_add, expect_send]; exact hN)) $$ [Hc HO Ha Hlv]
  · isplitr; · iexact Hi
    isplitl [Hc]; · rw [hN]; iexact Hc
    isplitl [HO]; · iexact HO
    isplitl [Hlv]; · iapply (mayWait_oweN c n hn _ (by show lv (sendCell c k) () < _; dsimp only [lv]; rw [if_neg (by omega)]; omega)); iexact Hlv
    iexact Ha
  iintro ⟨HO, Ha, -, Hp⟩
  ihave Hp := (Entails.of_eq (rest_send PV c k)) $$ Hp
  imod (Rounds.cell_close ER (sched PV) (Set.mem_univ (K (c, iS k))) (fun h => h) (R := 0 + 1) (duties_later PV (sendCell c k))) $$ [Ha] with Hz
  · isplitr; · iexact Hi
    iexact Ha
  iapply Hk
  iexists _
  isplitl [Hp]; · iexact Hp
  isplitl [Hz]; · iexact Hz
  iexact HO

/-- The wait on hop `k`'s receive cell. -/
theorem wait_recv {sh sh' : Shape} {e' : EltTy} {sp' sp : Space} {srcw : Memref sig .tc sp' sh' e'} {dstw dst : Memref sig .tc sp sh e} {rS : DmaSem sig} {hsrc : srcw.view.WordExact} {hdst : dstw.view.WordExact}
    {kk : PUnit → Prog (TpuEff nD τ sig (Elt F) Λ₀ .tc) α} (k : Fin 12) (ht : dstw = dst) (hrS : rS = recvS k) (hN : dst.view.dmaCredit = amt k.val)
    {n : ℕ} (hn : n + k.val < 12) {W : Waits sig Unit} :
    (iprop(WaitR c PV K k ∗ owes (c : Thread nD τ) (oweN c n) W ∗ levAts L lv) : sProp 𝕄)
      ⊢ iprop((iprop(∃ W', recvPay PV c k.val ∗ semVal (recvCell c k) 0 ∗ owes (c : Thread nD τ) (oweN c n) W')
            -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 rS srcw dstw hsrc hdst) kk) Q) := by
  subst ht hrS
  unfold WaitR
  iintro ⟨⟨#Hi, Ha, Hc⟩, HO, Hlv⟩ Hk
  iapply (Rounds.wp_wait_rest_token 𝒱₀ ER (sched PV) (c : Thread nD τ) none (κ := K (c, iR k))
      (wpE_waitDma2_eq 𝒱₀ (c : Thread nD τ) none Set.univ) (Set.mem_univ _) () (O := oweN c n) (W := W) (R := 0) (m := 0) (T := ∅)
      (by rw [Nat.zero_add, expect_recv]; exact hN)) $$ [Hc HO Ha Hlv]
  · isplitr; · iexact Hi
    isplitl [Hc]; · rw [hN]; iexact Hc
    isplitl [HO]; · iexact HO
    isplitl [Hlv]; · iapply (mayWait_oweN c n (by omega) _ (by show lv (recvCell c k) () < _; rw [lv_recv]; omega)); iexact Hlv
    iexact Ha
  iintro ⟨HO, Ha, -, Hp⟩
  ihave Hp := (Entails.of_eq (rest_recv PV c k)) $$ Hp
  imod (Rounds.cell_close ER (sched PV) (Set.mem_univ (K (c, iR k))) (fun h => h) (R := 0 + 1) (duties_later PV (recvCell c k))) $$ [Ha] with Hz
  · isplitr; · iexact Hi
    iexact Ha
  iapply Hk
  iexists _
  isplitl [Hp]; · iexact Hp
  isplitl [Hz]; · iexact Hz
  iexact HO

end Ops

end Cert.KernelIdeal.Hand

end
-- ==== Proof.Blocks.lean ====
/-
  A buffer cut into blocks, and joined back from them: the accumulator's chunks and sub-blocks, the landing slots, the staged
  heads, the panels of the context.
-/
module

public import proofs.«01_k».proof.Proof.Proto

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Blocks of a whole buffer -/

omit [FloatOps F] in
/-- What a view holds is what is written through it over anything. -/
theorem At.pts {sp : Space} {s : Shape} {e : EltTy} (v : View sig .tc sp s e) (c : Dev nD) (q : PosShare TreeShare) (w : s.Idx → Elt F e)
    (d : Buf (Elt F) (v.loc (c : Thread nD τ))) :
    (At v c q w : sProp 𝕄) ⊢ v.loc (c : Thread nD τ) ↦[v.set]{q} (v.write (Elt F) d w Finset.univ) := by
  unfold At
  iintro ⟨%f, H, %hf⟩
  iapply (Entails.of_eq (pointsTo_congr (f := f) (g := v.write (Elt F) d w Finset.univ) (fun i hi => by
    obtain ⟨x, -, rfl⟩ := Finset.mem_map.mp hi
    rw [View.write_emb_of_mem d w (Finset.mem_univ x), ← hf, View.read_apply, cast_cast, cast_eq])))
  iexact H

section Blocks
variable {B : Type} [Fintype B] [DecidableEq B] (b : Ref sig .tc) (c : Dev nD)
variable (r0 : Rect b.ty.shape) (r : B → Rect b.ty.shape) (g : ∀ t, (r t).shape.Idx → r0.shape.Idx)

omit [FloatOps F] in
/-- A block held is held as the blocks it is made of. -/
theorem At.split (hd : ∀ t t', t ≠ t' → Disjoint (r t).set (r t').set) (hc : Finset.univ.biUnion (fun t => (r t).set) = r0.set)
    (hg : ∀ t i, (r t).emb i = r0.emb (g t i)) (q : PosShare TreeShare) (w : r0.shape.Idx → Elt F b.ty.elt) :
    (At ((Memref.whole b).view.slice r0) c q w : sProp 𝕄)
      ⊢ bigSep Finset.univ fun t => At ((Memref.whole b).view.slice (r t)) c q (fun i => w (g t i)) := by
  unfold At
  iintro ⟨%f, H, %hf⟩
  rw [show (bigSep Finset.univ fun t => iprop(∃ f : Buf (Elt F) (((Memref.whole b).view.slice (r t)).loc (c : Thread nD τ)), (((Memref.whole b).view.slice (r t)).loc (c : Thread nD τ) ↦[((Memref.whole b).view.slice (r t)).set]{q} f)
    ∗ ⌜((Memref.whole b).view.slice (r t)).read (Elt F) f = fun i => w (g t i)⌝) : sProp 𝕄) = bigSep Finset.univ fun t => At ((Memref.whole b).view.slice (r t)) c q (fun i => w (g t i)) from rfl]
  have e0 : ((Memref.whole b).view.slice r0).set = Finset.univ.biUnion (fun t => (r t).set) := (View.set_slice_whole b r0).trans hc.symm
  have e1 := pointsTo_biUnion (ℓ := ((Memref.whole b).view.slice r0).loc (c : Thread nD τ)) (Ix := Unit) (Name := ℕ) (U := UU) (Lvl := ℕ) (Val := Elt F) (q := q) (f := f)
    Finset.univ (fun t => (r t).set) (fun t _ t' _ h => hd t t' h)
  ihave H := (Entails.of_eq ((congrArg (fun I => (((Memref.whole b).view.slice r0).loc (c : Thread nD τ) ↦[I]{q} f : sProp 𝕄)) e0).trans e1)) $$ H
  have step : ∀ t, (((Memref.whole b).view.slice r0).loc (c : Thread nD τ) ↦[(r t).set]{q} f : sProp 𝕄) ⊢ At ((Memref.whole b).view.slice (r t)) c q (fun i => w (g t i)) := fun t => by
    unfold At
    rw [View.set_slice_whole b (r t)]
    iintro H
    iexists f
    isplitl [H]; · iexact H
    ipureintro
    funext i
    rw [← hf]
    show _root_.cast _ (f ((r t).emb i)) = _root_.cast _ (f (r0.emb (g t i)))
    rw [hg]
  iapply (show (bigSep Finset.univ fun t => (((Memref.whole b).view.slice r0).loc (c : Thread nD τ) ↦[(r t).set]{q} f : sProp 𝕄))
    ⊢ bigSep Finset.univ fun t => At ((Memref.whole b).view.slice (r t)) c q (fun i => w (g t i)) from Idealize.SL.BI.bigSep_mono fun t _ => step t)
  iexact H

omit [FloatOps F] in
/-- Blocks held together are the block they make up. -/
theorem At.join (hd : ∀ t t', t ≠ t' → Disjoint (r t).set (r t').set) (hc : Finset.univ.biUnion (fun t => (r t).set) = r0.set)
    (hg : ∀ t i, (r t).emb i = r0.emb (g t i)) (f₀ : ∀ t, (r t).shape.Idx → Elt F b.ty.elt) (w : r0.shape.Idx → Elt F b.ty.elt) (hw : ∀ t i, w (g t i) = f₀ t i)
    (d : Buf (Elt F) (((Memref.whole b).view.slice r0).loc (c : Thread nD τ))) :
    (bigSep Finset.univ fun t => At ((Memref.whole b).view.slice (r t)) c fullShare (f₀ t) : sProp 𝕄)
      ⊢ At ((Memref.whole b).view.slice r0) c fullShare w := by
  refine BIBase.Entails.trans (Idealize.SL.BI.bigSep_mono fun t _ => At.pts ((Memref.whole b).view.slice (r t)) c fullShare (f₀ t) d) ?_
  rw [Idealize.SL.BI.bigSep_congr (fun t _ => congrArg (fun I => (((Memref.whole b).view.slice r0).loc (c : Thread nD τ) ↦[I]{fullShare}
    (((Memref.whole b).view.slice (r t)).write (Elt F) d (f₀ t) Finset.univ) : sProp 𝕄)) (View.set_slice_whole b (r t)))]
  iintro H
  ihave ⟨%h, %hh, H⟩ := (pointsTo_biUnion_join (ℓ := ((Memref.whole b).view.slice r0).loc (c : Thread nD τ)) (Ix := Unit) (Name := ℕ) (U := UU) (Lvl := ℕ) (Val := Elt F) (q := fullShare)
    Finset.univ (fun t => (r t).set) (fun t => ((Memref.whole b).view.slice (r t)).write (Elt F) d (f₀ t) Finset.univ) d (fun t _ t' _ h => hd t t' h)) $$ H
  unfold At
  iexists h
  rw [hc, ← View.set_slice_whole b r0]
  isplitl [H]; · iexact H
  ipureintro
  funext x
  have hx : r0.emb x ∈ Finset.univ.biUnion (fun t => (r t).set) := by rw [hc]; exact r0.idx_mem x
  obtain ⟨t, -, ht⟩ := Finset.mem_biUnion.mp hx
  obtain ⟨i, hi⟩ := (r t).exists_idx_of_mem ht
  have hxi : x = g t i := r0.emb.injective ((show r0.emb x = (r t).emb i from hi.symm).trans (hg t i))
  subst hxi
  rw [hw]
  refine Eq.trans ?_ (congrFun (View.read_write_univ (v := (Memref.whole b).view.slice (r t)) d (f₀ t)) i)
  show _root_.cast _ (h (r0.emb (g t i))) = _root_.cast _ ((((Memref.whole b).view.slice (r t)).write (Elt F) d (f₀ t) Finset.univ) ((r t).emb i))
  rw [← hg t i]
  exact congrArg _ (hh t (Finset.mem_univ t) _ ((r t).idx_mem i))

omit [FloatOps F] in
theorem Any.split (hd : ∀ t t', t ≠ t' → Disjoint (r t).set (r t').set) (hc : Finset.univ.biUnion (fun t => (r t).set) = r0.set) :
    (Any ((Memref.whole b).view.slice r0) c : sProp 𝕄) ⊢ bigSep Finset.univ fun t => Any (F := F) ((Memref.whole b).view.slice (r t)) c := by
  unfold Any
  iintro ⟨%f, H⟩
  have e0 : ((Memref.whole b).view.slice r0).set = Finset.univ.biUnion (fun t => (r t).set) := (View.set_slice_whole b r0).trans hc.symm
  have e1 := pointsTo_biUnion (ℓ := ((Memref.whole b).view.slice r0).loc (c : Thread nD τ)) (Ix := Unit) (Name := ℕ) (U := UU) (Lvl := ℕ) (Val := Elt F) (q := fullShare) (f := f)
    Finset.univ (fun t => (r t).set) (fun t _ t' _ h => hd t t' h)
  ihave H := (Entails.of_eq ((congrArg (fun I => (((Memref.whole b).view.slice r0).loc (c : Thread nD τ) ↦[I]{fullShare} f : sProp 𝕄)) e0).trans e1)) $$ H
  have step : ∀ t, (((Memref.whole b).view.slice r0).loc (c : Thread nD τ) ↦[(r t).set]{fullShare} f : sProp 𝕄) ⊢ Any (F := F) ((Memref.whole b).view.slice (r t)) c := fun t => by
    unfold Any
    rw [View.set_slice_whole b (r t)]
    iintro H
    iexists f
    iexact H
  iapply (show (bigSep Finset.univ fun t => (((Memref.whole b).view.slice r0).loc (c : Thread nD τ) ↦[(r t).set]{fullShare} f : sProp 𝕄))
    ⊢ bigSep Finset.univ fun t => Any (F := F) ((Memref.whole b).view.slice (r t)) c from Idealize.SL.BI.bigSep_mono fun t _ => step t)
  iexact H

omit [FloatOps F] in
theorem Any.join (hd : ∀ t t', t ≠ t' → Disjoint (r t).set (r t').set) (hc : Finset.univ.biUnion (fun t => (r t).set) = r0.set)
    (d : Buf (Elt F) (((Memref.whole b).view.slice r0).loc (c : Thread nD τ))) :
    (bigSep Finset.univ fun t => Any (F := F) ((Memref.whole b).view.slice (r t)) c : sProp 𝕄) ⊢ Any ((Memref.whole b).view.slice r0) c := by
  have step : ∀ t, (Any (F := F) ((Memref.whole b).view.slice (r t)) c : sProp 𝕄)
      ⊢ iprop(∃ f : Buf (Elt F) (((Memref.whole b).view.slice r0).loc (c : Thread nD τ)), ((Memref.whole b).view.slice r0).loc (c : Thread nD τ) ↦[(r t).set]{fullShare} f) := fun t => by
    unfold Any
    rw [View.set_slice_whole b (r t)]
  refine BIBase.Entails.trans (Idealize.SL.BI.bigSep_mono fun t _ => step t) ?_
  refine BIBase.Entails.trans (Idealize.ShloMosaic.Ring.pointsTo_sub_blocks_join_exists (ℓ := ((Memref.whole b).view.slice r0).loc (c : Thread nD τ)) (fun t => (r t).set) (fun t t' h => hd t t' h) r0.set hc d) ?_
  unfold Any
  rw [View.set_slice_whole b r0]

end Blocks

/-! ## Row blocks of the accumulator -/

theorem rows_disjoint {n o o' : ℕ} {i : ∀ a, (![o, 0] : Fin 2 → ℕ) a + (![n, 1024] : Fin 2 → ℕ) a ≤ S256x1024.size a}
    {i' : ∀ a, (![o', 0] : Fin 2 → ℕ) a + (![n, 1024] : Fin 2 → ℕ) a ≤ S256x1024.size a} (h : o + n ≤ o' ∨ o' + n ≤ o) :
    Disjoint (Rect.unit (s := S256x1024) ![o, 0] ![n, 1024] i).set (Rect.unit (s := S256x1024) ![o', 0] ![n, 1024] i').set := by
  rw [Finset.disjoint_left]
  intro x hx hx'
  have h1 := (Rect.mem_set_unit.mp hx) 0
  have h2 := (Rect.mem_set_unit.mp hx') 0
  simp only [Matrix.cons_val_zero] at h1 h2
  omega

/-- Four row blocks one below the other make up a block four times as high. -/
theorem rows_cover {n m a0 : ℕ} {o : Fin 4 → ℕ} (hm : m = 4 * n) (ho : ∀ t, o t = a0 + n * t.val)
    {i0 : ∀ a, (![a0, 0] : Fin 2 → ℕ) a + (![m, 1024] : Fin 2 → ℕ) a ≤ S256x1024.size a}
    {i : ∀ t, ∀ a, (![o t, 0] : Fin 2 → ℕ) a + (![n, 1024] : Fin 2 → ℕ) a ≤ S256x1024.size a} :
    Finset.univ.biUnion (fun t => (Rect.unit (s := S256x1024) ![o t, 0] ![n, 1024] (i t)).set) = (Rect.unit (s := S256x1024) ![a0, 0] ![m, 1024] i0).set := by
  ext x
  rw [Finset.mem_biUnion, Rect.mem_set_unit]
  constructor
  · rintro ⟨t, -, ht⟩ a
    have h := (Rect.mem_set_unit.mp ht) a
    have ho' := ho t
    have hl := Nat.mul_le_mul_left n (show t.val ≤ 3 by omega)
    fin_cases a
    · simp only [Matrix.cons_val_zero, Fin.zero_eta] at h ⊢
      omega
    · exact h
  · intro h
    have h0 := h 0
    simp only [Matrix.cons_val_zero] at h0
    have hn : 0 < n := by by_contra hn; omega
    refine ⟨⟨((x 0).val - a0) / n, by rw [Nat.div_lt_iff_lt_mul hn]; omega⟩, Finset.mem_univ _, Rect.mem_set_unit.mpr fun a => ?_⟩
    fin_cases a
    · simp only [Matrix.cons_val_zero, Fin.zero_eta, ho]
      have := Nat.div_add_mod ((x 0).val - a0) n
      have := Nat.mod_lt ((x 0).val - a0) hn
      omega
    · exact h 1

/-- The accumulator as one block: how the kernel loads and stores it whole. -/
abbrev accW : View sig .tc .vmem S256x1024 .f32 :=
  accM.view.slice (Rect.unit (s := S256x1024) ![0, 0] S256x1024.size inb_S256x1024_S256x1024_0_0)
/-- Sub-block `t` of chunk `q`. -/
abbrev su (q t : Fin 4) : Fin 16 := ⟨4 * q.val + t.val, by omega⟩

theorem ch_disjoint : ∀ t t' : Fin 4, t ≠ t' → Disjoint (Rect.unit (s := S256x1024) ![64 * t.val, 0] S64x1024.size (inb_ch t)).set (Rect.unit (s := S256x1024) ![64 * t'.val, 0] S64x1024.size (inb_ch t')).set :=
  fun t t' h => rows_disjoint (by have : t.val ≠ t'.val := fun e => h (Fin.ext e); omega)
theorem sb_disjoint (q : Fin 4) : ∀ t t' : Fin 4, t ≠ t' → Disjoint (Rect.unit (s := S256x1024) ![16 * (su q t).val, 0] S16x1024.size (inb_sb (su q t))).set (Rect.unit (s := S256x1024) ![16 * (su q t').val, 0] S16x1024.size (inb_sb (su q t'))).set :=
  fun t t' h => rows_disjoint (by have : t.val ≠ t'.val := fun e => h (Fin.ext e); show 16 * (4 * q.val + t.val) + 16 ≤ 16 * (4 * q.val + t'.val) ∨ 16 * (4 * q.val + t'.val) + 16 ≤ 16 * (4 * q.val + t.val); omega)
theorem ch_cover : Finset.univ.biUnion (fun t : Fin 4 => (Rect.unit (s := S256x1024) ![64 * t.val, 0] S64x1024.size (inb_ch t)).set)
    = (Rect.unit (s := S256x1024) ![0, 0] S256x1024.size inb_S256x1024_S256x1024_0_0).set := rows_cover (by rfl) (fun t => (Nat.zero_add _).symm)
theorem sb_cover (q : Fin 4) : Finset.univ.biUnion (fun t : Fin 4 => (Rect.unit (s := S256x1024) ![16 * (su q t).val, 0] S16x1024.size (inb_sb (su q t))).set)
    = (Rect.unit (s := S256x1024) ![64 * q.val, 0] S64x1024.size (inb_ch q)).set := rows_cover (by rfl) (fun t => by show 16 * (4 * q.val + t.val) = _; omega)

abbrev rA : Rect S256x1024 := Rect.unit (s := S256x1024) ![0, 0] S256x1024.size inb_S256x1024_S256x1024_0_0
abbrev rC (q : Fin 4) : Rect S256x1024 := Rect.unit (s := S256x1024) ![64 * q.val, 0] S64x1024.size (inb_ch q)
abbrev rS (q t : Fin 4) : Rect S256x1024 := Rect.unit (s := S256x1024) ![16 * (su q t).val, 0] S16x1024.size (inb_sb (su q t))

/-- Where an index of a chunk, and of a sub-block, lies in the array and in the chunk. -/
def inAcc (q : Fin 4) (i : S64x1024.Idx) : S256x1024.Idx := ix2 (⟨64 * q.val + (i 0).val, by have h := (i 0).isLt; have : (i 0).val < 64 := h; omega⟩ : Fin 256) (i 1 : Fin 1024)
def inCh (t : Fin 4) (i : S16x1024.Idx) : S64x1024.Idx := ix2 (⟨16 * t.val + (i 0).val, by have h := (i 0).isLt; have : (i 0).val < 16 := h; omega⟩ : Fin 64) (i 1 : Fin 1024)

theorem inAcc_emb (q : Fin 4) (i : S64x1024.Idx) : (Rect.unit (s := S256x1024) ![64 * q.val, 0] S64x1024.size (inb_ch q)).emb i
    = (Rect.unit (s := S256x1024) ![0, 0] S256x1024.size inb_S256x1024_S256x1024_0_0).emb (inAcc q i) := by
  funext a; fin_cases a <;> apply Fin.ext
  · show 64 * q.val + 1 * (i 0).val = 0 + 1 * (64 * q.val + (i 0).val); omega
  · show 0 + 1 * (i 1).val = 0 + 1 * (i 1).val; rfl
theorem inCh_emb (q t : Fin 4) (i : S16x1024.Idx) : (Rect.unit (s := S256x1024) ![16 * (su q t).val, 0] S16x1024.size (inb_sb (su q t))).emb i
    = (Rect.unit (s := S256x1024) ![64 * q.val, 0] S64x1024.size (inb_ch q)).emb (inCh t i) := by
  funext a; fin_cases a <;> apply Fin.ext
  · show 16 * (4 * q.val + t.val) + 1 * (i 0).val = 64 * q.val + 1 * (16 * t.val + (i 0).val); omega
  · show 0 + 1 * (i 1).val = 0 + 1 * (i 1).val; rfl

omit [FloatOps F] in
theorem acc_split (c : Dev nD) (w : FVec F S256x1024 .f32) :
    (At accW c fullShare w : sProp 𝕄) ⊢ bigSep Finset.univ fun q : Fin 4 => At (ch q).view c fullShare (rows64 q w) := by
  refine BIBase.Entails.trans (At.split cc0_scratch1 c rA rC (fun q i => inAcc q i) ch_disjoint ch_cover inAcc_emb fullShare w) (Entails.of_eq (Idealize.SL.BI.bigSep_congr fun q _ => ?_))
  congr 1; funext i
  show w (inAcc q i) = w ((Rect.unit (s := S256x1024) ![64 * q.val, 0] S64x1024.size (inb_ch q)).emb i)
  congr 1; funext a; fin_cases a <;> apply Fin.ext
  · show 64 * q.val + (i 0).val = 64 * q.val + 1 * (i 0).val; omega
  · show (i 1).val = 0 + 1 * (i 1).val; omega

omit [FloatOps F] in
theorem acc_join (c : Dev nD) (f : ℕ → FVec F S64x1024 .f32) (d : Buf (Elt F) (accW.loc (c : Thread nD τ))) :
    (bigSep Finset.univ fun q : Fin 4 => At (ch q).view c fullShare (f q.val) : sProp 𝕄) ⊢ At accW c fullShare (cat64 f) :=
  At.join cc0_scratch1 c rA rC (fun q i => inAcc q i) ch_disjoint ch_cover inAcc_emb (fun q => f q.val) (cat64 f) (fun q i => by
    have h : (i 0).val < 64 := (i 0).isLt
    show f ((64 * q.val + (i 0).val) / 64) (ix2 (⟨(64 * q.val + (i 0).val) % 64, _⟩ : Fin 64) (i 1 : Fin 1024)) = f q.val i
    rw [show (64 * q.val + (i 0).val) / 64 = q.val by omega]
    congr 1; funext a; fin_cases a
    · apply Fin.ext; show (64 * q.val + (i 0).val) % 64 = (i 0).val; omega
    · rfl) d

omit [FloatOps F] in
theorem ch_split (c : Dev nD) (q : Fin 4) (w : FVec F S64x1024 .f32) :
    (At (ch q).view c fullShare w : sProp 𝕄) ⊢ bigSep Finset.univ fun t : Fin 4 => At (sb (su q t)).view c fullShare (sub16 t.val w) := by
  refine BIBase.Entails.trans (At.split cc0_scratch1 c (rC q) (rS q) (fun t i => inCh t i) (sb_disjoint q) (sb_cover q) (inCh_emb q) fullShare w) (Entails.of_eq (Idealize.SL.BI.bigSep_congr fun t _ => ?_))
  congr 1; funext i
  have h : (i 0).val < 16 := (i 0).isLt
  show w (ix2 (⟨16 * t.val + (i 0).val, _⟩ : Fin 64) (i 1 : Fin 1024)) = w (ix2 (⟨(16 * t.val + (i 0).val) % 64, _⟩ : Fin 64) (i 1 : Fin 1024))
  congr 2; apply Fin.ext; show 16 * t.val + (i 0).val = (16 * t.val + (i 0).val) % 64; omega

omit [FloatOps F] in
theorem ch_join (c : Dev nD) (q : Fin 4) (f : ℕ → FVec F S16x1024 .f32) (d : Buf (Elt F) (accW.loc (c : Thread nD τ))) :
    (bigSep Finset.univ fun t : Fin 4 => At (sb (su q t)).view c fullShare (f t.val) : sProp 𝕄) ⊢ At (ch q).view c fullShare (cat16 f) :=
  At.join cc0_scratch1 c (rC q) (rS q) (fun t i => inCh t i) (sb_disjoint q) (sb_cover q) (inCh_emb q) (fun t => f t.val) (cat16 f) (fun t i => by
    have h : (i 0).val < 16 := (i 0).isLt
    show f ((16 * t.val + (i 0).val) / 16) (ix2 (⟨(16 * t.val + (i 0).val) % 16, _⟩ : Fin 16) (i 1 : Fin 1024)) = f t.val i
    rw [show (16 * t.val + (i 0).val) / 16 = t.val by omega]
    congr 1; funext a; fin_cases a
    · apply Fin.ext; show (16 * t.val + (i 0).val) % 16 = (i 0).val; omega
    · rfl) d

end Cert.KernelIdeal.Hand

end
-- ==== Proof.Copy.lean ====
/-
  Copies within a device, over what `At` and `Any` hold; and the blocks they move: a head of the keys or values, a landing
  slot, a panel of columns.
-/
module

public import proofs.«01_k».proof.Proof.Steps
public import proofs.«01_k».proof.Proof.Blocks

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A copy in flight -/

section Copy
variable {α : Type}
variable {Q : α → sProp (MT nD τ sig Unit (Elt F) ℕ UU ℕ)}
variable (c : Dev nD)

/-- A copy of `w` from `src` to `dst` in flight on the semaphore `sm`: its wait hands both back. -/
def Fly (sm : DmaSem sig) {sp sp' : Space} {s : Shape} {e : EltTy} (src : View sig .tc sp s e) (dst : View sig .tc sp' s e) (q : PosShare TreeShare) (w : s.Idx → Elt F e) : sProp 𝕄 :=
  iprop(∃ (fs : Buf (Elt F) (src.loc (c : Thread nD τ))) (fd : Buf (Elt F) (dst.loc (c : Thread nD τ))),
    Transfers.Flight EC (c : Thread nD τ) (.dma sm) () dst.dmaCredit iprop((dst.loc (c : Thread nD τ) ↦[dst.set]{fullShare} (dst.write (Elt F) fd (src.read (Elt F) fs) Finset.univ))
      ∗ (src.loc (c : Thread nD τ) ↦[src.set]{q} fs)) ∗ ⌜src.read (Elt F) fs = w⌝)

theorem copy_start {sp sp' : Space} {s : Shape} {e : EltTy} {src : Memref sig .tc sp s e} {dst : Memref sig .tc sp' s e} {sm : DmaSem sig}
    {hsrc : src.view.WordExact} {hdst : dst.view.WordExact} {hsem : DmaTarget.Typed sp (.dma sm) (.here dst : DmaTarget nD τ sig .tc sp' s e)}
    {kk : PUnit → Prog (TpuEff nD τ sig (Elt F) Λ₀ .tc) α} (hN : 0 < dst.view.dmaCredit) {q : PosShare TreeShare} {w : s.Idx → Elt F e} :
    (iprop(At src.view c q w ∗ Any (F := F) dst.view c ∗ semVal ((c : Thread nD τ), .dma sm) 0) : sProp 𝕄)
      ⊢ iprop((Fly c sm src.view dst.view q w -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma src (.here dst) (.dma sm) hsrc hdst hsem) kk) Q) := by
  unfold At Any Fly
  iintro ⟨⟨%fs, Hs, %hfs⟩, ⟨%fd, Hd⟩, Hv⟩ Hk
  iapply (Transfers.wp_dmaLocal EC 𝒱₀ (c : Thread nD τ) none (src := src) (dst := dst) (q := q) (fs := fs) (fd := fd) () dst.view.dmaCredit rfl hN (Finset.Subset.refl _)) $$ [Hs Hd Hv]
  · isplitl [Hs]; · iexact Hs
    isplitl [Hd]; · iexact Hd
    iexact Hv
  iintro HF
  iapply Hk
  iexists fs; iexists fd
  isplitl [HF]; · iexact HF
  ipureintro; exact hfs

theorem copy_wait {sp sp' sp'' : Space} {s : Shape} {e : EltTy} {s' : Shape} {e' : EltTy} {src : View sig .tc sp s e} {srcw : Memref sig .tc sp'' s' e'} {dst : Memref sig .tc sp' s e} {sm : DmaSem sig}
    {hsrc : srcw.view.WordExact} {hdst : dst.view.WordExact}
    {kk : PUnit → Prog (TpuEff nD τ sig (Elt F) Λ₀ .tc) α} (hs : sm.val < 20) {q : PosShare TreeShare} {w : s.Idx → Elt F e} {W : Waits sig Unit} :
    (iprop(Fly c sm src dst.view q w ∗ owes (c : Thread nD τ) (oweN c 12) W ∗ levAts L lv) : sProp 𝕄)
      ⊢ iprop((iprop(∃ W', At dst.view c fullShare w ∗ At src c q w ∗ semVal ((c : Thread nD τ), .dma sm) 0 ∗ owes (c : Thread nD τ) (oweN c 12) W')
            -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm srcw dst hsrc hdst) kk) Q) := by
  unfold Fly
  iintro ⟨⟨%fs, %fd, HF, %hfs⟩, HO, Hlev⟩ Hk
  ihave Hm := (mayWait_oweN c 12 (Nat.le_refl _) (.dma sm) (by dsimp only [lv]; rw [if_neg (by omega)]; decide)) $$ Hlev
  iapply (Transfers.wp_waitLocalO EC 𝒱₀ (c : Thread nD τ) none (dstw := dst) (srcw := srcw) () rfl) $$ [HF HO Hm]
  · isplitl [HF]; · iexact HF
    isplitl [HO]; · iexact HO
    iexact Hm
  iintro ⟨⟨Hd, Hs⟩, Hv, HO⟩
  iapply Hk
  iexists _
  isplitl [Hd]
  · unfold At; iexists _; isplitl [Hd]; · iexact Hd
    ipureintro; rw [View.read_write_univ, hfs]
  isplitl [Hs]
  · unfold At; iexists fs; isplitl [Hs]; · iexact Hs
    ipureintro; exact hfs
  isplitl [Hv]; · iexact Hv
  iexact HO

end Copy

/-! ## Lending a block of a buffer -/

omit [FloatOps F] in
/-- A block of what is held, lent. -/
theorem At.lend {sp : Space} {s : Shape} {e : EltTy} (v : View sig .tc sp s e) (r : Rect s) (c : Dev nD) (q : PosShare TreeShare) (w : s.Idx → Elt F e) :
    (At v c q w : sProp 𝕄) ⊢ iprop(At (v.slice r) c q (fun i => w (r.emb i)) ∗ (At (v.slice r) c q (fun i => w (r.emb i)) -∗ At v c q w)) := by
  have hsub : (v.slice r).set ⊆ v.set := by
    intro x hx
    obtain ⟨y, -, rfl⟩ := Finset.mem_map.mp hx
    exact Finset.mem_map.mpr ⟨r.emb y, Finset.mem_univ _, rfl⟩
  unfold At
  iintro ⟨%f, H, %hf⟩
  ihave ⟨H1, H2⟩ := (pointsTo_split_subset hsub).1 $$ H
  isplitl [H1]
  · iexists f; isplitl [H1]; · iexact H1
    ipureintro; funext i; rw [← hf]; rfl
  iintro ⟨%g, H1, %hg⟩
  have hfg : ∀ i ∈ (v.slice r).set, g i = f i := by
    intro i hi
    obtain ⟨x, -, rfl⟩ := Finset.mem_map.mp hi
    have := congrFun hg x
    rw [← hf] at this
    rw [View.read_apply] at this
    exact (cast_inj _).mp (this.trans (View.read_apply f (r.emb x)))
  iexists f
  isplitl [H1 H2]
  · iapply (pointsTo_split_subset hsub).2
    isplitl [H1]
    · iapply (Entails.of_eq (pointsTo_congr (f := g) (g := f) hfg)); iexact H1
    iexact H2
  ipureintro; exact hf

/-! ## Blocks along one axis -/

theorem axis_disjoint {s : Shape} (a : Fin s.rank) {o n o' n' : Fin s.rank → ℕ} {i : ∀ a, o a + n a ≤ s.size a} {i' : ∀ a, o' a + n' a ≤ s.size a}
    (h : o a + n a ≤ o' a ∨ o' a + n' a ≤ o a) : Disjoint (Rect.unit o n i).set (Rect.unit o' n' i').set := by
  rw [Finset.disjoint_left]
  intro x hx hx'
  have h1 := (Rect.mem_set_unit.mp hx) a
  have h2 := (Rect.mem_set_unit.mp hx') a
  omega

/-- Blocks of one height, one after another along an axis, make up a block as high as all of them. -/
theorem axis_cover {s : Shape} (a : Fin s.rank) {N : ℕ} {o0 n0 n : Fin s.rank → ℕ} {o : Fin N → Fin s.rank → ℕ}
    (hoth : ∀ t b, b ≠ a → o t b = o0 b ∧ n b = n0 b) (hax : ∀ t, o t a = o0 a + n a * t.val) (hn : n0 a = N * n a)
    {i0 : ∀ b, o0 b + n0 b ≤ s.size b} {i : ∀ t, ∀ b, o t b + n b ≤ s.size b} :
    Finset.univ.biUnion (fun t => (Rect.unit (o t) n (i t)).set) = (Rect.unit o0 n0 i0).set := by
  ext x
  rw [Finset.mem_biUnion, Rect.mem_set_unit]
  constructor
  · rintro ⟨t, -, ht⟩ b
    have h := (Rect.mem_set_unit.mp ht) b
    by_cases hb : b = a
    · subst hb
      rw [hax t] at h
      have hl : n b * t.val + n b ≤ N * n b := by
        have := Nat.mul_le_mul_left (n b) (Nat.succ_le_of_lt t.isLt)
        rw [Nat.mul_succ, Nat.mul_comm _ N] at this; exact this
      omega
    · obtain ⟨e1, e2⟩ := hoth t b hb
      rw [e1, e2] at h; exact h
  · intro h
    have h0 := h a
    have hp : 0 < n a := by
      by_contra hp
      have : n a = 0 := by omega
      rw [hn, this] at h0; omega
    have hlt : ((x a).val - o0 a) / n a < N := by rw [Nat.div_lt_iff_lt_mul hp]; omega
    refine ⟨⟨((x a).val - o0 a) / n a, hlt⟩, Finset.mem_univ _, Rect.mem_set_unit.mpr fun b => ?_⟩
    by_cases hb : b = a
    · subst hb
      rw [hax]
      have := Nat.div_add_mod ((x b).val - o0 b) (n b)
      have := Nat.mod_lt ((x b).val - o0 b) hp
      dsimp only
      omega
    · obtain ⟨e1, e2⟩ := hoth ⟨_, hlt⟩ b hb
      rw [e1, e2]; exact h b

end Cert.KernelIdeal.Hand

end
-- ==== Proof.Heads.lean ====
/-
  The device's own part: what each head's loads read, what each head stores, and the partial result they make.
-/
module

public import proofs.«01_k».proof.Proof.Copy

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## A view and its whole block -/

theorem unit_emb {s : Shape} {off : Fin s.rank → ℕ} (h : ∀ a, off a = 0) (inb : ∀ a, off a + s.size a ≤ s.size a) (i : s.Idx) :
    (Rect.unit off s.size inb).emb i = i := by
  funext a; apply Fin.ext
  show off a + 1 * (i a).val = (i a).val
  rw [h a]; omega

omit [FloatOps F] in
theorem set_full {sp : Space} {s : Shape} {e : EltTy} (v : View sig .tc sp s e) {off : Fin s.rank → ℕ} (h : ∀ a, off a = 0) (inb : ∀ a, off a + s.size a ≤ s.size a) :
    (v.slice (Rect.unit off s.size inb)).set = v.set := by
  ext x
  constructor
  · intro hx
    obtain ⟨y, -, rfl⟩ := Finset.mem_map.mp hx
    exact Finset.mem_map.mpr ⟨(Rect.unit off s.size inb).emb y, Finset.mem_univ _, rfl⟩
  · intro hx
    obtain ⟨y, -, rfl⟩ := Finset.mem_map.mp hx
    exact Finset.mem_map.mpr ⟨y, Finset.mem_univ _, congrArg v.emb (unit_emb h inb y)⟩

omit [FloatOps F] in
theorem At.full {sp : Space} {s : Shape} {e : EltTy} (v : View sig .tc sp s e) (c : Dev nD) (q : PosShare TreeShare) {off : Fin s.rank → ℕ} (h : ∀ a, off a = 0)
    (inb : ∀ a, off a + s.size a ≤ s.size a) (w : s.Idx → Elt F e) :
    (At (v.slice (Rect.unit off s.size inb)) c q w : sProp 𝕄) = At v c q w := by
  have hr : ∀ f : Buf (Elt F) (v.loc (c : Thread nD τ)), (v.slice (Rect.unit off s.size inb)).read (Elt F) f = v.read (Elt F) f := fun f => by
    funext i; exact congrArg (v.read (Elt F) f) (unit_emb h inb i)
  unfold At
  rw [set_full v h inb]
  congr 1; funext f
  rw [hr]

omit [FloatOps F] in
theorem Any.full {sp : Space} {s : Shape} {e : EltTy} (v : View sig .tc sp s e) (c : Dev nD) {off : Fin s.rank → ℕ} (h : ∀ a, off a = 0)
    (inb : ∀ a, off a + s.size a ≤ s.size a) : (Any (v.slice (Rect.unit off s.size inb)) c : sProp 𝕄) = Any (F := F) v c := by
  unfold Any
  rw [set_full v h inb]

theorem zero2 : ∀ a : Fin 2, (![0, 0] : Fin 2 → ℕ) a = 0 := by decide
theorem zero3 : ∀ a : Fin 3, (![0, 0, 0] : Fin 3 → ℕ) a = 0 := by decide

omit [FloatOps F] in
theorem sep8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]; rfl

/-! ## Heads, slots and panels -/

theorem inb_h (r : Fin 8) : ∀ a, (![0, r.val, 0] : Fin 3 → ℕ) a + S4096x1x128.size a ≤ S4096x8x128.size a := by revert r; decide
theorem inb_slot (t : Fin 2) : ∀ a, (![t.val, 0, 0] : Fin 3 → ℕ) a + S1x4096x128.size a ≤ S2x4096x128.size a := by revert t; decide
theorem inb_pn (p : Fin 8) : ∀ a, (![0, 128 * p.val] : Fin 2 → ℕ) a + S256x128.size a ≤ S256x1024.size a := by revert p; decide

abbrev kM : Memref sig .tc .hbm S4096x8x128 .f32 := Memref.whole main_arg2
abbrev vM : Memref sig .tc .hbm S4096x8x128 .f32 := Memref.whole main_arg3
abbrev kbM : Memref sig .tc .vmem S2x4096x128 .f32 := Memref.whole cc0_scratch4
abbrev vbM : Memref sig .tc .vmem S2x4096x128 .f32 := Memref.whole cc0_scratch5
abbrev ctM : Memref sig .tc .vmem S256x1024 .f32 := Memref.whole cc0_scratch0
abbrev rH (r : Fin 8) : Rect S4096x8x128 := Rect.unit (s := S4096x8x128) ![0, r.val, 0] S4096x1x128.size (inb_h r)
abbrev rT (t : Fin 2) : Rect S2x4096x128 := Rect.unit (s := S2x4096x128) ![t.val, 0, 0] S1x4096x128.size (inb_slot t)
abbrev rP (p : Fin 8) : Rect S256x1024 := Rect.unit (s := S256x1024) ![0, 128 * p.val] S256x128.size (inb_pn p)
abbrev kh (r : Fin 8) : Memref sig .tc .hbm S4096x128 .f32 := (kM.slice (rH r) (fun _ => rfl)).squeeze S4096x128 squeezes_S4096x1x128_S4096x128
abbrev vh (r : Fin 8) : Memref sig .tc .hbm S4096x128 .f32 := (vM.slice (rH r) (fun _ => rfl)).squeeze S4096x128 squeezes_S4096x1x128_S4096x128
abbrev kb1 (t : Fin 2) : Memref sig .tc .vmem S1x4096x128 .f32 := kbM.slice (rT t) (fun _ => rfl)
abbrev vb1 (t : Fin 2) : Memref sig .tc .vmem S1x4096x128 .f32 := vbM.slice (rT t) (fun _ => rfl)
abbrev kb (t : Fin 2) : Memref sig .tc .vmem S4096x128 .f32 := (kb1 t).squeeze S4096x128 squeezes_S1x4096x128_S4096x128
abbrev vb (t : Fin 2) : Memref sig .tc .vmem S4096x128 .f32 := (vb1 t).squeeze S4096x128 squeezes_S1x4096x128_S4096x128
abbrev pn (p : Fin 8) : View sig .tc .vmem S256x128 .f32 := ctM.view.slice (rP p)

abbrev ksm (t : Fin 2) : DmaSem sig := ⟨2 + t.val, by have := t.isLt; show 2 + t.val < 32; omega⟩
abbrev vsm (t : Fin 2) : DmaSem sig := ⟨4 + t.val, by have := t.isLt; show 4 + t.val < 32; omega⟩
abbrev wsm (t : Fin 2) : DmaSem sig := ⟨6 + t.val, by have := t.isLt; show 6 + t.val < 32; omega⟩

/-- Head `r` of the keys or values: as the array holds it, as a copy moves it, as a load reads it off its slot. -/
def head3 (r : Fin 8) (w : FVec F S4096x8x128 .f32) : FVec F S4096x1x128 .f32 := fun i => w (ix3 (i 0 : Fin 4096) r (i 2 : Fin 128))
def head2 (r : Fin 8) (w : FVec F S4096x8x128 .f32) : FVec F S4096x128 .f32 := fun j => head3 r w (Shape.reshapeEquiv (squeezes_S4096x1x128_S4096x128).numel_eq j)
def head1 (r : Fin 8) (w : FVec F S4096x8x128 .f32) : FVec F S1x4096x128 .f32 := fun i => head2 r w ((Shape.reshapeEquiv (squeezes_S1x4096x128_S4096x128).numel_eq).symm i)
/-- Eight panels side by side. -/
def catP (f : ℕ → FVec F S256x128 .f32) : FVec F S256x1024 .f32 :=
  fun i => f ((i 1).val / 128) (ix2 (i 0 : Fin 256) (⟨(i 1).val % 128, Nat.mod_lt _ (by decide)⟩ : Fin 128))

theorem heads_disjoint : ∀ t t' : Fin 8, t ≠ t' → Disjoint (rH t).set (rH t').set :=
  fun t t' h => axis_disjoint (1 : Fin 3) (by
    have : t.val ≠ t'.val := fun e => h (Fin.ext e)
    show t.val + 1 ≤ t'.val ∨ t'.val + 1 ≤ t.val; omega)
abbrev rH0 : Rect S4096x8x128 := Rect.unit (s := S4096x8x128) ![0, 0, 0] S4096x8x128.size (by decide)
theorem heads_cover : Finset.univ.biUnion (fun t : Fin 8 => (rH t).set) = rH0.set :=
  axis_cover (s := S4096x8x128) (1 : Fin 3) (fun t b hb => by fin_cases b <;> first | exact ⟨rfl, rfl⟩ | exact absurd rfl hb)
    (fun t => by show t.val = 0 + 1 * t.val; omega) rfl
def inH (t : Fin 8) (i : S4096x1x128.Idx) : S4096x8x128.Idx := ix3 (i 0 : Fin 4096) t (i 2 : Fin 128)
theorem inH_emb (t : Fin 8) (i : S4096x1x128.Idx) : (rH t).emb i = rH0.emb (inH t i) := by
  have h1 : (i 1).val < 1 := (i 1).isLt
  funext a; fin_cases a <;> apply Fin.ext
  · rfl
  · show t.val + 1 * (i 1).val = 0 + 1 * t.val; omega
  · rfl

theorem slots_disjoint : ∀ t t' : Fin 2, t ≠ t' → Disjoint (rT t).set (rT t').set :=
  fun t t' h => axis_disjoint (0 : Fin 3) (by
    have : t.val ≠ t'.val := fun e => h (Fin.ext e)
    show t.val + 1 ≤ t'.val ∨ t'.val + 1 ≤ t.val; omega)
abbrev rT0 : Rect S2x4096x128 := Rect.unit (s := S2x4096x128) ![0, 0, 0] S2x4096x128.size (by decide)
theorem slots_cover : Finset.univ.biUnion (fun t : Fin 2 => (rT t).set) = rT0.set :=
  axis_cover (s := S2x4096x128) (0 : Fin 3) (fun t b hb => by fin_cases b <;> first | exact ⟨rfl, rfl⟩ | exact absurd rfl hb)
    (fun t => by show t.val = 0 + 1 * t.val; omega) rfl

theorem panels_disjoint : ∀ t t' : Fin 8, t ≠ t' → Disjoint (rP t).set (rP t').set :=
  fun t t' h => axis_disjoint (1 : Fin 2) (by
    have : t.val ≠ t'.val := fun e => h (Fin.ext e)
    show 128 * t.val + 128 ≤ 128 * t'.val ∨ 128 * t'.val + 128 ≤ 128 * t.val; omega)
theorem panels_cover : Finset.univ.biUnion (fun t : Fin 8 => (rP t).set) = rA.set :=
  axis_cover (s := S256x1024) (1 : Fin 2) (fun t b hb => by fin_cases b <;> first | exact ⟨rfl, rfl⟩ | exact absurd rfl hb)
    (fun t => by show 128 * t.val = 0 + 128 * t.val; omega) rfl
def inP (t : Fin 8) (i : S256x128.Idx) : S256x1024.Idx :=
  ix2 (i 0 : Fin 256) (⟨128 * t.val + (i 1).val, by have h : (i 1).val < 128 := (i 1).isLt; omega⟩ : Fin 1024)
theorem inP_emb (t : Fin 8) (i : S256x128.Idx) : (rP t).emb i = rA.emb (inP t i) := by
  funext a; fin_cases a <;> apply Fin.ext
  · rfl
  · show 128 * t.val + 1 * (i 1).val = 0 + 1 * (128 * t.val + (i 1).val); omega

section Own
variable (c : Dev nD)

omit [FloatOps F] in
theorem kb_lead (t : Fin 2) (q : PosShare TreeShare) (r : Fin 8) (w : FVec F S4096x8x128 .f32) :
    (At (kb t).view c q (head2 r w) : sProp 𝕄) = At (kb1 t).view c q (head1 r w) :=
  At.reshape (kb1 t).view (squeezes_S1x4096x128_S4096x128).numel_eq c q _
omit [FloatOps F] in
theorem vb_lead (t : Fin 2) (q : PosShare TreeShare) (r : Fin 8) (w : FVec F S4096x8x128 .f32) :
    (At (vb t).view c q (head2 r w) : sProp 𝕄) = At (vb1 t).view c q (head1 r w) :=
  At.reshape (vb1 t).view (squeezes_S1x4096x128_S4096x128).numel_eq c q _
omit [FloatOps F] in
theorem kh_flat (r : Fin 8) (w : FVec F S4096x8x128 .f32) :
    (At (kh r).view c fullShare (head2 r w) : sProp 𝕄) = At (kM.view.slice (rH r)) c fullShare (head3 r w) := by
  refine (At.reshape (kM.view.slice (rH r)) (squeezes_S4096x1x128_S4096x128).numel_eq c fullShare _).trans ?_
  congr 1; funext i; unfold head2; rw [Equiv.apply_symm_apply]
omit [FloatOps F] in
theorem vh_flat (r : Fin 8) (w : FVec F S4096x8x128 .f32) :
    (At (vh r).view c fullShare (head2 r w) : sProp 𝕄) = At (vM.view.slice (rH r)) c fullShare (head3 r w) := by
  refine (At.reshape (vM.view.slice (rH r)) (squeezes_S4096x1x128_S4096x128).numel_eq c fullShare _).trans ?_
  congr 1; funext i; unfold head2; rw [Equiv.apply_symm_apply]

/-- Every head of the keys, and of the values, as a copy reads it. -/
abbrev kHeads (w : FVec F S4096x8x128 .f32) : sProp 𝕄 := bigSep Finset.univ fun r : Fin 8 => At (kh r).view c fullShare (head2 r w)
abbrev vHeads (w : FVec F S4096x8x128 .f32) : sProp 𝕄 := bigSep Finset.univ fun r : Fin 8 => At (vh r).view c fullShare (head2 r w)

omit [FloatOps F] in
theorem k_split (w : FVec F S4096x8x128 .f32) : (At kM.view c fullShare w : sProp 𝕄) ⊢ kHeads c w := by
  rw [← At.full kM.view c fullShare zero3 (by decide)]
  refine BIBase.Entails.trans (At.split main_arg2 c rH0 rH inH heads_disjoint heads_cover inH_emb fullShare w) (Entails.of_eq (Idealize.SL.BI.bigSep_congr fun r _ => ?_))
  exact (kh_flat c r w).symm
omit [FloatOps F] in
theorem k_join (w : FVec F S4096x8x128 .f32) : (kHeads c w : sProp 𝕄) ⊢ At kM.view c fullShare w := by
  rw [← At.full kM.view c fullShare zero3 (by decide)]
  refine BIBase.Entails.trans (Entails.of_eq (Idealize.SL.BI.bigSep_congr fun r _ => kh_flat c r w)) ?_
  exact At.join main_arg2 c rH0 rH inH heads_disjoint heads_cover inH_emb (fun r => head3 r w) w (fun _ _ => rfl) (fun i => w i)
omit [FloatOps F] in
theorem v_split (w : FVec F S4096x8x128 .f32) : (At vM.view c fullShare w : sProp 𝕄) ⊢ vHeads c w := by
  rw [← At.full vM.view c fullShare zero3 (by decide)]
  refine BIBase.Entails.trans (At.split main_arg3 c rH0 rH inH heads_disjoint heads_cover inH_emb fullShare w) (Entails.of_eq (Idealize.SL.BI.bigSep_congr fun r _ => ?_))
  exact (vh_flat c r w).symm
omit [FloatOps F] in
theorem v_join (w : FVec F S4096x8x128 .f32) : (vHeads c w : sProp 𝕄) ⊢ At vM.view c fullShare w := by
  rw [← At.full vM.view c fullShare zero3 (by decide)]
  refine BIBase.Entails.trans (Entails.of_eq (Idealize.SL.BI.bigSep_congr fun r _ => vh_flat c r w)) ?_
  exact At.join main_arg3 c rH0 rH inH heads_disjoint heads_cover inH_emb (fun r => head3 r w) w (fun _ _ => rfl) (fun i => w i)

omit [FloatOps F] in
theorem sep2 (Φ : Fin 2 → sProp 𝕄) : bigSep Finset.univ Φ = iprop(Φ 0 ∗ Φ 1) := by
  rw [bigSep_univ_eq_bigSepL [0, 1] (by decide) (by decide)]; rfl
omit [FloatOps F] in
theorem kb_split : (Any (F := F) kbM.view c : sProp 𝕄) ⊢ iprop(Any (F := F) (kb 0).view c ∗ Any (F := F) (kb 1).view c) := by
  rw [← Any.full kbM.view c zero3 (by decide)]
  refine BIBase.Entails.trans (Any.split cc0_scratch4 c rT0 rT slots_disjoint slots_cover) (Entails.of_eq ?_)
  rw [sep2, Any.reshape (kb1 0).view (squeezes_S1x4096x128_S4096x128).numel_eq, Any.reshape (kb1 1).view (squeezes_S1x4096x128_S4096x128).numel_eq]
omit [FloatOps F] in
theorem vb_split : (Any (F := F) vbM.view c : sProp 𝕄) ⊢ iprop(Any (F := F) (vb 0).view c ∗ Any (F := F) (vb 1).view c) := by
  rw [← Any.full vbM.view c zero3 (by decide)]
  refine BIBase.Entails.trans (Any.split cc0_scratch5 c rT0 rT slots_disjoint slots_cover) (Entails.of_eq ?_)
  rw [sep2, Any.reshape (vb1 0).view (squeezes_S1x4096x128_S4096x128).numel_eq, Any.reshape (vb1 1).view (squeezes_S1x4096x128_S4096x128).numel_eq]

omit [FloatOps F] in
theorem ct_split : (Any (F := F) ctM.view c : sProp 𝕄) ⊢ bigSep Finset.univ fun p : Fin 8 => Any (F := F) (pn p) c := by
  rw [← Any.full ctM.view c zero2 inb_S256x1024_S256x1024_0_0]
  exact Any.split cc0_scratch0 c rA rP panels_disjoint panels_cover
omit [FloatOps F] in
theorem ct_join (f : ℕ → FVec F S256x128 .f32) : (bigSep Finset.univ fun p : Fin 8 => At (pn p) c fullShare (f p.val) : sProp 𝕄) ⊢ At ctM.view c fullShare (catP f) := by
  rw [← At.full ctM.view c fullShare zero2 inb_S256x1024_S256x1024_0_0]
  exact At.join cc0_scratch0 c rA rP inP panels_disjoint panels_cover inP_emb (fun p => f p.val) (catP f) (fun p i => by
    have h : (i 1).val < 128 := (i 1).isLt
    show f ((128 * p.val + (i 1).val) / 128) (ix2 (i 0 : Fin 256) (⟨(128 * p.val + (i 1).val) % 128, _⟩ : Fin 128)) = f p.val i
    rw [show (128 * p.val + (i 1).val) / 128 = p.val by omega]
    congr 1; funext a; fin_cases a
    · rfl
    · apply Fin.ext; show (128 * p.val + (i 1).val) % 128 = (i 1).val; omega) (fun i => catP f i)

/-! ## The steps on a slot -/

abbrev KFly (t : Fin 2) (r : Fin 8) (w : FVec F S4096x8x128 .f32) : sProp 𝕄 := Fly c (ksm t) (kh r).view (kb t).view fullShare (head2 r w)
abbrev VFly (t : Fin 2) (r : Fin 8) (w : FVec F S4096x8x128 .f32) : sProp 𝕄 := Fly c (vsm t) (vh r).view (vb t).view fullShare (head2 r w)

variable {α : Type}
variable {Q : α → sProp (MT nD τ sig Unit (Elt F) ℕ UU ℕ)}

abbrev xM : Memref sig .tc .vmem S256x1024 .f32 := Memref.whole cc0_stg0_0
abbrev wqM : Memref sig .tc .vmem S1024x1024 .f32 := Memref.whole cc0_scratch6
abbrev woM : Memref sig .tc .vmem S1024x1024 .f32 := Memref.whole cc0_scratch7

/-- A load of all of a view. -/
theorem ldWhole {s : Shape} {m : Memref sig .tc .vmem s .f32} {off : Fin s.rank → ℕ} {inb : ∀ a, off a + s.size a ≤ s.size a} (h : ∀ a, off a = 0)
    {hl : m.view.LoadsAt (Rect.unit off s.size inb).toLoadRect} {k : (s.Idx → Elt F .f32) → Prog (TpuEff nD τ sig (Elt F) Λ₀ .tc) α}
    {q : PosShare TreeShare} {w : s.Idx → Elt F .f32} :
    (At m.view c q w : sProp 𝕄)
      ⊢ iprop((At m.view c q w -∗ wp frame (wpE (defs₀ (F := F)) 𝒱₀ (c : Thread nD τ) none) Set.univ (k w) Q)
        -∗ wp frame (wpE (defs₀ (F := F)) 𝒱₀ (c : Thread nD τ) none) Set.univ (.op (.load m (Rect.unit off s.size inb).toLoadRect hl) k) Q) := by
  rw [← At.full m.view c q h inb w]
  exact ld c rfl

/-- A copy of a head of the keys into a slot starts, and is waited for; a load reads the slot. -/
theorem kGo (t : Fin 2) (r : Fin 8) (w : FVec F S4096x8x128 .f32) {src : Memref sig .tc .hbm S4096x128 .f32} {dst : Memref sig .tc .vmem S4096x128 .f32} {sm : DmaSem sig}
    (h1 : src = kh r) (h2 : dst = kb t) (h3 : sm = ksm t)
    {hsrc : src.view.WordExact} {hdst : dst.view.WordExact} {hsem : DmaTarget.Typed .hbm (.dma sm) (.here dst : DmaTarget nD τ sig .tc .vmem S4096x128 .f32)}
    {kk : PUnit → Prog (TpuEff nD τ sig (Elt F) Λ₀ .tc) α} :
    (iprop(At (kh r).view c fullShare (head2 r w) ∗ Any (F := F) (kb t).view c ∗ semVal ((c : Thread nD τ), .dma (ksm t)) 0) : sProp 𝕄)
      ⊢ iprop((KFly c t r w -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma src (.here dst) (.dma sm) hsrc hdst hsem) kk) Q) := by
  subst h1 h2 h3
  exact copy_start c (by fin_cases t <;> decide)

theorem kWait (t : Fin 2) (r : Fin 8) (w : FVec F S4096x8x128 .f32) {srcw : Memref sig .tc .hbm S4096x128 .f32} {dst : Memref sig .tc .vmem S4096x128 .f32} {sm : DmaSem sig}
    (h2 : dst = kb t) (h3 : sm = ksm t) {hsrc : srcw.view.WordExact} {hdst : dst.view.WordExact}
    {kk : PUnit → Prog (TpuEff nD τ sig (Elt F) Λ₀ .tc) α} {W : Waits sig Unit} :
    (iprop(KFly c t r w ∗ owes (c : Thread nD τ) (oweN c 12) W ∗ levAts L lv) : sProp 𝕄)
      ⊢ iprop((iprop(∃ W', At (kb1 t).view c fullShare (head1 r w) ∗ At (kh r).view c fullShare (head2 r w) ∗ semVal ((c : Thread nD τ), .dma (ksm t)) 0 ∗ owes (c : Thread nD τ) (oweN c 12) W')
            -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm srcw dst hsrc hdst) kk) Q) := by
  subst h2 h3
  rw [← kb_lead c t fullShare r w]
  exact copy_wait c (by have := t.isLt; show 2 + t.val < 20; omega)

theorem kLd (t : Fin 2) (r : Fin 8) (w : FVec F S4096x8x128 .f32) {off : Fin 3 → ℕ} {inb : ∀ a, off a + S1x4096x128.size a ≤ S2x4096x128.size a} (h : off = ![t.val, 0, 0])
    {hl : kbM.view.LoadsAt (Rect.unit (s := S2x4096x128) off S1x4096x128.size inb).toLoadRect} {k : (S1x4096x128.Idx → Elt F .f32) → Prog (TpuEff nD τ sig (Elt F) Λ₀ .tc) α} :
    (At (kb1 t).view c fullShare (head1 r w) : sProp 𝕄)
      ⊢ iprop((Any (F := F) (kb t).view c -∗ wp frame (wpE (defs₀ (F := F)) 𝒱₀ (c : Thread nD τ) none) Set.univ (k (head1 r w)) Q)
        -∗ wp frame (wpE (defs₀ (F := F)) 𝒱₀ (c : Thread nD τ) none) Set.univ (.op (.load kbM (Rect.unit (s := S2x4096x128) off S1x4096x128.size inb).toLoadRect hl) k) Q) := by
  iintro H Hk
  iapply (ld c (m := kbM) (off' := ![t.val, 0, 0]) h (inb' := inb_slot t)) $$ H
  iintro H
  iapply Hk
  ihave H := (Entails.of_eq (kb_lead c t fullShare r w).symm) $$ H
  iapply (At.any _ _ _) $$ H

/-- The same for the values. -/
theorem vGo (t : Fin 2) (r : Fin 8) (w : FVec F S4096x8x128 .f32) {src : Memref sig .tc .hbm S4096x128 .f32} {dst : Memref sig .tc .vmem S4096x128 .f32} {sm : DmaSem sig}
    (h1 : src = vh r) (h2 : dst = vb t) (h3 : sm = vsm t)
    {hsrc : src.view.WordExact} {hdst : dst.view.WordExact} {hsem : DmaTarget.Typed .hbm (.dma sm) (.here dst : DmaTarget nD τ sig .tc .vmem S4096x128 .f32)}
    {kk : PUnit → Prog (TpuEff nD τ sig (Elt F) Λ₀ .tc) α} :
    (iprop(At (vh r).view c fullShare (head2 r w) ∗ Any (F := F) (vb t).view c ∗ semVal ((c : Thread nD τ), .dma (vsm t)) 0) : sProp 𝕄)
      ⊢ iprop((VFly c t r w -∗ wp frame (wpE (defs₀ (F := F)) 𝒱₀ (c : Thread nD τ) none) Set.univ (kk ⟨⟩) Q)
        -∗ wp frame (wpE (defs₀ (F := F)) 𝒱₀ (c : Thread nD τ) none) Set.univ (.op (.enqueueDma src (.here dst) (.dma sm) hsrc hdst hsem) kk) Q) := by
  subst h1 h2 h3
  exact copy_start c (by fin_cases t <;> decide)

theorem vWait (t : Fin 2) (r : Fin 8) (w : FVec F S4096x8x128 .f32) {srcw : Memref sig .tc .hbm S4096x128 .f32} {dst : Memref sig .tc .vmem S4096x128 .f32} {sm : DmaSem sig}
    (h2 : dst = vb t) (h3 : sm = vsm t) {hsrc : srcw.view.WordExact} {hdst : dst.view.WordExact}
    {kk : PUnit → Prog (TpuEff nD τ sig (Elt F) Λ₀ .tc) α} {W : Waits sig Unit} :
    (iprop(VFly c t r w ∗ owes (c : Thread nD τ) (oweN c 12) W ∗ levAts L lv) : sProp 𝕄)
      ⊢ iprop((iprop(∃ W', At (vb1 t).view c fullShare (head1 r w) ∗ At (vh r).view c fullShare (head2 r w) ∗ semVal ((c : Thread nD τ), .dma (vsm t)) 0 ∗ owes (c : Thread nD τ) (oweN c 12) W')
            -∗ wp frame (wpE (defs₀ (F := F)) 𝒱₀ (c : Thread nD τ) none) Set.univ (kk ⟨⟩) Q)
        -∗ wp frame (wpE (defs₀ (F := F)) 𝒱₀ (c : Thread nD τ) none) Set.univ (.op (.waitDma2 sm srcw dst hsrc hdst) kk) Q) := by
  subst h2 h3
  rw [← vb_lead c t fullShare r w]
  exact copy_wait c (by have := t.isLt; show 4 + t.val < 20; omega)

theorem vLd (t : Fin 2) (r : Fin 8) (w : FVec F S4096x8x128 .f32) {off : Fin 3 → ℕ} {inb : ∀ a, off a + S1x4096x128.size a ≤ S2x4096x128.size a} (h : off = ![t.val, 0, 0])
    {hl : vbM.view.LoadsAt (Rect.unit (s := S2x4096x128) off S1x4096x128.size inb).toLoadRect} {k : (S1x4096x128.Idx → Elt F .f32) → Prog (TpuEff nD τ sig (Elt F) Λ₀ .tc) α} :
    (At (vb1 t).view c fullShare (head1 r w) : sProp 𝕄)
      ⊢ iprop((Any (F := F) (vb t).view c -∗ wp frame (wpE (defs₀ (F := F)) 𝒱₀ (c : Thread nD τ) none) Set.univ (k (head1 r w)) Q)
        -∗ wp frame (wpE (defs₀ (F := F)) 𝒱₀ (c : Thread nD τ) none) Set.univ (.op (.load vbM (Rect.unit (s := S2x4096x128) off S1x4096x128.size inb).toLoadRect hl) k) Q) := by
  iintro H Hk
  iapply (ld c (m := vbM) (off' := ![t.val, 0, 0]) h (inb' := inb_slot t)) $$ H
  iintro H
  iapply Hk
  ihave H := (Entails.of_eq (vb_lead c t fullShare r w).symm) $$ H
  iapply (At.any _ _ _) $$ H

end Own

/-! ## The partial result -/

section Vals
variable (X : Dev nD → FVec F S256x1024 .f32) (Wq : Dev nD → FVec F S1024x16384 .f32) (KC VC : Dev nD → FVec F S4096x8x128 .f32) (Wo : Dev nD → FVec F S16384x1024 .f32)

/-- A device's blocks of the two weight matrices. -/
def wqB (c : Dev nD) : FVec F S1024x1024 .f32 := fun i => Wq c ((Rect.unit (s := S1024x16384) (k0_off1 c) S1024x1024.size (k0_off1_inb c)).emb i)
def woB (c : Dev nD) : FVec F S1024x1024 .f32 := fun i => Wo c ((Rect.unit (s := S16384x1024) (k0_off2 c) S1024x1024.size (k0_off2_inb c)).emb i)
/-- The mask. -/
def maskV : IVec S256x4096 1 :=
  k0_pay13 (k0_pay8 (iota .tc S256x4096 32 [1] iota_S256x4096_d1_w32) k0_pay2 k0_pay3 k0_pay4 k0_pay5) (Scalar.select (Scalar.cmpi .eq 3#32 0#32) 1#32 3#32)
    (k0_pay9 (iota .tc S256x4096 32 [1] iota_S256x4096_d1_w32) k0_pay2 k0_pay3 k0_pay4 k0_pay5) (k0_pay10 (iota .tc S256x4096 32 [1] iota_S256x4096_d1_w32) k0_pay2 k0_pay3 k0_pay4 k0_pay5)
    (k0_pay11 (iota .tc S256x4096 32 [1] iota_S256x4096_d1_w32) k0_pay2 k0_pay3 k0_pay4 k0_pay5) k0_pay12
/-- What head `h` stores, given the queries of all heads, the mask, the keys and the values. -/
def headV (q : FVec F S256x1024 .f32) (m : IVec S256x4096 1) (kw vw : FVec F S4096x8x128 .f32) (h : ℕ) : FVec F S256x128 .f32 :=
  match h with
  | 0 => k0_pay14 q m (head1 0 kw) (head1 0 vw)
  | 1 => k0_pay16 (k0_pay15 q m (head1 1 kw)) (head1 1 vw)
  | 2 => k0_pay18 (k0_pay17 q m (head1 2 kw) (head1 2 vw))
  | 3 => k0_pay20 m (k0_pay19 q) (head1 3 kw) (head1 3 vw)
  | 4 => k0_pay22 (k0_pay21 q m (head1 4 kw)) (head1 4 vw)
  | 5 => k0_pay23 q m (head1 5 kw) (head1 5 vw)
  | 6 => k0_pay26 m (k0_pay24 q) (k0_pay25 (head1 6 kw)) (head1 6 vw)
  | _ => k0_pay27 q m (head1 7 kw) (head1 7 vw)
/-- The device's partial result. -/
def PVof (c : Dev nD) : FVec F S256x1024 .f32 :=
  k0_pay30 (k0_pay28 (catP (headV (k0_pay1 (X c) (wqB Wq c)) maskV (KC c) (VC c)))) (k0_pay29 (woB Wo c)) (constant S256x1024 .f32 0x00000000#32)

end Vals

end Cert.KernelIdeal.Hand

end
-- ==== Proof.HopsA.lean ====
/-
  The hops, part by part: the plane's reduction here. A phase starts from what the earlier ones left, and hands on what it
  received.
-/
module

public import proofs.«01_k».proof.Proof.Steps
public import proofs.«01_k».proof.Proof.Blocks

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- A part of the body, at the call's own buffers and semaphores. -/
abbrev onArgs {β : Type _} (f : (arg0 : Memref sig .tc .vmem S256x1024 .f32) → arg0.IsWhole → (arg1 : Memref sig .tc .hbm S1024x16384 .f32) → arg1.IsWhole → (arg2 : Memref sig .tc .hbm S4096x8x128 .f32) → arg2.IsWhole → (arg3 : Memref sig .tc .hbm S4096x8x128 .f32) → arg3.IsWhole → (arg4 : Memref sig .tc .hbm S16384x1024 .f32) → arg4.IsWhole → (arg5 : Memref sig .tc .vmem S256x1024 .f32) → arg5.IsWhole → (arg6 : Memref sig .tc .vmem S256x1024 .f32) → arg6.IsWhole → (arg7 : Memref sig .tc .vmem S256x1024 .f32) → arg7.IsWhole → (arg8 : Memref sig .tc .vmem S3x64x1024 .f32) → arg8.IsWhole → (arg9 : Memref sig .tc .vmem S3x16x1024 .f32) → arg9.IsWhole → (arg10 : Memref sig .tc .vmem S2x4096x128 .f32) → arg10.IsWhole → (arg11 : Memref sig .tc .vmem S2x4096x128 .f32) → arg11.IsWhole → (arg12 : Memref sig .tc .vmem S1024x1024 .f32) → arg12.IsWhole → (arg13 : Memref sig .tc .vmem S1024x1024 .f32) → arg13.IsWhole → DmaSems sig S2 → DmaSems sig S2 → DmaSems sig S2 → DmaSems sig S12 → DmaSems sig S12 → β) : β :=
  f (Memref.whole cc0_stg0_0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg1_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12

/-! ## The four blocks of a device, in the order of its hops -/

/-- Counting down from the device's own position undoes itself. -/
def qiE (c : Dev nD) : Fin 4 ≃ Fin 4 := Function.Involutive.toPerm (qi c) (by intro s; revert c s; decide)
set_option backward.proofsInPublic true in
def ti (c : Dev nD) (s : Fin 4) : Fin 4 := ⟨(c.val / 4 + 4 - s.val) % 4, Nat.mod_lt _ (by decide)⟩
def tiE (c : Dev nD) : Fin 4 ≃ Fin 4 := Function.Involutive.toPerm (ti c) (by intro s; revert c s; decide)
theorem ui_eq (c : Dev nD) (s : Fin 4) : su (qi c 3) (ti c s) = ui c s := by revert c s; decide

omit [FloatOps F] in
theorem sep4 (Φ : Fin 4 → sProp 𝕄) : bigSep Finset.univ Φ = iprop(Φ 0 ∗ Φ 1 ∗ Φ 2 ∗ Φ 3) := by
  rw [bigSep_univ_eq_bigSepL [0, 1, 2, 3] (by decide) (by decide)]; rfl

omit [FloatOps F] in
theorem acc_chunks (c : Dev nD) (w : FVec F S256x1024 .f32) :
    (At accW c fullShare w : sProp 𝕄) ⊢ iprop(At (ch (qi c 0)).view c fullShare (rows64 (qi c 0) w) ∗ At (ch (qi c 1)).view c fullShare (rows64 (qi c 1) w)
      ∗ At (ch (qi c 2)).view c fullShare (rows64 (qi c 2) w) ∗ At (ch (qi c 3)).view c fullShare (rows64 (qi c 3) w)) := by
  refine BIBase.Entails.trans (acc_split c w) (Entails.of_eq ?_)
  rw [Idealize.SL.BI.bigSep_univ_equiv (qiE c), sep4]
  rfl

omit [FloatOps F] in
theorem chunk_subs (c : Dev nD) (w : FVec F S64x1024 .f32) :
    (At (ch (qi c 3)).view c fullShare w : sProp 𝕄) ⊢ iprop(At (sb (ui c 0)).view c fullShare (sub16 ((ui c 0).val % 4) w) ∗ At (sb (ui c 1)).view c fullShare (sub16 ((ui c 1).val % 4) w)
      ∗ At (sb (ui c 2)).view c fullShare (sub16 ((ui c 2).val % 4) w) ∗ At (sb (ui c 3)).view c fullShare (sub16 ((ui c 3).val % 4) w)) := by
  refine BIBase.Entails.trans (ch_split c (qi c 3) w) (Entails.of_eq ?_)
  have h : ∀ s, (ti c s).val = (ui c s).val % 4 := by intro s; revert c s; decide
  rw [Idealize.SL.BI.bigSep_univ_equiv (tiE c), sep4]
  have g : ∀ s, (At (sb (su (qi c 3) (ti c s))).view c fullShare (sub16 (ti c s).val w) : sProp 𝕄) = At (sb (ui c s)).view c fullShare (sub16 ((ui c s).val % 4) w) := by
    intro s; rw [ui_eq, h]
  show iprop(_ ∗ _ ∗ _ ∗ _) = iprop(_ ∗ _ ∗ _ ∗ _)
  exact congr (congrArg _ (g 0)) (congr (congrArg _ (g 1)) (congr (congrArg _ (g 2)) (g 3)))

/-- The credit of every chunk's transfer, and every sub-block's, is the first one's. -/
theorem credit_ch (q : Fin 4) : (ch q).view.dmaCredit = N64 := rfl
theorem credit_al (s : Fin 3) : (al s).view.dmaCredit = N64 := rfl
theorem credit_sb (u : Fin 16) : (sb u).view.dmaCredit = N16 := rfl
theorem credit_bl (s : Fin 3) : (bl s).view.dmaCredit = N16 := rfl

omit [FloatOps F] in
theorem al_lead (s : Fin 3) (c : Dev nD) (q : PosShare TreeShare) (w : FVec F S64x1024 .f32) :
    (At (al s).view c q w : sProp 𝕄) = At (al1 s).view c q (lead64 w) :=
  At.reshape (al1 s).view (squeezes_S1x64x1024_S64x1024).numel_eq c q w
omit [FloatOps F] in
theorem bl_lead (s : Fin 3) (c : Dev nD) (q : PosShare TreeShare) (w : FVec F S16x1024 .f32) :
    (At (bl s).view c q w : sProp 𝕄) = At (bl1 s).view c q (lead16 w) :=
  At.reshape (bl1 s).view (squeezes_S1x16x1024_S16x1024).numel_eq c q w

section Phase
variable (PV : Dev nD → FVec F S256x1024 .f32) (K : Dev nD × Fin 25 → ℕ) (c : Dev nD)

/-- The counters of hops `k`'s two cells, at zero again. -/
abbrev zeros (k : Fin 12) : sProp 𝕄 := iprop(semVal (sendCell c k) 0 ∗ semVal (recvCell c k) 0)

set_option maxHeartbeats 2000000 in
/-- The plane's reduction, up to the last of its stores. -/
theorem phaseA (v20 v24 : BitVec 32) (v551 : FVec F S256x1024 .bf16) (v553 : FVec F S1024x1024 .bf16) (cst : FVec F S256x1024 .f32)
    (hPV : k0_pay30 v551 v553 cst = PV c) (W : Waits sig Unit) (Φ : FVec F S64x1024 .f32 → sProp 𝕄) :
    iprop((levAts L lv ∗ Start c PV K 0 ∗ Start c PV K 1 ∗ Start c PV K 2 ∗ WaitS c PV K 0 ∗ WaitS c PV K 1 ∗ WaitS c PV K 2
        ∗ WaitR c PV K 0 ∗ WaitR c PV K 1 ∗ WaitR c PV K 2 ∗ slotsA (rt c) ∗ Any (F := F) accW c ∗ owes (c : Thread nD τ) (oweN c 12) W)
      ∗ ((∃ W', owes (c : Thread nD τ) (oweN c 9) W' ∗ At (ch (qi c 3)).view c fullShare (rows64 (qi c 3) (PV c)) ∗ RA (lt c) 2 ∗ RA (lt (lt c)) 1 ∗ RA (lt (lt (lt c))) 0
          ∗ slotsA c ∗ zeros c 0 ∗ zeros c 1 ∗ zeros c 2) -∗ Φ (AP PV c 3)))
      ⊢ wp frame (wpE (defs₀ (F := F)) 𝒱₀ (c : Thread nD τ) none) Set.univ (onArgs (k0_part18 (F := F)) c v20 v24 v551 v553 cst) fun v563 =>
        wp frame (wpE (defs₀ (F := F)) 𝒱₀ (c : Thread nD τ) none) Set.univ (onArgs (k0_part19 (F := F)) c v20 v24 v563) fun v601 =>
        wp frame (wpE (defs₀ (F := F)) 𝒱₀ (c : Thread nD τ) none) Set.univ (onArgs (k0_part20 (F := F)) c v20 v24 v601) fun v639 =>
        wp frame (wpE (defs₀ (F := F)) 𝒱₀ (c : Thread nD τ) none) Set.univ (onArgs (k0_part21 (F := F)) c v24 v639) Φ := by
  unfold onArgs slotsA
  iintro ⟨⟨#Hlev, HS0, HS1, HS2, Hw0, Hw1, Hw2, Hr0, Hr1, Hr2, ⟨Ha0, Ha1, Ha2⟩, Hacc, HO⟩, Hk⟩
  simp only [k0_part18_eq_skeleton]; unfold k0_part18_skel
  simp only [Prog.lift, Prog.bind_op, Prog.bind_ret, Prog.pure_eq_ret]
  iapply (ldAny c (m := accM) rfl (inb' := inb_S256x1024_S256x1024_0_0)) $$ Hacc
  iintro %w0 Hacc
  iapply (stAny c (m := accM) rfl (inb' := inb_S256x1024_S256x1024_0_0)) $$ Hacc
  rw [hPV]
  iintro Hacc
  ihave ⟨Hc0, Hc1, Hc2, Hc3⟩ := (acc_chunks c (PV c)) $$ Hacc
  -- hop 0
  iapply (hop_land c PV K (src := ch (qi c 0)) (dst := al 0) 0 (Memref.slice_unit_congr _ (off3_eq c 0) _ _ _ _) rfl (dev5_eq c) rfl rfl (n := 11) rfl iprop(emp)
    (w := AP PV c 0) rfl (BI.Entails.refl _) (by
      show _ ⊢ iprop(At (al 0).view (rt c) fullShare (AP PV (lt (rt c)) 0) ∗ RA (lt (rt c)) 0)
      rw [lt_rt]; iintro ⟨H1, H2, -⟩; isplitl [H1]; · iexact H1
      iexact H2)) $$ [HS0 Hc0 Ha0 HO]
  · isplitl [HS0]; · iexact HS0
    isplitl [Hc0]; · iexact Hc0
    isplitl [Ha0]; · iexact Ha0
    isplitr; · iempintro
    iexact HO
  iintro ⟨Hcr, HO⟩
  iapply (wait_send c PV K (dst := ch (qi c 0)) 0 (Memref.slice_unit_congr _ (off3_eq c 0) _ _ _ _) rfl rfl (n := 11) (by decide)) $$ [Hw0 Hcr HO]
  · isplitl [Hw0]; · iexact Hw0
    isplitl [Hcr]; · iexact Hcr
    isplitl [HO]; · iexact HO
    iexact Hlev
  iintro ⟨%W0, -, Hs0, HO⟩
  rw [wp_ret]; imodintro
  simp only [k0_part19_eq_skeleton]; unfold k0_part19_skel
  simp only [Prog.lift, Prog.bind_op, Prog.bind_ret, Prog.pure_eq_ret]
  iapply (wait_recv c PV K (dst := al 0) 0 rfl rfl rfl (n := 11) (by decide)) $$ [Hr0 HO]
  · isplitl [Hr0]; · iexact Hr0
    isplitl [HO]; · iexact HO
    iexact Hlev
  iintro ⟨%W0', Hgot, Hz0, HO⟩
  ihave Hgot := (Entails.of_eq (show recvPay PV c (0 : Fin 12).val = iprop(At (al 0).view c fullShare (AP PV (lt c) 0) ∗ RA (lt c) 0) from rfl)) $$ Hgot
  icases Hgot with ⟨Hl0, Hfr⟩
  icases Hfr with Hp0
  iapply (ld c (m := accM) (off' := ![64 * (qi c 1).val, 0]) (off4_eq c 0) (inb' := inb_ch (qi c 1))) $$ Hc1
  iintro Hc1
  ihave Hl0 := (Entails.of_eq (al_lead 0 c fullShare (AP PV (lt c) 0))) $$ Hl0
  iapply (ld c (m := alM) (off' := ![(0 : Fin 3).val, 0, 0]) rfl (inb' := inb_al 0)) $$ Hl0
  iintro Hl0
  ihave Hl0 := (Entails.of_eq (al_lead 0 c fullShare (AP PV (lt c) 0)).symm) $$ Hl0
  ihave Hl0 := (At.any _ _ _) $$ Hl0
  iapply (ld c (m := accM) (off' := ![64 * (qi c 1).val, 0]) (off4_eq c 0) (inb' := inb_ch (qi c 1))) $$ Hc1
  iintro Hc1
  iapply (st c (m := accM) (off' := ![64 * (qi c 1).val, 0]) (off4_eq c 0) (inb' := inb_ch (qi c 1))) $$ Hc1
  iintro Hc1
  iapply (hop_land c PV K (src := ch (qi c 1)) (dst := al 1) 1 (Memref.slice_unit_congr _ (off3_eq c 1) _ _ _ _) rfl (dev6_eq c) rfl rfl (n := 10) rfl iprop(RA (lt c) 0)
    (w := AP PV c 1) rfl (BI.Entails.refl _) (by
      show _ ⊢ iprop(At (al 1).view (rt c) fullShare (AP PV (lt (rt c)) 1) ∗ (RA (lt (rt c)) 1 ∗ RA (lt (lt (rt c))) 0))
      rw [lt_rt]; exact BI.Entails.refl _)) $$ [HS1 Hc1 Ha1 Hp0 HO]
  · isplitl [HS1]; · iexact HS1
    isplitl [Hc1]; · iexact Hc1
    isplitl [Ha1]; · iexact Ha1
    isplitl [Hp0]
    · iexact Hp0
    iexact HO
  iintro ⟨Hcr, HO⟩
  rw [wp_ret]; imodintro
  simp only [k0_part20_eq_skeleton]; unfold k0_part20_skel
  simp only [Prog.lift, Prog.bind_op, Prog.bind_ret, Prog.pure_eq_ret]
  iapply (wait_send c PV K (dst := ch (qi c 1)) 1 (Memref.slice_unit_congr _ (off3_eq c 1) _ _ _ _) rfl rfl (n := 10) (by decide)) $$ [Hw1 Hcr HO]
  · isplitl [Hw1]; · iexact Hw1
    isplitl [Hcr]; · iexact Hcr
    isplitl [HO]; · iexact HO
    iexact Hlev
  iintro ⟨%W1, -, Hs1, HO⟩
  iapply (wait_recv c PV K (dst := al 1) 1 rfl rfl rfl (n := 10) (by decide)) $$ [Hr1 HO]
  · isplitl [Hr1]; · iexact Hr1
    isplitl [HO]; · iexact HO
    iexact Hlev
  iintro ⟨%W1', Hgot, Hz1, HO⟩
  ihave Hgot := (Entails.of_eq (show recvPay PV c (1 : Fin 12).val = iprop(At (al 1).view c fullShare (AP PV (lt c) 1) ∗ (RA (lt c) 1 ∗ RA (lt (lt c)) 0)) from rfl)) $$ Hgot
  icases Hgot with ⟨Hl1, Hfr⟩
  icases Hfr with ⟨Hp1, Hq0⟩
  iapply (ld c (m := accM) (off' := ![64 * (qi c 2).val, 0]) (off4_eq c 1) (inb' := inb_ch (qi c 2))) $$ Hc2
  iintro Hc2
  ihave Hl1 := (Entails.of_eq (al_lead 1 c fullShare (AP PV (lt c) 1))) $$ Hl1
  iapply (ld c (m := alM) (off' := ![(1 : Fin 3).val, 0, 0]) rfl (inb' := inb_al 1)) $$ Hl1
  iintro Hl1
  ihave Hl1 := (Entails.of_eq (al_lead 1 c fullShare (AP PV (lt c) 1)).symm) $$ Hl1
  ihave Hl1 := (At.any _ _ _) $$ Hl1
  iapply (ld c (m := accM) (off' := ![64 * (qi c 2).val, 0]) (off4_eq c 1) (inb' := inb_ch (qi c 2))) $$ Hc2
  iintro Hc2
  iapply (st c (m := accM) (off' := ![64 * (qi c 2).val, 0]) (off4_eq c 1) (inb' := inb_ch (qi c 2))) $$ Hc2
  iintro Hc2
  rw [wp_ret]; imodintro
  simp only [k0_part21_eq_skeleton]; unfold k0_part21_skel
  simp only [Prog.lift, Prog.bind_op, Prog.bind_ret, Prog.pure_eq_ret]
  iapply (hop_land c PV K (src := ch (qi c 2)) (dst := al 2) 2 (Memref.slice_unit_congr _ (off3_eq c 2) _ _ _ _) rfl (dev7_eq c) rfl rfl (n := 9) rfl iprop(RA (lt c) 1 ∗ RA (lt (lt c)) 0)
    (w := AP PV c 2) rfl (BI.Entails.refl _) (by
      show _ ⊢ iprop(At (al 2).view (rt c) fullShare (AP PV (lt (rt c)) 2) ∗ (RA (lt (rt c)) 2 ∗ RA (lt (lt (rt c))) 1 ∗ RA (lt (lt (lt (rt c)))) 0))
      rw [lt_rt]; exact BI.Entails.refl _)) $$ [HS2 Hc2 Ha2 Hp1 Hq0 HO]
  · isplitl [HS2]; · iexact HS2
    isplitl [Hc2]; · iexact Hc2
    isplitl [Ha2]; · iexact Ha2
    isplitl [Hp1 Hq0]
    · isplitl [Hp1]; · iexact Hp1
      iexact Hq0
    iexact HO
  iintro ⟨Hcr, HO⟩
  iapply (wait_send c PV K (dst := ch (qi c 2)) 2 (Memref.slice_unit_congr _ (off3_eq c 2) _ _ _ _) rfl rfl (n := 9) (by decide)) $$ [Hw2 Hcr HO]
  · isplitl [Hw2]; · iexact Hw2
    isplitl [Hcr]; · iexact Hcr
    isplitl [HO]; · iexact HO
    iexact Hlev
  iintro ⟨%W2, -, Hs2, HO⟩
  iapply (wait_recv c PV K (dst := al 2) 2 rfl rfl rfl (n := 9) (by decide)) $$ [Hr2 HO]
  · isplitl [Hr2]; · iexact Hr2
    isplitl [HO]; · iexact HO
    iexact Hlev
  iintro ⟨%W2', Hgot, Hz2, HO⟩
  ihave Hgot := (Entails.of_eq (show recvPay PV c (2 : Fin 12).val = iprop(At (al 2).view c fullShare (AP PV (lt c) 2) ∗ (RA (lt c) 2 ∗ RA (lt (lt c)) 1 ∗ RA (lt (lt (lt c))) 0)) from rfl)) $$ Hgot
  icases Hgot with ⟨Hl2, Hfr⟩
  icases Hfr with ⟨Hp2, Hq1, Hv0⟩
  iapply (ld c (m := accM) (off' := ![64 * (qi c 3).val, 0]) (off4_eq c 2) (inb' := inb_ch (qi c 3))) $$ Hc3
  iintro Hc3
  ihave Hl2 := (Entails.of_eq (al_lead 2 c fullShare (AP PV (lt c) 2))) $$ Hl2
  iapply (ld c (m := alM) (off' := ![(2 : Fin 3).val, 0, 0]) rfl (inb' := inb_al 2)) $$ Hl2
  iintro Hl2
  ihave Hl2 := (Entails.of_eq (al_lead 2 c fullShare (AP PV (lt c) 2)).symm) $$ Hl2
  ihave Hl2 := (At.any _ _ _) $$ Hl2
  iapply (ld c (m := accM) (off' := ![64 * (qi c 3).val, 0]) (off4_eq c 2) (inb' := inb_ch (qi c 3))) $$ Hc3
  iintro Hc3
  rw [wp_ret, show k0_pay33 (rows64 (qi c 3) (PV c)) (lead64 (AP PV (lt c) 2)) = AP PV c 3 from rfl]; imodintro
  iapply Hk
  iexists W2'
  isplitl [HO]; · iexact HO
  isplitl [Hc3]; · iexact Hc3
  isplitl [Hp2]; · iexact Hp2
  isplitl [Hq1]; · iexact Hq1
  isplitl [Hv0]; · iexact Hv0
  isplitl [Hl0 Hl1 Hl2]
  · isplitl [Hl0]; · iexact Hl0
    isplitl [Hl1]; · iexact Hl1
    iexact Hl2
  isplitl [Hs0 Hz0]; · isplitl [Hs0]; · iexact Hs0
                       iexact Hz0
  isplitl [Hs1 Hz1]; · isplitl [Hs1]; · iexact Hs1
                       iexact Hz1
  isplitl [Hs2]; · iexact Hs2
  iexact Hz2

end Phase

end Cert.KernelIdeal.Hand

end
-- ==== Proof.LocalA.lean ====
/-
  The first five heads: copies, loads, and the panels stored.
-/
module

public import proofs.«01_k».proof.Proof.Heads
public import proofs.«01_k».proof.Proof.HopsA

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (c : Dev nD)

set_option maxHeartbeats 4000000 in
/-- The queries, the mask, and head 0; heads 1 start. -/
theorem local1 (kw vw : FVec F S4096x8x128 .f32) (wqS : Memref sig .tc .hbm S1024x1024 .f32) (qx : PosShare TreeShare) (x : FVec F S256x1024 .f32) (wq : FVec F S1024x1024 .f32) (W : Waits sig Unit) (Φ : (Σ' (_ : FVec F S256x1024 .f32) (_ : IVec S256x4096 32) (_ : IVec S256x4096 32) (_ : IVec S256x4096 1) (_ : IVec S256x4096 32), IVec S256x4096 32) → IVec S256x4096 1 → sProp 𝕄) :
    iprop((levAts L lv ∗ At xM.view c qx x ∗ Fly c (wsm 0) wqS.view wqM.view fullShare wq ∗ At (kh 0).view c fullShare (head2 0 kw) ∗ Any (F := F) (kb 0).view c ∗ semVal ((c : Thread nD τ), .dma (ksm 0)) 0 ∗ At (vh 0).view c fullShare (head2 0 vw) ∗ Any (F := F) (vb 0).view c ∗ semVal ((c : Thread nD τ), .dma (vsm 0)) 0 ∗ At (kh 1).view c fullShare (head2 1 kw) ∗ Any (F := F) (kb 1).view c ∗ semVal ((c : Thread nD τ), .dma (ksm 1)) 0 ∗ At (vh 1).view c fullShare (head2 1 vw) ∗ Any (F := F) (vb 1).view c ∗ semVal ((c : Thread nD τ), .dma (vsm 1)) 0 ∗ Any (F := F) (pn 0) c ∗ owes (c : Thread nD τ) (oweN c 12) W)
      ∗ ((∃ W', At xM.view c qx x ∗ At wqM.view c fullShare wq ∗ At wqS.view c fullShare wq ∗ semVal ((c : Thread nD τ), .dma (wsm 0)) 0 ∗ At (kh 0).view c fullShare (head2 0 kw) ∗ Any (F := F) (kb 0).view c ∗ semVal ((c : Thread nD τ), .dma (ksm 0)) 0 ∗ At (vh 0).view c fullShare (head2 0 vw) ∗ Any (F := F) (vb 0).view c ∗ semVal ((c : Thread nD τ), .dma (vsm 0)) 0 ∗ KFly c 1 1 kw ∗ VFly c 1 1 vw ∗ At (pn 0) c fullShare (headV (k0_pay1 x wq) maskV kw vw 0) ∗ owes (c : Thread nD τ) (oweN c 12) W') -∗ Φ ⟨k0_pay1 x wq, iota .tc S256x4096 32 [1] iota_S256x4096_d1_w32, k0_pay2, k0_pay3, k0_pay4, k0_pay5⟩ maskV))
      ⊢ wp frame (wpE (defs₀ (F := F)) 𝒱₀ (c : Thread nD τ) none) Set.univ (onArgs (k0_part3 (F := F)) c) fun a =>
        wp frame (wpE (defs₀ (F := F)) 𝒱₀ (c : Thread nD τ) none) Set.univ (onArgs (k0_part4 (F := F)) a.2.1 a.2.2.1 a.2.2.2.1 a.2.2.2.2.1 a.2.2.2.2.2) fun b =>
        wp frame (wpE (defs₀ (F := F)) 𝒱₀ (c : Thread nD τ) none) Set.univ (onArgs (k0_part5 (F := F)) b.1 b.2.1 b.2.2.1 b.2.2.2.1 b.2.2.2.2.1 b.2.2.2.2.2) fun m =>
        wp frame (wpE (defs₀ (F := F)) 𝒱₀ (c : Thread nD τ) none) Set.univ (onArgs (k0_part6 (F := F)) a.1 m) fun _ => Φ a m := by
  unfold onArgs maskV
  iintro ⟨⟨#Hlev, HX, FWq, Hk0, Bk0, Zk0, Hv0, Bv0, Zv0, Hk1, Bk1, Zk1, Hv1, Bv1, Zv1, P0, HO⟩, Hk⟩
  simp only [k0_part3_eq_skeleton]; unfold k0_part3_skel
  simp only [Prog.lift, Prog.bind_op, Prog.bind_ret, Prog.pure_eq_ret]
  iapply (kGo c 0 0 kw rfl rfl rfl) $$ [Hk0 Bk0 Zk0]
  · isplitl [Hk0]; · iexact Hk0
    isplitl [Bk0]; · iexact Bk0
    iexact Zk0
  iintro Bk0
  iapply (vGo c 0 0 vw rfl rfl rfl) $$ [Hv0 Bv0 Zv0]
  · isplitl [Hv0]; · iexact Hv0
    isplitl [Bv0]; · iexact Bv0
    iexact Zv0
  iintro Bv0
  iapply (copy_wait c (sm := wsm 0) (by decide)) $$ [FWq HO]
  · isplitl [FWq]; · iexact FWq
    isplitl [HO]; · iexact HO
    iexact Hlev
  iintro ⟨%W1, BW, HW, ZW, HO⟩
  iapply (ldWhole c (m := xM) zero2) $$ HX
  iintro HX
  iapply (ldWhole c (m := wqM) zero2) $$ BW
  iintro BW
  rw [wp_ret]; imodintro
  simp only [k0_part4_eq_skeleton]; unfold k0_part4_skel
  simp only [Prog.lift, Prog.bind_op, Prog.bind_ret, Prog.pure_eq_ret]
  rw [wp_ret]; imodintro
  simp only [k0_part5_eq_skeleton]; unfold k0_part5_skel
  simp only [Prog.lift, Prog.bind_op, Prog.bind_ret, Prog.pure_eq_ret]
  iapply (kGo c 1 1 kw rfl rfl rfl) $$ [Hk1 Bk1 Zk1]
  · isplitl [Hk1]; · iexact Hk1
    isplitl [Bk1]; · iexact Bk1
    iexact Zk1
  iintro Bk1
  iapply (vGo c 1 1 vw rfl rfl rfl) $$ [Hv1 Bv1 Zv1]
  · isplitl [Hv1]; · iexact Hv1
    isplitl [Bv1]; · iexact Bv1
    iexact Zv1
  iintro Bv1
  iapply (kWait c 0 0 kw rfl rfl) $$ [Bk0 HO]
  · isplitl [Bk0]; · iexact Bk0
    isplitl [HO]; · iexact HO
    iexact Hlev
  iintro ⟨%W2, Bk0, Hk0, Zk0, HO⟩
  rw [wp_ret]; imodintro
  simp only [k0_part6_eq_skeleton]; unfold k0_part6_skel
  simp only [Prog.lift, Prog.bind_op, Prog.bind_ret, Prog.pure_eq_ret]
  iapply (vWait c 0 0 vw rfl rfl) $$ [Bv0 HO]
  · isplitl [Bv0]; · iexact Bv0
    isplitl [HO]; · iexact HO
    iexact Hlev
  iintro ⟨%W3, Bv0, Hv0, Zv0, HO⟩
  iapply (kLd c 0 0 kw rfl) $$ Bk0
  iintro Bk0
  iapply (vLd c 0 0 vw rfl) $$ Bv0
  iintro Bv0
  iapply (ldAny c (m := ctM) (off' := ![0, 128 * ((0 : Fin 8)).val]) rfl (inb' := inb_pn 0)) $$ P0
  iintro %u0 P0
  iapply (stAny c (m := ctM) (off' := ![0, 128 * ((0 : Fin 8)).val]) rfl (inb' := inb_pn 0)) $$ P0
  iintro P0
  rw [wp_ret]; imodintro
  ihave Hfin := Hk $$ [HX BW HW ZW Hk0 Bk0 Zk0 Hv0 Bv0 Zv0 Bk1 Bv1 P0 HO]
  · iexists W3
    isplitl [HX]; · iexact HX
    isplitl [BW]; · iexact BW
    isplitl [HW]; · iexact HW
    isplitl [ZW]; · iexact ZW
    isplitl [Hk0]; · iexact Hk0
    isplitl [Bk0]; · iexact Bk0
    isplitl [Zk0]; · iexact Zk0
    isplitl [Hv0]; · iexact Hv0
    isplitl [Bv0]; · iexact Bv0
    isplitl [Zv0]; · iexact Zv0
    isplitl [Bk1]; · iexact Bk1
    isplitl [Bv1]; · iexact Bv1
    isplitl [P0]; · iexact P0
    iexact HO
  iexact Hfin

set_option maxHeartbeats 4000000 in
/-- Head 1; heads 2 and 3 start. -/
theorem local2 (kw vw : FVec F S4096x8x128 .f32) (q : FVec F S256x1024 .f32) (m : IVec S256x4096 1) (W : Waits sig Unit) (Φ : PUnit → sProp 𝕄) :
    iprop((levAts L lv ∗ At (kh 2).view c fullShare (head2 2 kw) ∗ Any (F := F) (kb 0).view c ∗ semVal ((c : Thread nD τ), .dma (ksm 0)) 0 ∗ At (vh 2).view c fullShare (head2 2 vw) ∗ Any (F := F) (vb 0).view c ∗ semVal ((c : Thread nD τ), .dma (vsm 0)) 0 ∗ KFly c 1 1 kw ∗ VFly c 1 1 vw ∗ Any (F := F) (pn 1) c ∗ At (kh 3).view c fullShare (head2 3 kw) ∗ At (vh 3).view c fullShare (head2 3 vw) ∗ owes (c : Thread nD τ) (oweN c 12) W)
      ∗ ((∃ W', KFly c 0 2 kw ∗ VFly c 0 2 vw ∗ At (kh 1).view c fullShare (head2 1 kw) ∗ KFly c 1 3 kw ∗ At (vh 1).view c fullShare (head2 1 vw) ∗ VFly c 1 3 vw ∗ At (pn 1) c fullShare (headV q m kw vw 1) ∗ owes (c : Thread nD τ) (oweN c 12) W') -∗ Φ ⟨⟩))
      ⊢ wp frame (wpE (defs₀ (F := F)) 𝒱₀ (c : Thread nD τ) none) Set.univ (onArgs (k0_part7 (F := F)) q m) fun v235 =>
        wp frame (wpE (defs₀ (F := F)) 𝒱₀ (c : Thread nD τ) none) Set.univ (onArgs (k0_part8 (F := F)) v235) Φ := by
  unfold onArgs
  iintro ⟨⟨#Hlev, Hk2, Bk0, Zk0, Hv2, Bv0, Zv0, Bk1, Bv1, P1, Hk3, Hv3, HO⟩, Hk⟩
  simp only [k0_part7_eq_skeleton]; unfold k0_part7_skel
  simp only [Prog.lift, Prog.bind_op, Prog.bind_ret, Prog.pure_eq_ret]
  iapply (kGo c 0 2 kw rfl rfl rfl) $$ [Hk2 Bk0 Zk0]
  · isplitl [Hk2]; · iexact Hk2
    isplitl [Bk0]; · iexact Bk0
    iexact Zk0
  iintro Bk0
  iapply (vGo c 0 2 vw rfl rfl rfl) $$ [Hv2 Bv0 Zv0]
  · isplitl [Hv2]; · iexact Hv2
    isplitl [Bv0]; · iexact Bv0
    iexact Zv0
  iintro Bv0
  iapply (kWait c 1 1 kw rfl rfl) $$ [Bk1 HO]
  · isplitl [Bk1]; · iexact Bk1
    isplitl [HO]; · iexact HO
    iexact Hlev
  iintro ⟨%W1, Bk1, Hk1, Zk1, HO⟩
  iapply (vWait c 1 1 vw rfl rfl) $$ [Bv1 HO]
  · isplitl [Bv1]; · iexact Bv1
    isplitl [HO]; · iexact HO
    iexact Hlev
  iintro ⟨%W2, Bv1, Hv1, Zv1, HO⟩
  iapply (kLd c 1 1 kw rfl) $$ Bk1
  iintro Bk1
  rw [wp_ret]; imodintro
  simp only [k0_part8_eq_skeleton]; unfold k0_part8_skel
  simp only [Prog.lift, Prog.bind_op, Prog.bind_ret, Prog.pure_eq_ret]
  iapply (vLd c 1 1 vw rfl) $$ Bv1
  iintro Bv1
  iapply (ldAny c (m := ctM) (off' := ![0, 128 * ((1 : Fin 8)).val]) rfl (inb' := inb_pn 1)) $$ P1
  iintro %u1 P1
  iapply (stAny c (m := ctM) (off' := ![0, 128 * ((1 : Fin 8)).val]) rfl (inb' := inb_pn 1)) $$ P1
  iintro P1
  iapply (kGo c 1 3 kw rfl rfl rfl) $$ [Hk3 Bk1 Zk1]
  · isplitl [Hk3]; · iexact Hk3
    isplitl [Bk1]; · iexact Bk1
    iexact Zk1
  iintro Bk1
  iapply (vGo c 1 3 vw rfl rfl rfl) $$ [Hv3 Bv1 Zv1]
  · isplitl [Hv3]; · iexact Hv3
    isplitl [Bv1]; · iexact Bv1
    iexact Zv1
  iintro Bv1
  rw [wp_ret]; imodintro
  ihave Hfin := Hk $$ [Bk0 Bv0 Hk1 Bk1 Hv1 Bv1 P1 HO]
  · iexists W2
    isplitl [Bk0]; · iexact Bk0
    isplitl [Bv0]; · iexact Bv0
    isplitl [Hk1]; · iexact Hk1
    isplitl [Bk1]; · iexact Bk1
    isplitl [Hv1]; · iexact Hv1
    isplitl [Bv1]; · iexact Bv1
    isplitl [P1]; · iexact P1
    iexact HO
  iexact Hfin

set_option maxHeartbeats 4000000 in
/-- Head 2; head 4 starts and head 3 arrives. -/
theorem local3 (kw vw : FVec F S4096x8x128 .f32) (q : FVec F S256x1024 .f32) (m : IVec S256x4096 1) (W : Waits sig Unit) (Φ : FVec F S256x128 .f32 → sProp 𝕄) :
    iprop((levAts L lv ∗ KFly c 0 2 kw ∗ VFly c 0 2 vw ∗ Any (F := F) (pn 2) c ∗ At (kh 4).view c fullShare (head2 4 kw) ∗ At (vh 4).view c fullShare (head2 4 vw) ∗ KFly c 1 3 kw ∗ VFly c 1 3 vw ∗ owes (c : Thread nD τ) (oweN c 12) W)
      ∗ ((∃ W', At (kh 2).view c fullShare (head2 2 kw) ∗ KFly c 0 4 kw ∗ At (vh 2).view c fullShare (head2 2 vw) ∗ VFly c 0 4 vw ∗ At (pn 2) c fullShare (headV q m kw vw 2) ∗ At (kh 3).view c fullShare (head2 3 kw) ∗ At (kb1 1).view c fullShare (head1 3 kw) ∗ semVal ((c : Thread nD τ), .dma (ksm 1)) 0 ∗ At (vh 3).view c fullShare (head2 3 vw) ∗ At (vb1 1).view c fullShare (head1 3 vw) ∗ semVal ((c : Thread nD τ), .dma (vsm 1)) 0 ∗ owes (c : Thread nD τ) (oweN c 12) W') -∗ Φ (k0_pay19 q)))
      ⊢ wp frame (wpE (defs₀ (F := F)) 𝒱₀ (c : Thread nD τ) none) Set.univ (onArgs (k0_part9 (F := F)) q m) fun a =>
        wp frame (wpE (defs₀ (F := F)) 𝒱₀ (c : Thread nD τ) none) Set.univ (onArgs (k0_part10 (F := F)) q a.1 a.2) Φ := by
  unfold onArgs
  iintro ⟨⟨#Hlev, Bk0, Bv0, P2, Hk4, Hv4, Bk1, Bv1, HO⟩, Hk⟩
  simp only [k0_part9_eq_skeleton]; unfold k0_part9_skel
  simp only [Prog.lift, Prog.bind_op, Prog.bind_ret, Prog.pure_eq_ret]
  iapply (kWait c 0 2 kw rfl rfl) $$ [Bk0 HO]
  · isplitl [Bk0]; · iexact Bk0
    isplitl [HO]; · iexact HO
    iexact Hlev
  iintro ⟨%W1, Bk0, Hk2, Zk0, HO⟩
  iapply (vWait c 0 2 vw rfl rfl) $$ [Bv0 HO]
  · isplitl [Bv0]; · iexact Bv0
    isplitl [HO]; · iexact HO
    iexact Hlev
  iintro ⟨%W2, Bv0, Hv2, Zv0, HO⟩
  iapply (kLd c 0 2 kw rfl) $$ Bk0
  iintro Bk0
  iapply (vLd c 0 2 vw rfl) $$ Bv0
  iintro Bv0
  iapply (ldAny c (m := ctM) (off' := ![0, 128 * ((2 : Fin 8)).val]) rfl (inb' := inb_pn 2)) $$ P2
  iintro %u2 P2
  rw [wp_ret]; imodintro
  simp only [k0_part10_eq_skeleton]; unfold k0_part10_skel
  simp only [Prog.lift, Prog.bind_op, Prog.bind_ret, Prog.pure_eq_ret]
  iapply (stAny c (m := ctM) (off' := ![0, 128 * ((2 : Fin 8)).val]) rfl (inb' := inb_pn 2)) $$ P2
  iintro P2
  iapply (kGo c 0 4 kw rfl rfl rfl) $$ [Hk4 Bk0 Zk0]
  · isplitl [Hk4]; · iexact Hk4
    isplitl [Bk0]; · iexact Bk0
    iexact Zk0
  iintro Bk0
  iapply (vGo c 0 4 vw rfl rfl rfl) $$ [Hv4 Bv0 Zv0]
  · isplitl [Hv4]; · iexact Hv4
    isplitl [Bv0]; · iexact Bv0
    iexact Zv0
  iintro Bv0
  iapply (kWait c 1 3 kw rfl rfl) $$ [Bk1 HO]
  · isplitl [Bk1]; · iexact Bk1
    isplitl [HO]; · iexact HO
    iexact Hlev
  iintro ⟨%W3, Bk1, Hk3, Zk1, HO⟩
  iapply (vWait c 1 3 vw rfl rfl) $$ [Bv1 HO]
  · isplitl [Bv1]; · iexact Bv1
    isplitl [HO]; · iexact HO
    iexact Hlev
  iintro ⟨%W4, Bv1, Hv3, Zv1, HO⟩
  rw [wp_ret]; imodintro
  ihave Hfin := Hk $$ [Hk2 Bk0 Hv2 Bv0 P2 Hk3 Bk1 Zk1 Hv3 Bv1 Zv1 HO]
  · iexists W4
    isplitl [Hk2]; · iexact Hk2
    isplitl [Bk0]; · iexact Bk0
    isplitl [Hv2]; · iexact Hv2
    isplitl [Bv0]; · iexact Bv0
    isplitl [P2]; · iexact P2
    isplitl [Hk3]; · iexact Hk3
    isplitl [Bk1]; · iexact Bk1
    isplitl [Zk1]; · iexact Zk1
    isplitl [Hv3]; · iexact Hv3
    isplitl [Bv1]; · iexact Bv1
    isplitl [Zv1]; · iexact Zv1
    iexact HO
  iexact Hfin

set_option maxHeartbeats 4000000 in
/-- Heads 3 and 4; heads 5 and 6 start. -/
theorem local4 (kw vw : FVec F S4096x8x128 .f32) (q : FVec F S256x1024 .f32) (m : IVec S256x4096 1) (W : Waits sig Unit) (Φ : PUnit → sProp 𝕄) :
    iprop((levAts L lv ∗ At (kb1 1).view c fullShare (head1 3 kw) ∗ At (vb1 1).view c fullShare (head1 3 vw) ∗ Any (F := F) (pn 3) c ∗ At (kh 5).view c fullShare (head2 5 kw) ∗ semVal ((c : Thread nD τ), .dma (ksm 1)) 0 ∗ At (vh 5).view c fullShare (head2 5 vw) ∗ semVal ((c : Thread nD τ), .dma (vsm 1)) 0 ∗ KFly c 0 4 kw ∗ VFly c 0 4 vw ∗ Any (F := F) (pn 4) c ∗ At (kh 6).view c fullShare (head2 6 kw) ∗ At (vh 6).view c fullShare (head2 6 vw) ∗ owes (c : Thread nD τ) (oweN c 12) W)
      ∗ ((∃ W', KFly c 1 5 kw ∗ VFly c 1 5 vw ∗ At (pn 3) c fullShare (headV q m kw vw 3) ∗ At (kh 4).view c fullShare (head2 4 kw) ∗ KFly c 0 6 kw ∗ At (vh 4).view c fullShare (head2 4 vw) ∗ VFly c 0 6 vw ∗ At (pn 4) c fullShare (headV q m kw vw 4) ∗ owes (c : Thread nD τ) (oweN c 12) W') -∗ Φ ⟨⟩))
      ⊢ wp frame (wpE (defs₀ (F := F)) 𝒱₀ (c : Thread nD τ) none) Set.univ (onArgs (k0_part11 (F := F)) m (k0_pay19 q)) fun _ =>
        wp frame (wpE (defs₀ (F := F)) 𝒱₀ (c : Thread nD τ) none) Set.univ (onArgs (k0_part12 (F := F)) q m) fun v393 =>
        wp frame (wpE (defs₀ (F := F)) 𝒱₀ (c : Thread nD τ) none) Set.univ (onArgs (k0_part13 (F := F)) v393) Φ := by
  unfold onArgs
  iintro ⟨⟨#Hlev, Bk1, Bv1, P3, Hk5, Zk1, Hv5, Zv1, Bk0, Bv0, P4, Hk6, Hv6, HO⟩, Hk⟩
  simp only [k0_part11_eq_skeleton]; unfold k0_part11_skel
  simp only [Prog.lift, Prog.bind_op, Prog.bind_ret, Prog.pure_eq_ret]
  iapply (kLd c 1 3 kw rfl) $$ Bk1
  iintro Bk1
  iapply (vLd c 1 3 vw rfl) $$ Bv1
  iintro Bv1
  iapply (ldAny c (m := ctM) (off' := ![0, 128 * ((3 : Fin 8)).val]) rfl (inb' := inb_pn 3)) $$ P3
  iintro %u3 P3
  iapply (stAny c (m := ctM) (off' := ![0, 128 * ((3 : Fin 8)).val]) rfl (inb' := inb_pn 3)) $$ P3
  iintro P3
  iapply (kGo c 1 5 kw rfl rfl rfl) $$ [Hk5 Bk1 Zk1]
  · isplitl [Hk5]; · iexact Hk5
    isplitl [Bk1]; · iexact Bk1
    iexact Zk1
  iintro Bk1
  rw [wp_ret]; imodintro
  simp only [k0_part12_eq_skeleton]; unfold k0_part12_skel
  simp only [Prog.lift, Prog.bind_op, Prog.bind_ret, Prog.pure_eq_ret]
  iapply (vGo c 1 5 vw rfl rfl rfl) $$ [Hv5 Bv1 Zv1]
  · isplitl [Hv5]; · iexact Hv5
    isplitl [Bv1]; · iexact Bv1
    iexact Zv1
  iintro Bv1
  iapply (kWait c 0 4 kw rfl rfl) $$ [Bk0 HO]
  · isplitl [Bk0]; · iexact Bk0
    isplitl [HO]; · iexact HO
    iexact Hlev
  iintro ⟨%W1, Bk0, Hk4, Zk0, HO⟩
  iapply (vWait c 0 4 vw rfl rfl) $$ [Bv0 HO]
  · isplitl [Bv0]; · iexact Bv0
    isplitl [HO]; · iexact HO
    iexact Hlev
  iintro ⟨%W2, Bv0, Hv4, Zv0, HO⟩
  iapply (kLd c 0 4 kw rfl) $$ Bk0
  iintro Bk0
  rw [wp_ret]; imodintro
  simp only [k0_part13_eq_skeleton]; unfold k0_part13_skel
  simp only [Prog.lift, Prog.bind_op, Prog.bind_ret, Prog.pure_eq_ret]
  iapply (vLd c 0 4 vw rfl) $$ Bv0
  iintro Bv0
  iapply (ldAny c (m := ctM) (off' := ![0, 128 * ((4 : Fin 8)).val]) rfl (inb' := inb_pn 4)) $$ P4
  iintro %u4 P4
  iapply (stAny c (m := ctM) (off' := ![0, 128 * ((4 : Fin 8)).val]) rfl (inb' := inb_pn 4)) $$ P4
  iintro P4
  iapply (kGo c 0 6 kw rfl rfl rfl) $$ [Hk6 Bk0 Zk0]
  · isplitl [Hk6]; · iexact Hk6
    isplitl [Bk0]; · iexact Bk0
    iexact Zk0
  iintro Bk0
  iapply (vGo c 0 6 vw rfl rfl rfl) $$ [Hv6 Bv0 Zv0]
  · isplitl [Hv6]; · iexact Hv6
    isplitl [Bv0]; · iexact Bv0
    iexact Zv0
  iintro Bv0
  rw [wp_ret]; imodintro
  ihave Hfin := Hk $$ [Bk1 Bv1 P3 Hk4 Bk0 Hv4 Bv0 P4 HO]
  · iexists W2
    isplitl [Bk1]; · iexact Bk1
    isplitl [Bv1]; · iexact Bv1
    isplitl [P3]; · iexact P3
    isplitl [Hk4]; · iexact Hk4
    isplitl [Bk0]; · iexact Bk0
    isplitl [Hv4]; · iexact Hv4
    isplitl [Bv0]; · iexact Bv0
    isplitl [P4]; · iexact P4
    iexact HO
  iexact Hfin

end Cert.KernelIdeal.Hand

end
-- ==== Proof.LocalB.lean ====
/-
  The last three heads, and the operands of the output projection.
-/
module

public import proofs.«01_k».proof.Proof.Heads
public import proofs.«01_k».proof.Proof.HopsA

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (c : Dev nD)

set_option maxHeartbeats 4000000 in
/-- Heads 5 to 7, and the operands of the output projection. -/
theorem local5 (kw vw : FVec F S4096x8x128 .f32) (q : FVec F S256x1024 .f32) (m : IVec S256x4096 1) (woS : Memref sig .tc .hbm S1024x1024 .f32) (ct : FVec F S256x1024 .f32) (wo : FVec F S1024x1024 .f32) (W : Waits sig Unit) (Φ : (Σ' (_ : FVec F S256x1024 .bf16) (_ : FVec F S1024x1024 .bf16), FVec F S256x1024 .f32) → sProp 𝕄) :
    iprop((levAts L lv ∗ Fly c (wsm 1) woS.view woM.view fullShare wo ∗ ((At (pn 5) c fullShare (headV q m kw vw 5) ∗ At (pn 6) c fullShare (headV q m kw vw 6) ∗ At (pn 7) c fullShare (headV q m kw vw 7)) -∗ At ctM.view c fullShare ct) ∗ KFly c 1 5 kw ∗ VFly c 1 5 vw ∗ Any (F := F) (pn 5) c ∗ At (kh 7).view c fullShare (head2 7 kw) ∗ At (vh 7).view c fullShare (head2 7 vw) ∗ KFly c 0 6 kw ∗ VFly c 0 6 vw ∗ Any (F := F) (pn 6) c ∗ Any (F := F) (pn 7) c ∗ owes (c : Thread nD τ) (oweN c 12) W)
      ∗ ((∃ W', At ctM.view c fullShare ct ∗ At woM.view c fullShare wo ∗ At woS.view c fullShare wo ∗ semVal ((c : Thread nD τ), .dma (wsm 1)) 0 ∗ At (kh 5).view c fullShare (head2 5 kw) ∗ Any (F := F) (kb 1).view c ∗ semVal ((c : Thread nD τ), .dma (ksm 1)) 0 ∗ At (vh 5).view c fullShare (head2 5 vw) ∗ Any (F := F) (vb 1).view c ∗ semVal ((c : Thread nD τ), .dma (vsm 1)) 0 ∗ At (kh 7).view c fullShare (head2 7 kw) ∗ At (vh 7).view c fullShare (head2 7 vw) ∗ At (kh 6).view c fullShare (head2 6 kw) ∗ Any (F := F) (kb 0).view c ∗ semVal ((c : Thread nD τ), .dma (ksm 0)) 0 ∗ At (vh 6).view c fullShare (head2 6 vw) ∗ Any (F := F) (vb 0).view c ∗ semVal ((c : Thread nD τ), .dma (vsm 0)) 0 ∗ owes (c : Thread nD τ) (oweN c 12) W') -∗ Φ ⟨k0_pay28 ct, k0_pay29 wo, constant S256x1024 .f32 0x00000000#32⟩))
      ⊢ wp frame (wpE (defs₀ (F := F)) 𝒱₀ (c : Thread nD τ) none) Set.univ (onArgs (k0_part14 (F := F)) q m) fun _ =>
        wp frame (wpE (defs₀ (F := F)) 𝒱₀ (c : Thread nD τ) none) Set.univ (onArgs (k0_part15 (F := F)) q) fun a =>
        wp frame (wpE (defs₀ (F := F)) 𝒱₀ (c : Thread nD τ) none) Set.univ (onArgs (k0_part16 (F := F)) m a.1 a.2) fun _ =>
        wp frame (wpE (defs₀ (F := F)) 𝒱₀ (c : Thread nD τ) none) Set.univ (onArgs (k0_part17 (F := F)) c q m) Φ := by
  unfold onArgs
  iintro ⟨⟨#Hlev, FWo, Hct, Bk1, Bv1, P5, Hk7, Hv7, Bk0, Bv0, P6, P7, HO⟩, Hk⟩
  simp only [k0_part14_eq_skeleton]; unfold k0_part14_skel
  simp only [Prog.lift, Prog.bind_op, Prog.bind_ret, Prog.pure_eq_ret]
  iapply (kWait c 1 5 kw rfl rfl) $$ [Bk1 HO]
  · isplitl [Bk1]; · iexact Bk1
    isplitl [HO]; · iexact HO
    iexact Hlev
  iintro ⟨%W1, Bk1, Hk5, Zk1, HO⟩
  iapply (vWait c 1 5 vw rfl rfl) $$ [Bv1 HO]
  · isplitl [Bv1]; · iexact Bv1
    isplitl [HO]; · iexact HO
    iexact Hlev
  iintro ⟨%W2, Bv1, Hv5, Zv1, HO⟩
  iapply (kLd c 1 5 kw rfl) $$ Bk1
  iintro Bk1
  iapply (vLd c 1 5 vw rfl) $$ Bv1
  iintro Bv1
  iapply (ldAny c (m := ctM) (off' := ![0, 128 * ((5 : Fin 8)).val]) rfl (inb' := inb_pn 5)) $$ P5
  iintro %u5 P5
  iapply (stAny c (m := ctM) (off' := ![0, 128 * ((5 : Fin 8)).val]) rfl (inb' := inb_pn 5)) $$ P5
  iintro P5
  rw [wp_ret]; imodintro
  simp only [k0_part15_eq_skeleton]; unfold k0_part15_skel
  simp only [Prog.lift, Prog.bind_op, Prog.bind_ret, Prog.pure_eq_ret]
  iapply (kGo c 1 7 kw rfl rfl rfl) $$ [Hk7 Bk1 Zk1]
  · isplitl [Hk7]; · iexact Hk7
    isplitl [Bk1]; · iexact Bk1
    iexact Zk1
  iintro Bk1
  iapply (vGo c 1 7 vw rfl rfl rfl) $$ [Hv7 Bv1 Zv1]
  · isplitl [Hv7]; · iexact Hv7
    isplitl [Bv1]; · iexact Bv1
    iexact Zv1
  iintro Bv1
  iapply (kWait c 0 6 kw rfl rfl) $$ [Bk0 HO]
  · isplitl [Bk0]; · iexact Bk0
    isplitl [HO]; · iexact HO
    iexact Hlev
  iintro ⟨%W3, Bk0, Hk6, Zk0, HO⟩
  iapply (vWait c 0 6 vw rfl rfl) $$ [Bv0 HO]
  · isplitl [Bv0]; · iexact Bv0
    isplitl [HO]; · iexact HO
    iexact Hlev
  iintro ⟨%W4, Bv0, Hv6, Zv0, HO⟩
  iapply (kLd c 0 6 kw rfl) $$ Bk0
  iintro Bk0
  rw [wp_ret]; imodintro
  simp only [k0_part16_eq_skeleton]; unfold k0_part16_skel
  simp only [Prog.lift, Prog.bind_op, Prog.bind_ret, Prog.pure_eq_ret]
  iapply (vLd c 0 6 vw rfl) $$ Bv0
  iintro Bv0
  iapply (ldAny c (m := ctM) (off' := ![0, 128 * ((6 : Fin 8)).val]) rfl (inb' := inb_pn 6)) $$ P6
  iintro %u6 P6
  iapply (stAny c (m := ctM) (off' := ![0, 128 * ((6 : Fin 8)).val]) rfl (inb' := inb_pn 6)) $$ P6
  iintro P6
  iapply (kWait c 1 7 kw rfl rfl) $$ [Bk1 HO]
  · isplitl [Bk1]; · iexact Bk1
    isplitl [HO]; · iexact HO
    iexact Hlev
  iintro ⟨%W5, Bk1, Hk7, Zk1, HO⟩
  rw [wp_ret]; imodintro
  simp only [k0_part17_eq_skeleton]; unfold k0_part17_skel
  simp only [Prog.lift, Prog.bind_op, Prog.bind_ret, Prog.pure_eq_ret]
  iapply (vWait c 1 7 vw rfl rfl) $$ [Bv1 HO]
  · isplitl [Bv1]; · iexact Bv1
    isplitl [HO]; · iexact HO
    iexact Hlev
  iintro ⟨%W6, Bv1, Hv7, Zv1, HO⟩
  iapply (kLd c 1 7 kw rfl) $$ Bk1
  iintro Bk1
  iapply (vLd c 1 7 vw rfl) $$ Bv1
  iintro Bv1
  iapply (ldAny c (m := ctM) (off' := ![0, 128 * ((7 : Fin 8)).val]) rfl (inb' := inb_pn 7)) $$ P7
  iintro %u7 P7
  iapply (stAny c (m := ctM) (off' := ![0, 128 * ((7 : Fin 8)).val]) rfl (inb' := inb_pn 7)) $$ P7
  iintro P7
  ihave HC := Hct $$ [P5 P6 P7]
  · isplitl [P5]; · iexact P5
    isplitl [P6]; · iexact P6
    iexact P7
  iapply (copy_wait c (sm := wsm 1) (by decide)) $$ [FWo HO]
  · isplitl [FWo]; · iexact FWo
    isplitl [HO]; · iexact HO
    iexact Hlev
  iintro ⟨%W7, BW, HW, ZW, HO⟩
  iapply (ldWhole c (m := ctM) zero2) $$ HC
  iintro HC
  iapply (ldWhole c (m := woM) zero2) $$ BW
  iintro BW
  rw [wp_ret]; imodintro
  ihave Hfin := Hk $$ [HC BW HW ZW Hk5 Bk1 Zk1 Hv5 Bv1 Zv1 Hk7 Hv7 Hk6 Bk0 Zk0 Hv6 Bv0 Zv0 HO]
  · iexists W7
    isplitl [HC]; · iexact HC
    isplitl [BW]; · iexact BW
    isplitl [HW]; · iexact HW
    isplitl [ZW]; · iexact ZW
    isplitl [Hk5]; · iexact Hk5
    isplitl [Bk1]; · iexact Bk1
    isplitl [Zk1]; · iexact Zk1
    isplitl [Hv5]; · iexact Hv5
    isplitl [Bv1]; · iexact Bv1
    isplitl [Zv1]; · iexact Zv1
    isplitl [Hk7]; · iexact Hk7
    isplitl [Hv7]; · iexact Hv7
    isplitl [Hk6]; · iexact Hk6
    isplitl [Bk0]; · iexact Bk0
    isplitl [Zk0]; · iexact Zk0
    isplitl [Hv6]; · iexact Hv6
    isplitl [Bv0]; · iexact Bv0
    isplitl [Zv0]; · iexact Zv0
    iexact HO
  iexact Hfin

end Cert.KernelIdeal.Hand

end
-- ==== Proof.HopsG.lean ====
/-
  The hops, part by part: the two gathers, across the planes and along the plane.
-/
module

public import proofs.«01_k».proof.Proof.HopsA

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The blocks of a device three steps back are those a hop back of the next device -/

theorem ui_far (c : Dev nD) (s : Fin 4) : ui (zn c) s = ui c (s + 3) := by revert c s; decide
theorem qi_far (c : Dev nD) (s : Fin 4) : qi (rt c) s = qi c (s + 3) := by revert c s; decide

omit [FloatOps F] in
theorem RZ_far (c : Dev nD) (s : Fin 4) : RZ (F := F) (zp (zp (zp c))) s = Any (F := F) (sb (ui c (s + 3))).view (zn c) := by
  rw [zp_zp_zp, RZ, ui_far]
omit [FloatOps F] in
theorem RA_far (c : Dev nD) (s : Fin 4) : RA (F := F) (lt (lt (lt c))) s = Any (F := F) (ch (qi c (s + 3))).view (rt c) := by
  rw [lt_lt_lt, RA, qi_far]

section Phase
variable (PV : Dev nD → FVec F S256x1024 .f32) (K : Dev nD × Fin 25 → ℕ) (c : Dev nD)

/-- The four sub-blocks, gathered, are the finished chunk. -/
theorem chunk_gather : (iprop(At (sb (ui c 0)).view c fullShare (GV PV c 1) ∗ At (sb (ui c 1)).view c fullShare (GV PV c 2)
      ∗ At (sb (ui c 2)).view c fullShare (GV PV c 3) ∗ At (sb (ui c 3)).view c fullShare (GV PV c 0)) : sProp 𝕄)
    ⊢ At (ch (qi c 3)).view c fullShare (XV PV c) := by
  refine BIBase.Entails.trans (Entails.of_eq ?_) (ch_join c (qi c 3) (fun t => GV PV c ((c.val / 4 + 5 - t) % 4)) (OV PV c))
  have h : ∀ s : Fin 4, (c.val / 4 + 5 - (ti c s).val) % 4 = (s.val + 1) % 4 := by revert c; decide
  have g : ∀ s, (At (sb (su (qi c 3) (ti c s))).view c fullShare (GV PV c ((c.val / 4 + 5 - (ti c s).val) % 4)) : sProp 𝕄)
      = At (sb (ui c s)).view c fullShare (GV PV c ((s.val + 1) % 4)) := by
    intro s; rw [ui_eq, h]
  rw [Idealize.SL.BI.bigSep_univ_equiv (tiE c), sep4]
  exact (congr (congrArg _ (g 0)) (congr (congrArg _ (g 1)) (congr (congrArg _ (g 2)) (g 3)))).symm

/-- The four chunks, gathered, are the finished result. -/
theorem acc_gather : (iprop(At (ch (qi c 0)).view c fullShare (HV PV c 1) ∗ At (ch (qi c 1)).view c fullShare (HV PV c 2)
      ∗ At (ch (qi c 2)).view c fullShare (HV PV c 3) ∗ At (ch (qi c 3)).view c fullShare (HV PV c 0)) : sProp 𝕄)
    ⊢ At accW c fullShare (OV PV c) := by
  refine BIBase.Entails.trans (Entails.of_eq ?_) (acc_join c (fun q => HV PV c ((c.val % 4 + 5 - q) % 4)) (OV PV c))
  have h : ∀ s : Fin 4, (c.val % 4 + 5 - (qi c s).val) % 4 = (s.val + 1) % 4 := by revert c; decide
  have g : ∀ s, (At (ch (qi c s)).view c fullShare (HV PV c ((c.val % 4 + 5 - (qi c s).val) % 4)) : sProp 𝕄)
      = At (ch (qi c s)).view c fullShare (HV PV c ((s.val + 1) % 4)) := by
    intro s; rw [h]
  rw [Idealize.SL.BI.bigSep_univ_equiv (qiE c), sep4]
  exact (congr (congrArg _ (g 0)) (congr (congrArg _ (g 1)) (congr (congrArg _ (g 2)) (g 3)))).symm

set_option maxHeartbeats 2000000 in
/-- The gather across the planes; the reduction's last store comes first. -/
theorem phaseZG (v19 v20 v24 v32 v674 v785 : BitVec 32) (v787 : Vec F S16x1024 .f32) (v789 : FVec F S16x1024 .f32) (h37 : k0_pay37 v787 v789 = ZP PV c 3)
    (w₀ : FVec F S16x1024 .f32) (W : Waits sig Unit) (Φ : (Σ' (_ : BitVec 32), BitVec 32) → sProp 𝕄) :
    iprop((levAts L lv ∗ Start c PV K 6 ∗ Start c PV K 7 ∗ Start c PV K 8 ∗ WaitS c PV K 6 ∗ WaitS c PV K 7 ∗ WaitS c PV K 8
        ∗ WaitR c PV K 6 ∗ WaitR c PV K 7 ∗ WaitR c PV K 8 ∗ At (sb (ui c 3)).view c fullShare w₀
        ∗ RZ (zp c) 2 ∗ RZ (zp (zp c)) 1 ∗ RZ (zp (zp (zp c))) 0 ∗ owes (c : Thread nD τ) (oweN c 6) W)
      ∗ (∀ v, (∃ W', owes (c : Thread nD τ) (oweN c 3) W' ∗ At (ch (qi c 3)).view c fullShare (XV PV c) ∗ zeros c 6 ∗ zeros c 7 ∗ zeros c 8) -∗ Φ v))
      ⊢ wp frame (wpE (defs₀ (F := F)) 𝒱₀ (c : Thread nD τ) none) Set.univ (onArgs (k0_part26 (F := F)) c v19 v32 v674 v785 v787 v789) fun c1 =>
        wp frame (wpE (defs₀ (F := F)) 𝒱₀ (c : Thread nD τ) none) Set.univ (onArgs (k0_part27 (F := F)) c v19 v32 v674 c1) fun a =>
        wp frame (wpE (defs₀ (F := F)) 𝒱₀ (c : Thread nD τ) none) Set.univ (onArgs (k0_part28 (F := F)) c v20 v24 v32 v674 a.1 a.2) Φ := by
  unfold onArgs
  iintro ⟨⟨#Hlev, HS6, HS7, HS8, Hw6, Hw7, Hw8, Hr6, Hr7, Hr8, Hc3, F2, F1, D, HO⟩, Hk⟩
  simp only [k0_part26_eq_skeleton]; unfold k0_part26_skel
  simp only [Prog.lift, Prog.bind_op, Prog.bind_ret, Prog.pure_eq_ret]
  iapply (ld c (m := accM) (off' := ![16 * (ui c 3).val, 0]) (off6_eq c 2) (inb' := inb_sb (ui c 3))) $$ Hc3
  iintro Hc3
  iapply (st c (m := accM) (off' := ![16 * (ui c 3).val, 0]) (off6_eq c 2) (inb' := inb_sb (ui c 3))) $$ Hc3
  rw [h37]
  iintro Hc3
  ihave D := (Entails.of_eq (RZ_far c 0)) $$ D
  iapply (hop_keep c PV K (src := sb (ui c 3)) (dst := sb (ui c 3)) 6 (Memref.slice_unit_congr _ (off7_eq c 0) _ _ _ _) (Memref.slice_unit_congr _ (off7_eq c 0) _ _ _ _) (dev11_eq c) rfl rfl (n := 5) rfl iprop(RZ (zp c) 2 ∗ RZ (zp (zp c)) 1)
    (w := GV PV c 0) rfl (BI.Entails.refl _) (by
      show _ ⊢ iprop(At (sb (ui (zn c) 0)).view (zn c) fullShare (GV PV (zp (zn c)) 0) ∗ (RZ (zp (zp (zn c))) 2 ∗ RZ (zp (zp (zp (zn c)))) 1))
      rw [zp_zn, ui_far c 0]; exact BI.Entails.refl _)) $$ [HS6 Hc3 D F2 F1 HO]
  · isplitl [HS6]; · iexact HS6
    isplitl [Hc3]; · iexact Hc3
    isplitl [D]; · iexact D
    isplitl [F2 F1]; · isplitl [F2]; · iexact F2
                       iexact F1
    iexact HO
  iintro ⟨Hcr, HO⟩
  iapply (wait_send c PV K (dst := sb (ui c 3)) 6 (Memref.slice_unit_congr _ (off7_eq c 0) _ _ _ _) rfl rfl (n := 5) (by decide)) $$ [Hw6 Hcr HO]
  · isplitl [Hw6]; · iexact Hw6
    isplitl [Hcr]; · iexact Hcr
    isplitl [HO]; · iexact HO
    iexact Hlev
  iintro ⟨%W6, Hc3, Hs6, HO⟩
  ihave Hc3 := (Entails.of_eq (show sendPay PV c (6 : Fin 12).val = At (sb (ui c 3)).view c fullShare (GV PV c 0) from rfl)) $$ Hc3
  iapply (wait_recv c PV K (dst := sb (ui c 3)) 6 (Memref.slice_unit_congr _ (off7_eq c 0) _ _ _ _) rfl rfl (n := 5) (by decide)) $$ [Hr6 HO]
  · isplitl [Hr6]; · iexact Hr6
    isplitl [HO]; · iexact HO
    iexact Hlev
  iintro ⟨%W6', Hgot, Hz6, HO⟩
  ihave Hgot := (Entails.of_eq (show recvPay PV c (6 : Fin 12).val = iprop(At (sb (ui c 0)).view c fullShare (GV PV c 1) ∗ (RZ (zp (zp c)) 2 ∗ RZ (zp (zp (zp c))) 1)) from rfl)) $$ Hgot
  icases Hgot with ⟨Hc0, ⟨F2, D⟩⟩
  rw [wp_ret]; imodintro
  simp only [k0_part27_eq_skeleton]; unfold k0_part27_skel
  simp only [Prog.lift, Prog.bind_op, Prog.bind_ret, Prog.pure_eq_ret]
  ihave D := (Entails.of_eq (RZ_far c 1)) $$ D
  iapply (hop_keep c PV K (src := sb (ui c 0)) (dst := sb (ui c 0)) 7 (Memref.slice_unit_congr _ (off7_eq c 1) _ _ _ _) (Memref.slice_unit_congr _ (off7_eq c 1) _ _ _ _) (dev12_eq c) rfl rfl (n := 4) rfl iprop(RZ (zp (zp c)) 2)
    (w := GV PV c 1) rfl (BI.Entails.refl _) (by
      show _ ⊢ iprop(At (sb (ui (zn c) 1)).view (zn c) fullShare (GV PV (zp (zn c)) 1) ∗ (RZ (zp (zp (zp (zn c)))) 2))
      rw [zp_zn, ui_far c 1]; exact BI.Entails.refl _)) $$ [HS7 Hc0 D F2 HO]
  · isplitl [HS7]; · iexact HS7
    isplitl [Hc0]; · iexact Hc0
    isplitl [D]; · iexact D
    isplitl [F2]; · iexact F2
    iexact HO
  iintro ⟨Hcr, HO⟩
  iapply (wait_send c PV K (dst := sb (ui c 0)) 7 (Memref.slice_unit_congr _ (off7_eq c 1) _ _ _ _) rfl rfl (n := 4) (by decide)) $$ [Hw7 Hcr HO]
  · isplitl [Hw7]; · iexact Hw7
    isplitl [Hcr]; · iexact Hcr
    isplitl [HO]; · iexact HO
    iexact Hlev
  iintro ⟨%W7, Hc0, Hs7, HO⟩
  ihave Hc0 := (Entails.of_eq (show sendPay PV c (7 : Fin 12).val = At (sb (ui c 0)).view c fullShare (GV PV c 1) from rfl)) $$ Hc0
  iapply (wait_recv c PV K (dst := sb (ui c 0)) 7 (Memref.slice_unit_congr _ (off7_eq c 1) _ _ _ _) rfl rfl (n := 4) (by decide)) $$ [Hr7 HO]
  · isplitl [Hr7]; · iexact Hr7
    isplitl [HO]; · iexact HO
    iexact Hlev
  iintro ⟨%W7', Hgot, Hz7, HO⟩
  ihave Hgot := (Entails.of_eq (show recvPay PV c (7 : Fin 12).val = iprop(At (sb (ui c 1)).view c fullShare (GV PV c 2) ∗ (RZ (zp (zp (zp c))) 2)) from rfl)) $$ Hgot
  icases Hgot with ⟨Hc1, D⟩
  rw [wp_ret]; imodintro
  simp only [k0_part28_eq_skeleton]; unfold k0_part28_skel
  simp only [Prog.lift, Prog.bind_op, Prog.bind_ret, Prog.pure_eq_ret]
  ihave D := (Entails.of_eq (RZ_far c 2)) $$ D
  iapply (hop_keep c PV K (src := sb (ui c 1)) (dst := sb (ui c 1)) 8 (Memref.slice_unit_congr _ (off7_eq c 2) _ _ _ _) (Memref.slice_unit_congr _ (off7_eq c 2) _ _ _ _) (dev13_eq c) rfl rfl (n := 3) rfl iprop(emp)
    (w := GV PV c 2) rfl (BI.Entails.refl _) (by
      show _ ⊢ iprop(At (sb (ui (zn c) 2)).view (zn c) fullShare (GV PV (zp (zn c)) 2) ∗ (emp))
      rw [zp_zn, ui_far c 2]; exact BI.Entails.refl _)) $$ [HS8 Hc1 D  HO]
  · isplitl [HS8]; · iexact HS8
    isplitl [Hc1]; · iexact Hc1
    isplitl [D]; · iexact D
    isplitr; · iempintro
    iexact HO
  iintro ⟨Hcr, HO⟩
  iapply (wait_send c PV K (dst := sb (ui c 1)) 8 (Memref.slice_unit_congr _ (off7_eq c 2) _ _ _ _) rfl rfl (n := 3) (by decide)) $$ [Hw8 Hcr HO]
  · isplitl [Hw8]; · iexact Hw8
    isplitl [Hcr]; · iexact Hcr
    isplitl [HO]; · iexact HO
    iexact Hlev
  iintro ⟨%W8, Hc1, Hs8, HO⟩
  ihave Hc1 := (Entails.of_eq (show sendPay PV c (8 : Fin 12).val = At (sb (ui c 1)).view c fullShare (GV PV c 2) from rfl)) $$ Hc1
  iapply (wait_recv c PV K (dst := sb (ui c 1)) 8 (Memref.slice_unit_congr _ (off7_eq c 2) _ _ _ _) rfl rfl (n := 3) (by decide)) $$ [Hr8 HO]
  · isplitl [Hr8]; · iexact Hr8
    isplitl [HO]; · iexact HO
    iexact Hlev
  iintro ⟨%W8', Hgot, Hz8, HO⟩
  ihave Hgot := (Entails.of_eq (show recvPay PV c (8 : Fin 12).val = iprop(At (sb (ui c 2)).view c fullShare (GV PV c 3) ∗ (emp)) from rfl)) $$ Hgot
  icases Hgot with ⟨Hc2, -⟩
  rw [wp_ret]; imodintro
  iapply Hk
  iexists W8'
  isplitl [HO]; · iexact HO
  isplitl [Hc0 Hc1 Hc2 Hc3]
  · iapply (chunk_gather PV c) $$ [Hc0 Hc1 Hc2 Hc3]
    isplitl [Hc0]; · iexact Hc0
    isplitl [Hc1]; · iexact Hc1
    isplitl [Hc2]; · iexact Hc2
    iexact Hc3
  isplitl [Hs6 Hz6]; · isplitl [Hs6]; · iexact Hs6
                       iexact Hz6
  isplitl [Hs7 Hz7]; · isplitl [Hs7]; · iexact Hs7
                       iexact Hz7
  isplitl [Hs8]; · iexact Hs8
  iexact Hz8

set_option maxHeartbeats 2000000 in
/-- The gather along the plane, up to the last wait. -/
theorem phasePG (v20 v24 v879 c0 : BitVec 32) (W : Waits sig Unit) (Φ : PUnit → sProp 𝕄) :
    iprop((levAts L lv ∗ Start c PV K 9 ∗ Start c PV K 10 ∗ Start c PV K 11 ∗ WaitS c PV K 9 ∗ WaitS c PV K 10 ∗ WaitS c PV K 11
        ∗ WaitR c PV K 9 ∗ WaitR c PV K 10 ∗ At (ch (qi c 3)).view c fullShare (XV PV c)
        ∗ RA (lt c) 2 ∗ RA (lt (lt c)) 1 ∗ RA (lt (lt (lt c))) 0 ∗ owes (c : Thread nD τ) (oweN c 3) W)
      ∗ ((∃ W', owes (c : Thread nD τ) (oweN c 0) W' ∗ At (ch (qi c 3)).view c fullShare (HV PV c 0) ∗ At (ch (qi c 0)).view c fullShare (HV PV c 1)
          ∗ At (ch (qi c 1)).view c fullShare (HV PV c 2) ∗ zeros c 9 ∗ zeros c 10 ∗ semVal (sendCell c 11) 0) -∗ Φ ⟨⟩))
      ⊢ wp frame (wpE (defs₀ (F := F)) 𝒱₀ (c : Thread nD τ) none) Set.univ (onArgs (k0_part29 (F := F)) c v20 v24 v879 c0) fun _ =>
        wp frame (wpE (defs₀ (F := F)) 𝒱₀ (c : Thread nD τ) none) Set.univ (onArgs (k0_part30 (F := F)) c v20 v24) Φ := by
  unfold onArgs
  iintro ⟨⟨#Hlev, HS9, HS10, HS11, Hw9, Hw10, Hw11, Hr9, Hr10, Hc3, F2, F1, D, HO⟩, Hk⟩
  simp only [k0_part29_eq_skeleton]; unfold k0_part29_skel
  simp only [Prog.lift, Prog.bind_op, Prog.bind_ret, Prog.pure_eq_ret]
  ihave D := (Entails.of_eq (RA_far c 0)) $$ D
  iapply (hop_keep c PV K (src := ch (qi c 3)) (dst := ch (qi c 3)) 9 (Memref.slice_unit_congr _ (off8_eq c 0) _ _ _ _) (Memref.slice_unit_congr _ (off8_eq c 0) _ _ _ _) (dev14_eq c) rfl rfl (n := 2) rfl iprop(RA (lt c) 2 ∗ RA (lt (lt c)) 1)
    (w := HV PV c 0) rfl (BI.Entails.refl _) (by
      show _ ⊢ iprop(At (ch (qi (rt c) 0)).view (rt c) fullShare (HV PV (lt (rt c)) 0) ∗ (RA (lt (lt (rt c))) 2 ∗ RA (lt (lt (lt (rt c)))) 1))
      rw [lt_rt, qi_far c 0]; exact BI.Entails.refl _)) $$ [HS9 Hc3 D F2 F1 HO]
  · isplitl [HS9]; · iexact HS9
    isplitl [Hc3]; · iexact Hc3
    isplitl [D]; · iexact D
    isplitl [F2 F1]; · isplitl [F2]; · iexact F2
                       iexact F1
    iexact HO
  iintro ⟨Hcr, HO⟩
  iapply (wait_send c PV K (dst := ch (qi c 3)) 9 (Memref.slice_unit_congr _ (off8_eq c 0) _ _ _ _) rfl rfl (n := 2) (by decide)) $$ [Hw9 Hcr HO]
  · isplitl [Hw9]; · iexact Hw9
    isplitl [Hcr]; · iexact Hcr
    isplitl [HO]; · iexact HO
    iexact Hlev
  iintro ⟨%W9, Hc3, Hs9, HO⟩
  ihave Hc3 := (Entails.of_eq (show sendPay PV c (9 : Fin 12).val = At (ch (qi c 3)).view c fullShare (HV PV c 0) from rfl)) $$ Hc3
  iapply (wait_recv c PV K (dst := ch (qi c 3)) 9 (Memref.slice_unit_congr _ (off8_eq c 0) _ _ _ _) rfl rfl (n := 2) (by decide)) $$ [Hr9 HO]
  · isplitl [Hr9]; · iexact Hr9
    isplitl [HO]; · iexact HO
    iexact Hlev
  iintro ⟨%W9', Hgot, Hz9, HO⟩
  ihave Hgot := (Entails.of_eq (show recvPay PV c (9 : Fin 12).val = iprop(At (ch (qi c 0)).view c fullShare (HV PV c 1) ∗ (RA (lt (lt c)) 2 ∗ RA (lt (lt (lt c))) 1)) from rfl)) $$ Hgot
  icases Hgot with ⟨Hc0, ⟨F2, D⟩⟩
  ihave D := (Entails.of_eq (RA_far c 1)) $$ D
  iapply (hop_keep c PV K (src := ch (qi c 0)) (dst := ch (qi c 0)) 10 (Memref.slice_unit_congr _ (off8_eq c 1) _ _ _ _) (Memref.slice_unit_congr _ (off8_eq c 1) _ _ _ _) (dev15_eq c) rfl rfl (n := 1) rfl iprop(RA (lt (lt c)) 2)
    (w := HV PV c 1) rfl (BI.Entails.refl _) (by
      show _ ⊢ iprop(At (ch (qi (rt c) 1)).view (rt c) fullShare (HV PV (lt (rt c)) 1) ∗ (RA (lt (lt (lt (rt c)))) 2))
      rw [lt_rt, qi_far c 1]; exact BI.Entails.refl _)) $$ [HS10 Hc0 D F2 HO]
  · isplitl [HS10]; · iexact HS10
    isplitl [Hc0]; · iexact Hc0
    isplitl [D]; · iexact D
    isplitl [F2]; · iexact F2
    iexact HO
  iintro ⟨Hcr, HO⟩
  rw [wp_ret]; imodintro
  simp only [k0_part30_eq_skeleton]; unfold k0_part30_skel
  simp only [Prog.lift, Prog.bind_op, Prog.bind_ret, Prog.pure_eq_ret]
  iapply (wait_send c PV K (dst := ch (qi c 0)) 10 (Memref.slice_unit_congr _ (off8_eq c 1) _ _ _ _) rfl rfl (n := 1) (by decide)) $$ [Hw10 Hcr HO]
  · isplitl [Hw10]; · iexact Hw10
    isplitl [Hcr]; · iexact Hcr
    isplitl [HO]; · iexact HO
    iexact Hlev
  iintro ⟨%W10, Hc0, Hs10, HO⟩
  ihave Hc0 := (Entails.of_eq (show sendPay PV c (10 : Fin 12).val = At (ch (qi c 0)).view c fullShare (HV PV c 1) from rfl)) $$ Hc0
  iapply (wait_recv c PV K (dst := ch (qi c 0)) 10 (Memref.slice_unit_congr _ (off8_eq c 1) _ _ _ _) rfl rfl (n := 1) (by decide)) $$ [Hr10 HO]
  · isplitl [Hr10]; · iexact Hr10
    isplitl [HO]; · iexact HO
    iexact Hlev
  iintro ⟨%W10', Hgot, Hz10, HO⟩
  ihave Hgot := (Entails.of_eq (show recvPay PV c (10 : Fin 12).val = iprop(At (ch (qi c 1)).view c fullShare (HV PV c 2) ∗ (RA (lt (lt (lt c))) 2)) from rfl)) $$ Hgot
  icases Hgot with ⟨Hc1, D⟩
  ihave D := (Entails.of_eq (RA_far c 2)) $$ D
  iapply (hop_keep c PV K (src := ch (qi c 1)) (dst := ch (qi c 1)) 11 (Memref.slice_unit_congr _ (off8_eq c 2) _ _ _ _) (Memref.slice_unit_congr _ (off8_eq c 2) _ _ _ _) (dev16_eq c) rfl rfl (n := 0) rfl iprop(emp)
    (w := HV PV c 2) rfl (BI.Entails.refl _) (by
      show _ ⊢ iprop(At (ch (qi (rt c) 2)).view (rt c) fullShare (HV PV (lt (rt c)) 2) ∗ (emp))
      rw [lt_rt, qi_far c 2]; exact BI.Entails.refl _)) $$ [HS11 Hc1 D  HO]
  · isplitl [HS11]; · iexact HS11
    isplitl [Hc1]; · iexact Hc1
    isplitl [D]; · iexact D
    isplitr; · iempintro
    iexact HO
  iintro ⟨Hcr, HO⟩
  iapply (wait_send c PV K (dst := ch (qi c 1)) 11 (Memref.slice_unit_congr _ (off8_eq c 2) _ _ _ _) rfl rfl (n := 0) (by decide)) $$ [Hw11 Hcr HO]
  · isplitl [Hw11]; · iexact Hw11
    isplitl [Hcr]; · iexact Hcr
    isplitl [HO]; · iexact HO
    iexact Hlev
  iintro ⟨%W11, Hc1, Hs11, HO⟩
  ihave Hc1 := (Entails.of_eq (show sendPay PV c (11 : Fin 12).val = At (ch (qi c 1)).view c fullShare (HV PV c 2) from rfl)) $$ Hc1
  rw [wp_ret]; imodintro
  iapply Hk
  iexists W11
  isplitl [HO]; · iexact HO
  isplitl [Hc3]; · iexact Hc3
  isplitl [Hc0]; · iexact Hc0
  isplitl [Hc1]; · iexact Hc1
  isplitl [Hs9 Hz9]; · isplitl [Hs9]; · iexact Hs9
                       iexact Hz9
  isplitl [Hs10 Hz10]; · isplitl [Hs10]; · iexact Hs10
                         iexact Hz10
  iexact Hs11

end Phase

end Cert.KernelIdeal.Hand

end
-- ==== Proof.HopsZ.lean ====
/-
  The hops, part by part: the reduction across the planes.
-/
module

public import proofs.«01_k».proof.Proof.HopsA

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Phase
variable (PV : Dev nD → FVec F S256x1024 .f32) (K : Dev nD × Fin 25 → ℕ) (c : Dev nD)

set_option maxHeartbeats 2000000 in
/-- The reduction across the planes, up to the last of its stores; the plane's own last store comes first. -/
theorem phaseZ (v19 v20 v32 : BitVec 32) (w₀ : FVec F S64x1024 .f32) (W : Waits sig Unit) (Φ : (Σ' (_ : BitVec 32), BitVec 32) → (Σ' (_ : BitVec 32) (_ : Vec F S16x1024 .f32), FVec F S16x1024 .f32) → sProp 𝕄) :
    iprop((levAts L lv ∗ Start c PV K 3 ∗ Start c PV K 4 ∗ Start c PV K 5 ∗ WaitS c PV K 3 ∗ WaitS c PV K 4 ∗ WaitS c PV K 5
        ∗ WaitR c PV K 3 ∗ WaitR c PV K 4 ∗ WaitR c PV K 5 ∗ slotsZ (zn c) ∗ At (ch (qi c 3)).view c fullShare w₀ ∗ owes (c : Thread nD τ) (oweN c 9) W)
      ∗ (∀ u v, (∃ W', owes (c : Thread nD τ) (oweN c 6) W' ∗ At (sb (ui c 3)).view c fullShare (sub16 ((ui c 3).val % 4) (AP PV c 3)) ∗ RZ (zp c) 2 ∗ RZ (zp (zp c)) 1 ∗ RZ (zp (zp (zp c))) 0
          ∗ slotsZ c ∗ zeros c 3 ∗ zeros c 4 ∗ zeros c 5) -∗ Φ u ⟨v, sub16 ((ui c 3).val % 4) (AP PV c 3), k0_pay36 (lead16 (ZP PV (zp c) 2))⟩))
      ⊢ wp frame (wpE (defs₀ (F := F)) 𝒱₀ (c : Thread nD τ) none) Set.univ (onArgs (k0_part22 (F := F)) c v19 v20 v32 (AP PV c 3)) fun a =>
        wp frame (wpE (defs₀ (F := F)) 𝒱₀ (c : Thread nD τ) none) Set.univ (onArgs (k0_part23 (F := F)) c v19 v32 a.1 a.2) fun v720 =>
        wp frame (wpE (defs₀ (F := F)) 𝒱₀ (c : Thread nD τ) none) Set.univ (onArgs (k0_part24 (F := F)) c v19 v32 a.1 v720) fun b =>
        wp frame (wpE (defs₀ (F := F)) 𝒱₀ (c : Thread nD τ) none) Set.univ (onArgs (k0_part25 (F := F)) c v32 a.1 b.1 b.2.1 b.2.2) (Φ a) := by
  unfold onArgs slotsZ
  iintro ⟨⟨#Hlev, HS3, HS4, HS5, Hw3, Hw4, Hw5, Hr3, Hr4, Hr5, ⟨Ha0, Ha1, Ha2⟩, Hacc, HO⟩, Hk⟩
  simp only [k0_part22_eq_skeleton]; unfold k0_part22_skel
  simp only [Prog.lift, Prog.bind_op, Prog.bind_ret, Prog.pure_eq_ret]
  iapply (st c (m := accM) (off' := ![64 * (qi c 3).val, 0]) (off4_eq c 2) (inb' := inb_ch (qi c 3))) $$ Hacc
  iintro Hacc
  ihave ⟨Hc0, Hc1, Hc2, Hc3⟩ := (chunk_subs c (AP PV c 3)) $$ Hacc
  iapply (hop_land c PV K (src := sb (ui c 0)) (dst := bl 0) 3 (Memref.slice_unit_congr _ (off5_eq c 0) _ _ _ _) rfl (dev8_eq c) rfl rfl (n := 8) rfl iprop(emp)
    (w := ZP PV c 0) rfl (BI.Entails.refl _) (by
      show _ ⊢ iprop(At (bl 0).view (zn c) fullShare (ZP PV (zp (zn c)) 0) ∗ (RZ (zp (zn c)) 0))
      rw [zp_zn]; iintro ⟨H1, H2, -⟩; isplitl [H1]; · iexact H1
      iexact H2)) $$ [HS3 Hc0 Ha0  HO]
  · isplitl [HS3]; · iexact HS3
    isplitl [Hc0]; · iexact Hc0
    isplitl [Ha0]; · iexact Ha0
    isplitr; · iempintro
    iexact HO
  iintro ⟨Hcr, HO⟩
  iapply (wait_send c PV K (dst := sb (ui c 0)) 3 (Memref.slice_unit_congr _ (off5_eq c 0) _ _ _ _) rfl rfl (n := 8) (by decide)) $$ [Hw3 Hcr HO]
  · isplitl [Hw3]; · iexact Hw3
    isplitl [Hcr]; · iexact Hcr
    isplitl [HO]; · iexact HO
    iexact Hlev
  iintro ⟨%W3, -, Hs3, HO⟩
  rw [wp_ret]; imodintro
  simp only [k0_part23_eq_skeleton]; unfold k0_part23_skel
  simp only [Prog.lift, Prog.bind_op, Prog.bind_ret, Prog.pure_eq_ret]
  iapply (wait_recv c PV K (dst := bl 0) 3 rfl rfl rfl (n := 8) (by decide)) $$ [Hr3 HO]
  · isplitl [Hr3]; · iexact Hr3
    isplitl [HO]; · iexact HO
    iexact Hlev
  iintro ⟨%W3', Hgot, Hz3, HO⟩
  ihave Hgot := (Entails.of_eq (show recvPay PV c (3 : Fin 12).val = iprop(At (bl 0).view c fullShare (ZP PV (zp c) 0) ∗ RZ (zp c) 0) from rfl)) $$ Hgot
  icases Hgot with ⟨Hl0, Hfr⟩
  icases Hfr with Hp0
  iapply (ld c (m := accM) (off' := ![16 * (ui c 1).val, 0]) (off6_eq c 0) (inb' := inb_sb (ui c 1))) $$ Hc1
  iintro Hc1
  ihave Hl0 := (Entails.of_eq (bl_lead 0 c fullShare (ZP PV (zp c) 0))) $$ Hl0
  iapply (ld c (m := blM) (off' := ![(0 : Fin 3).val, 0, 0]) rfl (inb' := inb_bl 0)) $$ Hl0
  iintro Hl0
  ihave Hl0 := (Entails.of_eq (bl_lead 0 c fullShare (ZP PV (zp c) 0)).symm) $$ Hl0
  ihave Hl0 := (At.any _ _ _) $$ Hl0
  iapply (ld c (m := accM) (off' := ![16 * (ui c 1).val, 0]) (off6_eq c 0) (inb' := inb_sb (ui c 1))) $$ Hc1
  iintro Hc1
  iapply (st c (m := accM) (off' := ![16 * (ui c 1).val, 0]) (off6_eq c 0) (inb' := inb_sb (ui c 1))) $$ Hc1
  iintro Hc1
  iapply (hop_land c PV K (src := sb (ui c 1)) (dst := bl 1) 4 (Memref.slice_unit_congr _ (off5_eq c 1) _ _ _ _) rfl (dev9_eq c) rfl rfl (n := 7) rfl iprop(RZ (zp c) 0)
    (w := ZP PV c 1) rfl (BI.Entails.refl _) (by
      show _ ⊢ iprop(At (bl 1).view (zn c) fullShare (ZP PV (zp (zn c)) 1) ∗ (RZ (zp (zn c)) 1 ∗ RZ (zp (zp (zn c))) 0))
      rw [zp_zn]; exact BI.Entails.refl _)) $$ [HS4 Hc1 Ha1 Hp0 HO]
  · isplitl [HS4]; · iexact HS4
    isplitl [Hc1]; · iexact Hc1
    isplitl [Ha1]; · iexact Ha1
    isplitl [Hp0]; · iexact Hp0
    iexact HO
  iintro ⟨Hcr, HO⟩
  rw [wp_ret]; imodintro
  simp only [k0_part24_eq_skeleton]; unfold k0_part24_skel
  simp only [Prog.lift, Prog.bind_op, Prog.bind_ret, Prog.pure_eq_ret]
  iapply (wait_send c PV K (dst := sb (ui c 1)) 4 (Memref.slice_unit_congr _ (off5_eq c 1) _ _ _ _) rfl rfl (n := 7) (by decide)) $$ [Hw4 Hcr HO]
  · isplitl [Hw4]; · iexact Hw4
    isplitl [Hcr]; · iexact Hcr
    isplitl [HO]; · iexact HO
    iexact Hlev
  iintro ⟨%W4, -, Hs4, HO⟩
  iapply (wait_recv c PV K (dst := bl 1) 4 rfl rfl rfl (n := 7) (by decide)) $$ [Hr4 HO]
  · isplitl [Hr4]; · iexact Hr4
    isplitl [HO]; · iexact HO
    iexact Hlev
  iintro ⟨%W4', Hgot, Hz4, HO⟩
  ihave Hgot := (Entails.of_eq (show recvPay PV c (4 : Fin 12).val = iprop(At (bl 1).view c fullShare (ZP PV (zp c) 1) ∗ (RZ (zp c) 1 ∗ RZ (zp (zp c)) 0)) from rfl)) $$ Hgot
  icases Hgot with ⟨Hl1, Hfr⟩
  icases Hfr with ⟨Hp1, Hq0⟩
  iapply (ld c (m := accM) (off' := ![16 * (ui c 2).val, 0]) (off6_eq c 1) (inb' := inb_sb (ui c 2))) $$ Hc2
  iintro Hc2
  ihave Hl1 := (Entails.of_eq (bl_lead 1 c fullShare (ZP PV (zp c) 1))) $$ Hl1
  iapply (ld c (m := blM) (off' := ![(1 : Fin 3).val, 0, 0]) rfl (inb' := inb_bl 1)) $$ Hl1
  iintro Hl1
  ihave Hl1 := (Entails.of_eq (bl_lead 1 c fullShare (ZP PV (zp c) 1)).symm) $$ Hl1
  ihave Hl1 := (At.any _ _ _) $$ Hl1
  iapply (ld c (m := accM) (off' := ![16 * (ui c 2).val, 0]) (off6_eq c 1) (inb' := inb_sb (ui c 2))) $$ Hc2
  iintro Hc2
  iapply (st c (m := accM) (off' := ![16 * (ui c 2).val, 0]) (off6_eq c 1) (inb' := inb_sb (ui c 2))) $$ Hc2
  iintro Hc2
  rw [wp_ret]; imodintro
  simp only [k0_part25_eq_skeleton]; unfold k0_part25_skel
  simp only [Prog.lift, Prog.bind_op, Prog.bind_ret, Prog.pure_eq_ret]
  iapply (hop_land c PV K (src := sb (ui c 2)) (dst := bl 2) 5 (Memref.slice_unit_congr _ (off5_eq c 2) _ _ _ _) rfl (dev10_eq c) rfl rfl (n := 6) rfl iprop(RZ (zp c) 1 ∗ RZ (zp (zp c)) 0)
    (w := ZP PV c 2) rfl (BI.Entails.refl _) (by
      show _ ⊢ iprop(At (bl 2).view (zn c) fullShare (ZP PV (zp (zn c)) 2) ∗ (RZ (zp (zn c)) 2 ∗ RZ (zp (zp (zn c))) 1 ∗ RZ (zp (zp (zp (zn c)))) 0))
      rw [zp_zn]; exact BI.Entails.refl _)) $$ [HS5 Hc2 Ha2 Hp1 Hq0 HO]
  · isplitl [HS5]; · iexact HS5
    isplitl [Hc2]; · iexact Hc2
    isplitl [Ha2]; · iexact Ha2
    isplitl [Hp1 Hq0]; · isplitl [Hp1]; · iexact Hp1
                         iexact Hq0
    iexact HO
  iintro ⟨Hcr, HO⟩
  iapply (wait_send c PV K (dst := sb (ui c 2)) 5 (Memref.slice_unit_congr _ (off5_eq c 2) _ _ _ _) rfl rfl (n := 6) (by decide)) $$ [Hw5 Hcr HO]
  · isplitl [Hw5]; · iexact Hw5
    isplitl [Hcr]; · iexact Hcr
    isplitl [HO]; · iexact HO
    iexact Hlev
  iintro ⟨%W5, -, Hs5, HO⟩
  iapply (wait_recv c PV K (dst := bl 2) 5 rfl rfl rfl (n := 6) (by decide)) $$ [Hr5 HO]
  · isplitl [Hr5]; · iexact Hr5
    isplitl [HO]; · iexact HO
    iexact Hlev
  iintro ⟨%W5', Hgot, Hz5, HO⟩
  ihave Hgot := (Entails.of_eq (show recvPay PV c (5 : Fin 12).val = iprop(At (bl 2).view c fullShare (ZP PV (zp c) 2) ∗ (RZ (zp c) 2 ∗ RZ (zp (zp c)) 1 ∗ RZ (zp (zp (zp c))) 0)) from rfl)) $$ Hgot
  icases Hgot with ⟨Hl2, Hfr⟩
  icases Hfr with ⟨Hp2, Hq1, Hv0⟩
  iapply (ld c (m := accM) (off' := ![16 * (ui c 3).val, 0]) (off6_eq c 2) (inb' := inb_sb (ui c 3))) $$ Hc3
  iintro Hc3
  ihave Hl2 := (Entails.of_eq (bl_lead 2 c fullShare (ZP PV (zp c) 2))) $$ Hl2
  iapply (ld c (m := blM) (off' := ![(2 : Fin 3).val, 0, 0]) rfl (inb' := inb_bl 2)) $$ Hl2
  iintro Hl2
  ihave Hl2 := (Entails.of_eq (bl_lead 2 c fullShare (ZP PV (zp c) 2)).symm) $$ Hl2
  ihave Hl2 := (At.any _ _ _) $$ Hl2
  rw [wp_ret]; imodintro
  iapply Hk
  iexists W5'
  isplitl [HO]; · iexact HO
  isplitl [Hc3]; · iexact Hc3
  isplitl [Hp2]; · iexact Hp2
  isplitl [Hq1]; · iexact Hq1
  isplitl [Hv0]; · iexact Hv0
  isplitl [Hl0 Hl1 Hl2]
  · isplitl [Hl0]; · iexact Hl0
    isplitl [Hl1]; · iexact Hl1
    iexact Hl2
  isplitl [Hs3 Hz3]; · isplitl [Hs3]; · iexact Hs3
                       iexact Hz3
  isplitl [Hs4 Hz4]; · isplitl [Hs4]; · iexact Hs4
                       iexact Hz4
  isplitl [Hs5]; · iexact Hs5
  iexact Hz5

end Phase

end Cert.KernelIdeal.Hand

end
-- ==== Proof.Sync.lean ====
/-
  The start of the body: the four signals, the wait, and the copies of the weight blocks.
-/
module

public import proofs.«01_k».proof.Proof.Heads
public import proofs.«01_k».proof.Proof.HopsA

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Sync
variable (PV : Dev nD → FVec F S256x1024 .f32) (K : Dev nD × Fin 25 → ℕ) (c : Dev nD)

/-- What signalling duty `j` of device `e`'s barrier cell needs; what waiting on one's own does. -/
def Sig (e : Dev nD) (j : Fin 4) : sProp 𝕄 :=
  iprop(cellInv ER (sched PV) (K (e, 0)) (barCell e) ∗ dutyTok ER (barCell e) 0 j ∗ reached ER (barCell e) 0)
def BarW : sProp 𝕄 :=
  iprop(cellInv ER (sched PV) (K (c, 0)) (barCell c) ∗ atPos ER (barCell c) 0 (∅ : Finset (Fin 4)) 0 ∗ cred (tallyAt (barCell c) () 4))

variable {α : Type}
variable {Q : α → sProp (MT nD τ sig Unit (Elt F) ℕ UU ℕ)}

/-- A signal pays one unit of what is owed to `e`'s barrier cell, and hands over the duty's payload. -/
theorem signal_bar {e' : Dev nD} (e : Dev nD) (he : e' = e) (j : Fin 4) {O : CellTallies nD τ sig Unit} {W : Waits sig Unit}
    {kk : PUnit → Prog (TpuEff nD τ sig (Elt F) Λ₀ .tc) α} {n : ℕ} (hn : n = 1) :
    (iprop(Sig PV K e j ∗ barPay e j ∗ owes (c : Thread nD τ) (O + tallyAt (barCell e) () 1) W) : sProp 𝕄)
      ⊢ iprop((owes (c : Thread nD τ) O W -∗ wp frame (wpE (defs₀ (F := F)) 𝒱₀ (c : Thread nD τ) none) Set.univ (kk ⟨⟩) Q)
        -∗ wp frame (wpE (defs₀ (F := F)) 𝒱₀ (c : Thread nD τ) none) Set.univ (.op (.semSignal (e' : Thread nD τ) barS n) kk) Q) := by
  subst he hn
  unfold Sig
  iintro ⟨⟨Hi, Ht, Hr⟩, Hp, HO⟩ Hk
  iapply (Rounds.wp_signal 𝒱₀ ER (sched PV) (c : Thread nD τ) none (dst := (e' : Thread nD τ)) (κ := K (e', 0))
      (d := j) (by rw [duties_bar]; exact Finset.mem_univ _) (amount_bar PV e' j) () O rfl) $$ [Hi Ht Hr Hp HO]
  · isplitl [Hi]; · iexact Hi
    isplitl [HO]; · iexact HO
    isplitl [Ht]; · iexact Ht
    isplitl [Hp]; · rw [payload_bar]; iexact Hp
    iexact Hr
  iexact Hk

/-- A device's own words. -/
theorem words (Φ : (Σ' (_ : Dev nD) (_ : BitVec 32) (_ : BitVec 32) (_ : BitVec 32) (_ : BitVec 32) (_ : BitVec 32) (_ : BitVec 32), BitVec 32) → sProp 𝕄) :
    (iprop(∀ v : (Σ' (_ : BitVec 32) (_ : BitVec 32) (_ : BitVec 32) (_ : BitVec 32) (_ : BitVec 32) (_ : BitVec 32), BitVec 32), Φ ⟨c, v⟩) : sProp 𝕄)
      ⊢ wp frame (wpE (defs₀ (F := F)) 𝒱₀ (c : Thread nD τ) none) Set.univ (onArgs (k0_part1 (F := F))) Φ := by
  unfold onArgs
  iintro Hk
  simp only [k0_part1_eq_skeleton]; unfold k0_part1_skel
  simp only [Prog.lift, Prog.bind_op, Prog.bind_ret, Prog.pure_eq_ret, wp_deviceId]
  rw [wp_ret]; imodintro
  iapply Hk

/-- The blocks of the two weight matrices that the device reads. -/
abbrev wqS : Memref sig .tc .hbm S1024x1024 .f32 :=
  (Memref.whole main_arg1).slice (Rect.unit (s := S1024x16384) (k0_off1 c) S1024x1024.size (k0_off1_inb c)) (fun _ => rfl)
abbrev woS : Memref sig .tc .hbm S1024x1024 .f32 :=
  (Memref.whole main_arg4).slice (Rect.unit (s := S16384x1024) (k0_off2 c) S1024x1024.size (k0_off2_inb c)) (fun _ => rfl)

set_option maxHeartbeats 2000000 in
/-- The barrier, and the copies of the weight blocks start. -/
theorem sync (v2 v24 v28 v32 v36 : BitVec 32) (wq wo : FVec F S1024x1024 .f32) (W : Waits sig Unit) (Φ : PUnit → sProp 𝕄) :
    iprop((levAts L lv ∗ (Sig PV K (lt c) 0 ∗ Sig PV K (rt c) 1 ∗ Sig PV K (zp c) 2 ∗ Sig PV K (zn c) 3 ∗ BarW PV K c) ∗ slotsA c ∗ slotsZ c
        ∗ At (wqS c).view c fullShare wq ∗ Any (F := F) wqM.view c ∗ semVal ((c : Thread nD τ), .dma (wsm 0)) 0
        ∗ At (woS c).view c fullShare wo ∗ Any (F := F) woM.view c ∗ semVal ((c : Thread nD τ), .dma (wsm 1)) 0
        ∗ owes (c : Thread nD τ) (O₀ c) W)
      ∗ ((∃ W', slotsA (rt c) ∗ slotsZ (zn c) ∗ semVal (barCell c) 0 ∗ Fly c (wsm 0) (wqS c).view wqM.view fullShare wq
          ∗ Fly c (wsm 1) (woS c).view woM.view fullShare wo ∗ owes (c : Thread nD τ) (oweN c 12) W') -∗ Φ ⟨⟩))
      ⊢ wp frame (wpE (defs₀ (F := F)) 𝒱₀ (c : Thread nD τ) none) Set.univ (onArgs (k0_part2 (F := F)) c v2 v24 v28 v32 v36) Φ := by
  unfold onArgs
  iintro ⟨⟨#Hlev, ⟨S0, S1, S2, S3, HB⟩, HA, HZ, Hq, Bq, Zq, Ho, Bo, Zo, HO⟩, Hk⟩
  unfold BarW
  icases HB with ⟨#Hi, Ha, Hc⟩
  simp only [k0_part2_eq_skeleton]; unfold k0_part2_skel
  simp only [semSignalWord, semWaitWord, Prog.lift, Prog.bind_op, Prog.bind_ret, Prog.pure_eq_ret]
  unfold O₀
  iapply (signal_bar PV K c (lt c) (dev1_eq c) 0 rfl) $$ [S0 HA HO]
  · isplitl [S0]; · iexact S0
    isplitl [HA]
    · unfold barPay; rw [rt_lt]; iexact HA
    iexact HO
  iintro HO
  iapply (signal_bar PV K c (rt c) (dev2_eq c) 1 rfl) $$ [S1 HO]
  · isplitl [S1]; · iexact S1
    isplitr; · unfold barPay; iempintro
    iexact HO
  iintro HO
  iapply (signal_bar PV K c (zp c) (dev3_eq c) 2 rfl) $$ [S2 HZ HO]
  · isplitl [S2]; · iexact S2
    isplitl [HZ]
    · unfold barPay; rw [zn_zp]; iexact HZ
    iexact HO
  iintro HO
  iapply (signal_bar PV K c (zn c) (dev4_eq c) 3 rfl) $$ [S3 HO]
  · isplitl [S3]; · iexact S3
    isplitr; · unfold barPay; iempintro
    iexact HO
  iintro HO
  iapply (Rounds.wp_wait_rest_token 𝒱₀ ER (sched PV) (c : Thread nD τ) none (κ := K (c, 0))
      (wpE_semWait_eq 𝒱₀ (c : Thread nD τ) none Set.univ) (Set.mem_univ _) () (O := oweN c 12) (W := W) (R := 0) (m := 0) (T := ∅)
      (by rw [expect_bar]; decide)) $$ [Hc HO Ha]
  · isplitr; · iexact Hi
    isplitl [Hc]; · iexact Hc
    isplitl [HO]; · iexact HO
    isplitr; · iapply (mayWait_oweN c 12 (Nat.le_refl _) _ (by show 1 < 14 - 12; omega)); iexact Hlev
    iexact Ha
  iintro ⟨HO, Ha, -, Hp⟩
  ihave Hp := (Entails.of_eq (rest_bar PV c)) $$ Hp
  icases Hp with ⟨HA, -, HZ, -⟩
  imod (Rounds.cell_close ER (sched PV) (Set.mem_univ (K (c, 0))) (fun h => h) (R := 0 + 1) (duties_later PV (barCell c))) $$ [Ha] with Hz
  · isplitr; · iexact Hi
    iexact Ha
  iapply (copy_start c (src := wqS c) (dst := wqM) (sm := wsm 0) (by decide)) $$ [Hq Bq Zq]
  · isplitl [Hq]; · iexact Hq
    isplitl [Bq]; · iexact Bq
    iexact Zq
  iintro Fq
  iapply (copy_start c (src := woS c) (dst := woM) (sm := wsm 1) (by decide)) $$ [Ho Bo Zo]
  · isplitl [Ho]; · iexact Ho
    isplitl [Bo]; · iexact Bo
    iexact Zo
  iintro Fo
  rw [wp_ret]; imodintro
  iapply Hk
  iexists _
  isplitl [HA]; · iexact HA
  isplitl [HZ]; · iexact HZ
  isplitl [Hz]; · iexact Hz
  isplitl [Fq]; · iexact Fq
  isplitl [Fo]; · iexact Fo
  iexact HO

end Sync

end Cert.KernelIdeal.Hand

end
-- ==== Proof.Scratch.lean ====
/-
  The scratch buffers, whole and in the pieces that the body uses.
-/
module

public import proofs.«01_k».proof.Proof.Heads
public import proofs.«01_k».proof.Proof.HopsA

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev rL (s : Fin 3) : Rect S3x64x1024 := Rect.unit (s := S3x64x1024) ![s.val, 0, 0] S1x64x1024.size (inb_al s)
abbrev rL0 : Rect S3x64x1024 := Rect.unit (s := S3x64x1024) ![0, 0, 0] S3x64x1024.size (by decide)
theorem al_disjoint : ∀ t t' : Fin 3, t ≠ t' → Disjoint (rL t).set (rL t').set :=
  fun t t' h => axis_disjoint (0 : Fin 3) (by
    have : t.val ≠ t'.val := fun e => h (Fin.ext e)
    show t.val + 1 ≤ t'.val ∨ t'.val + 1 ≤ t.val; omega)
theorem al_cover : Finset.univ.biUnion (fun t : Fin 3 => (rL t).set) = rL0.set :=
  axis_cover (s := S3x64x1024) (0 : Fin 3) (fun t b hb => by fin_cases b <;> first | exact ⟨rfl, rfl⟩ | exact absurd rfl hb)
    (fun t => by show t.val = 0 + 1 * t.val; omega) rfl
abbrev rM (s : Fin 3) : Rect S3x16x1024 := Rect.unit (s := S3x16x1024) ![s.val, 0, 0] S1x16x1024.size (inb_bl s)
abbrev rM0 : Rect S3x16x1024 := Rect.unit (s := S3x16x1024) ![0, 0, 0] S3x16x1024.size (by decide)
theorem bl_disjoint : ∀ t t' : Fin 3, t ≠ t' → Disjoint (rM t).set (rM t').set :=
  fun t t' h => axis_disjoint (0 : Fin 3) (by
    have : t.val ≠ t'.val := fun e => h (Fin.ext e)
    show t.val + 1 ≤ t'.val ∨ t'.val + 1 ≤ t.val; omega)
theorem bl_cover : Finset.univ.biUnion (fun t : Fin 3 => (rM t).set) = rM0.set :=
  axis_cover (s := S3x16x1024) (0 : Fin 3) (fun t b hb => by fin_cases b <;> first | exact ⟨rfl, rfl⟩ | exact absurd rfl hb)
    (fun t => by show t.val = 0 + 1 * t.val; omega) rfl

section Own
variable (c : Dev nD)

omit [FloatOps F] in
theorem sep3 (Φ : Fin 3 → sProp 𝕄) : bigSep Finset.univ Φ = iprop(Φ 0 ∗ Φ 1 ∗ Φ 2) := by
  rw [bigSep_univ_eq_bigSepL [0, 1, 2] (by decide) (by decide)]; rfl

omit [FloatOps F] in
theorem slotsA_eq : (slotsA c : sProp 𝕄) = bigSep Finset.univ fun t : Fin 3 => Any (F := F) ((Memref.whole cc0_scratch2).view.slice (rL t)) c := by
  unfold slotsA
  rw [sep3, Any.reshape (al1 0).view (squeezes_S1x64x1024_S64x1024).numel_eq, Any.reshape (al1 1).view (squeezes_S1x64x1024_S64x1024).numel_eq,
    Any.reshape (al1 2).view (squeezes_S1x64x1024_S64x1024).numel_eq]
omit [FloatOps F] in
theorem slotsZ_eq : (slotsZ c : sProp 𝕄) = bigSep Finset.univ fun t : Fin 3 => Any (F := F) ((Memref.whole cc0_scratch3).view.slice (rM t)) c := by
  unfold slotsZ
  rw [sep3, Any.reshape (bl1 0).view (squeezes_S1x16x1024_S16x1024).numel_eq, Any.reshape (bl1 1).view (squeezes_S1x16x1024_S16x1024).numel_eq,
    Any.reshape (bl1 2).view (squeezes_S1x16x1024_S16x1024).numel_eq]

omit [FloatOps F] in
theorem slotsA_split : (Any (F := F) alM.view c : sProp 𝕄) ⊢ slotsA c := by
  rw [← Any.full alM.view c zero3 (by decide), slotsA_eq]
  exact Any.split cc0_scratch2 c rL0 rL al_disjoint al_cover
omit [FloatOps F] in
theorem slotsA_join (d : FVec F S3x64x1024 .f32) : (slotsA c : sProp 𝕄) ⊢ Any (F := F) alM.view c := by
  rw [← Any.full alM.view c zero3 (by decide), slotsA_eq]
  exact Any.join cc0_scratch2 c rL0 rL al_disjoint al_cover (fun i => d i)
omit [FloatOps F] in
theorem slotsZ_split : (Any (F := F) blM.view c : sProp 𝕄) ⊢ slotsZ c := by
  rw [← Any.full blM.view c zero3 (by decide), slotsZ_eq]
  exact Any.split cc0_scratch3 c rM0 rM bl_disjoint bl_cover
omit [FloatOps F] in
theorem slotsZ_join (d : FVec F S3x16x1024 .f32) : (slotsZ c : sProp 𝕄) ⊢ Any (F := F) blM.view c := by
  rw [← Any.full blM.view c zero3 (by decide), slotsZ_eq]
  exact Any.join cc0_scratch3 c rM0 rM bl_disjoint bl_cover (fun i => d i)
omit [FloatOps F] in
theorem kb_join (d : FVec F S2x4096x128 .f32) : (iprop(Any (F := F) (kb 0).view c ∗ Any (F := F) (kb 1).view c) : sProp 𝕄) ⊢ Any (F := F) kbM.view c := by
  rw [← Any.full kbM.view c zero3 (by decide)]
  refine BIBase.Entails.trans (Entails.of_eq ?_) (Any.join cc0_scratch4 c rT0 rT slots_disjoint slots_cover (fun i => d i))
  rw [sep2, Any.reshape (kb1 0).view (squeezes_S1x4096x128_S4096x128).numel_eq, Any.reshape (kb1 1).view (squeezes_S1x4096x128_S4096x128).numel_eq]
omit [FloatOps F] in
theorem vb_join (d : FVec F S2x4096x128 .f32) : (iprop(Any (F := F) (vb 0).view c ∗ Any (F := F) (vb 1).view c) : sProp 𝕄) ⊢ Any (F := F) vbM.view c := by
  rw [← Any.full vbM.view c zero3 (by decide)]
  refine BIBase.Entails.trans (Entails.of_eq ?_) (Any.join cc0_scratch5 c rT0 rT slots_disjoint slots_cover (fun i => d i))
  rw [sep2, Any.reshape (vb1 0).view (squeezes_S1x4096x128_S4096x128).numel_eq, Any.reshape (vb1 1).view (squeezes_S1x4096x128_S4096x128).numel_eq]

end Own

end Cert.KernelIdeal.Hand

end
-- ==== Proof.Body.lean ====
/-
  The body of the kernel on a device: the parts in order, from what the launch gives to what it takes back.
-/
module

public import proofs.«01_k».proof.Proof.LocalA
public import proofs.«01_k».proof.Proof.LocalB
public import proofs.«01_k».proof.Proof.HopsG
public import proofs.«01_k».proof.Proof.HopsZ
public import proofs.«01_k».proof.Proof.Sync
public import proofs.«01_k».proof.Proof.Scratch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The end of the body: the last chunk arrives, and the result goes to its staging buffer. -/
def tail (d0 : Dev nD) : Prog (TpuEff nD τ sig (Elt F) Λ₀ .tc) PUnit := do
  Prog.lift (.waitDma2 (recvS 11) (accM.slice (Rect.unit (s := S256x1024) (k0_off8 d0 2#32) S64x1024.size (k0_off8_inb d0 2)) (fun _ => rfl))
    (accM.slice (Rect.unit (s := S256x1024) (k0_off8 d0 2#32) S64x1024.size (k0_off8_inb d0 2)) (fun _ => rfl)) (View.wordExact_bits rfl) (View.wordExact_bits rfl))
  let v945 : Vec F S256x1024 .f32 ← Prog.lift (.load accM (Rect.unit (s := S256x1024) ![0, 0] S256x1024.size inb_S256x1024_S256x1024_0_0).toLoadRect (View.loadsAt_vmem h_S256x1024))
  let _v946 : Vec F S256x1024 .f32 ← Prog.lift (.load (Memref.whole cc0_stg1_0) (Rect.unit (s := S256x1024) ![0, 0] S256x1024.size inb_S256x1024_S256x1024_0_0).toLoadRect (View.loadsAt_vmem h_S256x1024))
  Prog.lift (.store (Memref.whole cc0_stg1_0) (Rect.unit (s := S256x1024) ![0, 0] S256x1024.size inb_S256x1024_S256x1024_0_0) v945 Finset.univ (View.stores_vmem_bits_univ h_S256x1024 rfl) (.inl rfl))
  pure ⟨⟩

set_option maxRecDepth 65536 in
set_option maxHeartbeats 4000000 in
/-- The body is its parts, one after the other. -/
theorem body_parts (c : Dev nD) (Q : PUnit → sProp 𝕄) :
    wp frame (wpE (defs₀ (F := F)) 𝒱₀ (c : Thread nD τ) none) Set.univ (onArgs (cc0__body (F := F))) Q
      = (        wp frame (wpE (defs₀ (F := F)) 𝒱₀ (c : Thread nD τ) none) Set.univ (onArgs (k0_part1 (F := F))) fun r =>
        wp frame (wpE (defs₀ (F := F)) 𝒱₀ (c : Thread nD τ) none) Set.univ (onArgs (k0_part2 (F := F)) r.1 r.2.1 r.2.2.2.2.1 r.2.2.2.2.2.1 r.2.2.2.2.2.2.1 r.2.2.2.2.2.2.2) fun _ =>
        wp frame (wpE (defs₀ (F := F)) 𝒱₀ (c : Thread nD τ) none) Set.univ (onArgs (k0_part3 (F := F)) r.1) fun a =>
        wp frame (wpE (defs₀ (F := F)) 𝒱₀ (c : Thread nD τ) none) Set.univ (onArgs (k0_part4 (F := F)) a.2.1 a.2.2.1 a.2.2.2.1 a.2.2.2.2.1 a.2.2.2.2.2) fun b =>
        wp frame (wpE (defs₀ (F := F)) 𝒱₀ (c : Thread nD τ) none) Set.univ (onArgs (k0_part5 (F := F)) b.1 b.2.1 b.2.2.1 b.2.2.2.1 b.2.2.2.2.1 b.2.2.2.2.2) fun m =>
        wp frame (wpE (defs₀ (F := F)) 𝒱₀ (c : Thread nD τ) none) Set.univ (onArgs (k0_part6 (F := F)) a.1 m) fun _ =>
        wp frame (wpE (defs₀ (F := F)) 𝒱₀ (c : Thread nD τ) none) Set.univ (onArgs (k0_part7 (F := F)) a.1 m) fun u7 =>
        wp frame (wpE (defs₀ (F := F)) 𝒱₀ (c : Thread nD τ) none) Set.univ (onArgs (k0_part8 (F := F)) u7) fun _ =>
        wp frame (wpE (defs₀ (F := F)) 𝒱₀ (c : Thread nD τ) none) Set.univ (onArgs (k0_part9 (F := F)) a.1 m) fun e =>
        wp frame (wpE (defs₀ (F := F)) 𝒱₀ (c : Thread nD τ) none) Set.univ (onArgs (k0_part10 (F := F)) a.1 e.1 e.2) fun u10 =>
        wp frame (wpE (defs₀ (F := F)) 𝒱₀ (c : Thread nD τ) none) Set.univ (onArgs (k0_part11 (F := F)) m u10) fun _ =>
        wp frame (wpE (defs₀ (F := F)) 𝒱₀ (c : Thread nD τ) none) Set.univ (onArgs (k0_part12 (F := F)) a.1 m) fun u12 =>
        wp frame (wpE (defs₀ (F := F)) 𝒱₀ (c : Thread nD τ) none) Set.univ (onArgs (k0_part13 (F := F)) u12) fun _ =>
        wp frame (wpE (defs₀ (F := F)) 𝒱₀ (c : Thread nD τ) none) Set.univ (onArgs (k0_part14 (F := F)) a.1 m) fun _ =>
        wp frame (wpE (defs₀ (F := F)) 𝒱₀ (c : Thread nD τ) none) Set.univ (onArgs (k0_part15 (F := F)) a.1) fun f =>
        wp frame (wpE (defs₀ (F := F)) 𝒱₀ (c : Thread nD τ) none) Set.univ (onArgs (k0_part16 (F := F)) m f.1 f.2) fun _ =>
        wp frame (wpE (defs₀ (F := F)) 𝒱₀ (c : Thread nD τ) none) Set.univ (onArgs (k0_part17 (F := F)) r.1 a.1 m) fun g =>
        wp frame (wpE (defs₀ (F := F)) 𝒱₀ (c : Thread nD τ) none) Set.univ (onArgs (k0_part18 (F := F)) r.1 r.2.2.2.1 r.2.2.2.2.1 g.1 g.2.1 g.2.2) fun u18 =>
        wp frame (wpE (defs₀ (F := F)) 𝒱₀ (c : Thread nD τ) none) Set.univ (onArgs (k0_part19 (F := F)) r.1 r.2.2.2.1 r.2.2.2.2.1 u18) fun u19 =>
        wp frame (wpE (defs₀ (F := F)) 𝒱₀ (c : Thread nD τ) none) Set.univ (onArgs (k0_part20 (F := F)) r.1 r.2.2.2.1 r.2.2.2.2.1 u19) fun u20 =>
        wp frame (wpE (defs₀ (F := F)) 𝒱₀ (c : Thread nD τ) none) Set.univ (onArgs (k0_part21 (F := F)) r.1 r.2.2.2.2.1 u20) fun u21 =>
        wp frame (wpE (defs₀ (F := F)) 𝒱₀ (c : Thread nD τ) none) Set.univ (onArgs (k0_part22 (F := F)) r.1 r.2.2.1 r.2.2.2.1 r.2.2.2.2.2.2.1 u21) fun h =>
        wp frame (wpE (defs₀ (F := F)) 𝒱₀ (c : Thread nD τ) none) Set.univ (onArgs (k0_part23 (F := F)) r.1 r.2.2.1 r.2.2.2.2.2.2.1 h.1 h.2) fun u23 =>
        wp frame (wpE (defs₀ (F := F)) 𝒱₀ (c : Thread nD τ) none) Set.univ (onArgs (k0_part24 (F := F)) r.1 r.2.2.1 r.2.2.2.2.2.2.1 h.1 u23) fun i =>
        wp frame (wpE (defs₀ (F := F)) 𝒱₀ (c : Thread nD τ) none) Set.univ (onArgs (k0_part25 (F := F)) r.1 r.2.2.2.2.2.2.1 h.1 i.1 i.2.1 i.2.2) fun j =>
        wp frame (wpE (defs₀ (F := F)) 𝒱₀ (c : Thread nD τ) none) Set.univ (onArgs (k0_part26 (F := F)) r.1 r.2.2.1 r.2.2.2.2.2.2.1 h.1 j.1 j.2.1 j.2.2) fun u26 =>
        wp frame (wpE (defs₀ (F := F)) 𝒱₀ (c : Thread nD τ) none) Set.univ (onArgs (k0_part27 (F := F)) r.1 r.2.2.1 r.2.2.2.2.2.2.1 h.1 u26) fun k =>
        wp frame (wpE (defs₀ (F := F)) 𝒱₀ (c : Thread nD τ) none) Set.univ (onArgs (k0_part28 (F := F)) r.1 r.2.2.2.1 r.2.2.2.2.1 r.2.2.2.2.2.2.1 h.1 k.1 k.2) fun l =>
        wp frame (wpE (defs₀ (F := F)) 𝒱₀ (c : Thread nD τ) none) Set.univ (onArgs (k0_part29 (F := F)) r.1 r.2.2.2.1 r.2.2.2.2.1 l.1 l.2) fun _ =>
        wp frame (wpE (defs₀ (F := F)) 𝒱₀ (c : Thread nD τ) none) Set.univ (onArgs (k0_part30 (F := F)) r.1 r.2.2.2.1 r.2.2.2.2.1) fun _ =>
        wp frame (wpE (defs₀ (F := F)) 𝒱₀ (c : Thread nD τ) none) Set.univ (tail r.1) Q) := by
  rw [cc0__body_eq_skeleton]
  simp only [← wp_bind]
  rfl

abbrev outM : Memref sig .tc .vmem S256x1024 .f32 := Memref.whole cc0_stg1_0

omit [FloatOps F] in
theorem sep12 (Φ : Fin 12 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [bigSep_univ_eq_bigSepL [0, 1, 2, 3, 4, 5, 6, 7, 8, 9, 10, 11] (by decide) (by decide)]; rfl

section Whole
variable (X : Dev nD → FVec F S256x1024 .f32) (Wq : Dev nD → FVec F S1024x16384 .f32) (KC VC : Dev nD → FVec F S4096x8x128 .f32) (Wo : Dev nD → FVec F S16384x1024 .f32)
variable (PV : Dev nD → FVec F S256x1024 .f32) (K : Dev nD × Fin 25 → ℕ) (c : Dev nD)

omit [FloatOps F] in
/-- The first five panels and then the last three make the whole. -/
theorem ct_wand (f : ℕ → FVec F S256x128 .f32) :
    (iprop(At (pn 0) c fullShare (f 0) ∗ At (pn 1) c fullShare (f 1) ∗ At (pn 2) c fullShare (f 2) ∗ At (pn 3) c fullShare (f 3) ∗ At (pn 4) c fullShare (f 4)) : sProp 𝕄)
      ⊢ iprop((At (pn 5) c fullShare (f 5) ∗ At (pn 6) c fullShare (f 6) ∗ At (pn 7) c fullShare (f 7)) -∗ At ctM.view c fullShare (catP f)) := by
  iintro ⟨P0, P1, P2, P3, P4⟩ ⟨P5, P6, P7⟩
  iapply (ct_join c f)
  rw [sep8]
  isplitl [P0]; · iexact P0
  isplitl [P1]; · iexact P1
  isplitl [P2]; · iexact P2
  isplitl [P3]; · iexact P3
  isplitl [P4]; · iexact P4
  isplitl [P5]; · iexact P5
  isplitl [P6]; · iexact P6
  iexact P7

/-- What every hop needs, and the counters it leaves. -/
def hops : sProp 𝕄 := bigSep Finset.univ fun k : Fin 12 => iprop(Start c PV K k ∗ WaitS c PV K k ∗ WaitR c PV K k)
def hopsZ : sProp 𝕄 := bigSep Finset.univ fun k : Fin 12 => zeros (F := F) c k
/-- The buffers and the local counters, before and after. -/
def bodyIn : sProp 𝕄 :=
  iprop(At xM.view c fullShare (X c) ∗ At (Memref.whole main_arg1 : Memref sig .tc .hbm S1024x16384 .f32).view c fullShare (Wq c) ∗ At kM.view c fullShare (KC c) ∗ At vM.view c fullShare (VC c)
    ∗ At (Memref.whole main_arg4 : Memref sig .tc .hbm S16384x1024 .f32).view c fullShare (Wo c) ∗ Any (F := F) outM.view c
    ∗ Any (F := F) ctM.view c ∗ Any (F := F) accM.view c ∗ Any (F := F) alM.view c ∗ Any (F := F) blM.view c ∗ Any (F := F) kbM.view c ∗ Any (F := F) vbM.view c
    ∗ Any (F := F) wqM.view c ∗ Any (F := F) woM.view c
    ∗ semVal ((c : Thread nD τ), .dma (ksm 0)) 0 ∗ semVal ((c : Thread nD τ), .dma (ksm 1)) 0 ∗ semVal ((c : Thread nD τ), .dma (vsm 0)) 0 ∗ semVal ((c : Thread nD τ), .dma (vsm 1)) 0
    ∗ semVal ((c : Thread nD τ), .dma (wsm 0)) 0 ∗ semVal ((c : Thread nD τ), .dma (wsm 1)) 0)
def bodyOut : sProp 𝕄 :=
  iprop(At xM.view c fullShare (X c) ∗ At (Memref.whole main_arg1 : Memref sig .tc .hbm S1024x16384 .f32).view c fullShare (Wq c) ∗ At kM.view c fullShare (KC c) ∗ At vM.view c fullShare (VC c)
    ∗ At (Memref.whole main_arg4 : Memref sig .tc .hbm S16384x1024 .f32).view c fullShare (Wo c) ∗ At outM.view c fullShare (OV PV c)
    ∗ Any (F := F) ctM.view c ∗ Any (F := F) accM.view c ∗ Any (F := F) alM.view c ∗ Any (F := F) blM.view c ∗ Any (F := F) kbM.view c ∗ Any (F := F) vbM.view c
    ∗ Any (F := F) wqM.view c ∗ Any (F := F) woM.view c
    ∗ semVal ((c : Thread nD τ), .dma (ksm 0)) 0 ∗ semVal ((c : Thread nD τ), .dma (ksm 1)) 0 ∗ semVal ((c : Thread nD τ), .dma (vsm 0)) 0 ∗ semVal ((c : Thread nD τ), .dma (vsm 1)) 0
    ∗ semVal ((c : Thread nD τ), .dma (wsm 0)) 0 ∗ semVal ((c : Thread nD τ), .dma (wsm 1)) 0)

set_option maxHeartbeats 1000000 in
/-- The body on device `c`: its staging buffer ends at the sum, over the devices, of the partial results. -/
theorem body (hPV : PVof X Wq KC VC Wo = PV) (W : Waits sig Unit) (Q : PUnit → sProp 𝕄) :
    iprop((levAts L lv ∗ (Sig PV K (lt c) 0 ∗ Sig PV K (rt c) 1 ∗ Sig PV K (zp c) 2 ∗ Sig PV K (zn c) 3 ∗ BarW PV K c) ∗ hops PV K c ∗ bodyIn X Wq KC VC Wo c
        ∗ owes (c : Thread nD τ) (O₀ c) W)
      ∗ ((∃ W', bodyOut X Wq KC VC Wo PV c ∗ hopsZ c ∗ semVal (barCell c) 0 ∗ owes (c : Thread nD τ) (oweN c 0) W') -∗ Q ⟨⟩))
      ⊢ wp frame (wpE (defs₀ (F := F)) 𝒱₀ (c : Thread nD τ) none) Set.univ (onArgs (cc0__body (F := F))) Q := by
  rw [body_parts]
  unfold bodyIn hops
  rw [sep12]
  iintro ⟨⟨#Hlev, HB, ⟨⟨S0, T0, R0⟩, ⟨S1, T1, R1⟩, ⟨S2, T2, R2⟩, ⟨S3, T3, R3⟩, ⟨S4, T4, R4⟩, ⟨S5, T5, R5⟩, ⟨S6, T6, R6⟩, ⟨S7, T7, R7⟩, ⟨S8, T8, R8⟩, ⟨S9, T9, R9⟩, ⟨S10, T10, R10⟩, ⟨S11, T11, R11⟩⟩, ⟨HX, HWq, HK, HV, HWo, HO5, HC, HA, HAL, HBL, HKB, HVB, Bq, Bo, Zk0, Zk1, Zv0, Zv1, Zq, Zo⟩, HO⟩, Hk⟩
  ihave HAL := (slotsA_split c) $$ HAL
  ihave HBL := (slotsZ_split c) $$ HBL
  ihave ⟨Bk0, Bk1⟩ := (kb_split c) $$ HKB
  ihave ⟨Bv0, Bv1⟩ := (vb_split c) $$ HVB
  ihave HC := ((ct_split c).trans (Entails.of_eq (sep8 _))) $$ HC
  icases HC with ⟨P0, P1, P2, P3, P4, P5, P6, P7⟩
  ihave HK := ((k_split c (KC c)).trans (Entails.of_eq (sep8 _))) $$ HK
  icases HK with ⟨Hk0, Hk1, Hk2, Hk3, Hk4, Hk5, Hk6, Hk7⟩
  ihave HV := ((v_split c (VC c)).trans (Entails.of_eq (sep8 _))) $$ HV
  icases HV with ⟨Hv0, Hv1, Hv2, Hv3, Hv4, Hv5, Hv6, Hv7⟩
  ihave ⟨Hwq, HWq⟩ := (At.lend (Memref.whole main_arg1 : Memref sig .tc .hbm S1024x16384 .f32).view (Rect.unit (s := S1024x16384) (k0_off1 c) S1024x1024.size (k0_off1_inb c)) c fullShare (Wq c)) $$ HWq
  ihave ⟨Hwo, HWo⟩ := (At.lend (Memref.whole main_arg4 : Memref sig .tc .hbm S16384x1024 .f32).view (Rect.unit (s := S16384x1024) (k0_off2 c) S1024x1024.size (k0_off2_inb c)) c fullShare (Wo c)) $$ HWo
  iapply (words c)
  iintro %v
  dsimp only
  iapply (sync PV K c (v.1) (v.2.2.2.1) (v.2.2.2.2.1) (v.2.2.2.2.2.1) (v.2.2.2.2.2.2) (wqB Wq c) (woB Wo c) _ _)
  isplitl [HB HAL HBL Hwq Bq Zq Hwo Bo Zo HO]
  · isplitr; · iexact Hlev
    isplitl [HB]; · iexact HB
    isplitl [HAL]; · iexact HAL
    isplitl [HBL]; · iexact HBL
    isplitl [Hwq]; · iexact Hwq
    isplitl [Bq]; · iexact Bq
    isplitl [Zq]; · iexact Zq
    isplitl [Hwo]; · iexact Hwo
    isplitl [Bo]; · iexact Bo
    isplitl [Zo]; · iexact Zo
    iexact HO
  iintro ⟨%W1, SA, SZ, Zb, FWq, FWo, HO⟩
  -- the heads
  iapply (local1 c (KC c) (VC c) (wqS c) fullShare (X c) (wqB Wq c) _ _)
  isplitl [HX FWq Hk0 Bk0 Zk0 Hv0 Bv0 Zv0 Hk1 Bk1 Zk1 Hv1 Bv1 Zv1 P0 HO]
  · isplitr; · iexact Hlev
    isplitl [HX]; · iexact HX
    isplitl [FWq]; · iexact FWq
    isplitl [Hk0]; · iexact Hk0
    isplitl [Bk0]; · iexact Bk0
    isplitl [Zk0]; · iexact Zk0
    isplitl [Hv0]; · iexact Hv0
    isplitl [Bv0]; · iexact Bv0
    isplitl [Zv0]; · iexact Zv0
    isplitl [Hk1]; · iexact Hk1
    isplitl [Bk1]; · iexact Bk1
    isplitl [Zk1]; · iexact Zk1
    isplitl [Hv1]; · iexact Hv1
    isplitl [Bv1]; · iexact Bv1
    isplitl [Zv1]; · iexact Zv1
    isplitl [P0]; · iexact P0
    iexact HO
  iintro ⟨%W2, HX, Bq, Hwq, Zq, Hk0, Bk0, Zk0, Hv0, Bv0, Zv0, Bk1, Bv1, P0, HO⟩
  dsimp only
  iapply (local2 c (KC c) (VC c) (k0_pay1 (X c) (wqB Wq c)) maskV _ _)
  isplitl [Hk2 Bk0 Zk0 Hv2 Bv0 Zv0 Bk1 Bv1 P1 Hk3 Hv3 HO]
  · isplitr; · iexact Hlev
    isplitl [Hk2]; · iexact Hk2
    isplitl [Bk0]; · iexact Bk0
    isplitl [Zk0]; · iexact Zk0
    isplitl [Hv2]; · iexact Hv2
    isplitl [Bv0]; · iexact Bv0
    isplitl [Zv0]; · iexact Zv0
    isplitl [Bk1]; · iexact Bk1
    isplitl [Bv1]; · iexact Bv1
    isplitl [P1]; · iexact P1
    isplitl [Hk3]; · iexact Hk3
    isplitl [Hv3]; · iexact Hv3
    iexact HO
  iintro ⟨%W3, Bk0, Bv0, Hk1, Bk1, Hv1, Bv1, P1, HO⟩
  iapply (local3 c (KC c) (VC c) (k0_pay1 (X c) (wqB Wq c)) maskV _ _)
  isplitl [Bk0 Bv0 P2 Hk4 Hv4 Bk1 Bv1 HO]
  · isplitr; · iexact Hlev
    isplitl [Bk0]; · iexact Bk0
    isplitl [Bv0]; · iexact Bv0
    isplitl [P2]; · iexact P2
    isplitl [Hk4]; · iexact Hk4
    isplitl [Hv4]; · iexact Hv4
    isplitl [Bk1]; · iexact Bk1
    isplitl [Bv1]; · iexact Bv1
    iexact HO
  iintro ⟨%W4, Hk2, Bk0, Hv2, Bv0, P2, Hk3, Bk1, Zk1, Hv3, Bv1, Zv1, HO⟩
  iapply (local4 c (KC c) (VC c) (k0_pay1 (X c) (wqB Wq c)) maskV _ _)
  isplitl [Bk1 Bv1 P3 Hk5 Zk1 Hv5 Zv1 Bk0 Bv0 P4 Hk6 Hv6 HO]
  · isplitr; · iexact Hlev
    isplitl [Bk1]; · iexact Bk1
    isplitl [Bv1]; · iexact Bv1
    isplitl [P3]; · iexact P3
    isplitl [Hk5]; · iexact Hk5
    isplitl [Zk1]; · iexact Zk1
    isplitl [Hv5]; · iexact Hv5
    isplitl [Zv1]; · iexact Zv1
    isplitl [Bk0]; · iexact Bk0
    isplitl [Bv0]; · iexact Bv0
    isplitl [P4]; · iexact P4
    isplitl [Hk6]; · iexact Hk6
    isplitl [Hv6]; · iexact Hv6
    iexact HO
  iintro ⟨%W5, Bk1, Bv1, P3, Hk4, Bk0, Hv4, Bv0, P4, HO⟩
  ihave Hct := (ct_wand c (headV (k0_pay1 (X c) (wqB Wq c)) maskV (KC c) (VC c))) $$ [P0 P1 P2 P3 P4]
  · isplitl [P0]; · iexact P0
    isplitl [P1]; · iexact P1
    isplitl [P2]; · iexact P2
    isplitl [P3]; · iexact P3
    iexact P4
  iapply (local5 c (KC c) (VC c) (k0_pay1 (X c) (wqB Wq c)) maskV (woS c) (catP (headV (k0_pay1 (X c) (wqB Wq c)) maskV (KC c) (VC c))) (woB Wo c) _ _)
  isplitl [FWo Hct Bk1 Bv1 P5 Hk7 Hv7 Bk0 Bv0 P6 P7 HO]
  · isplitr; · iexact Hlev
    isplitl [FWo]; · iexact FWo
    isplitl [Hct]; · iexact Hct
    isplitl [Bk1]; · iexact Bk1
    isplitl [Bv1]; · iexact Bv1
    isplitl [P5]; · iexact P5
    isplitl [Hk7]; · iexact Hk7
    isplitl [Hv7]; · iexact Hv7
    isplitl [Bk0]; · iexact Bk0
    isplitl [Bv0]; · iexact Bv0
    isplitl [P6]; · iexact P6
    isplitl [P7]; · iexact P7
    iexact HO
  iintro ⟨%W6, HC, Bo, Hwo, Zo, Hk5, Bk1, Zk1, Hv5, Bv1, Zv1, Hk7, Hv7, Hk6, Bk0, Zk0, Hv6, Bv0, Zv0, HO⟩
  dsimp only
  -- the hops
  ihave HA := (Entails.of_eq (Any.full accM.view c zero2 inb_S256x1024_S256x1024_0_0).symm) $$ HA
  iapply (phaseA PV K c (v.2.2.1) (v.2.2.2.1) _ _ _ (congrFun hPV c) _ _)
  isplitl [S0 S1 S2 T0 T1 T2 R0 R1 R2 SA HA HO]
  · isplitr; · iexact Hlev
    isplitl [S0]; · iexact S0
    isplitl [S1]; · iexact S1
    isplitl [S2]; · iexact S2
    isplitl [T0]; · iexact T0
    isplitl [T1]; · iexact T1
    isplitl [T2]; · iexact T2
    isplitl [R0]; · iexact R0
    isplitl [R1]; · iexact R1
    isplitl [R2]; · iexact R2
    isplitl [SA]; · iexact SA
    isplitl [HA]; · iexact HA
    iexact HO
  iintro ⟨%W7, HO, Hc3, F2, F1, F0, SA, ZZ0, ZZ1, ZZ2⟩
  dsimp only
  iapply (phaseZ PV K c (v.2.1) (v.2.2.1) (v.2.2.2.2.2.1) _ _ _)
  isplitl [S3 S4 S5 T3 T4 T5 R3 R4 R5 SZ Hc3 HO]
  · isplitr; · iexact Hlev
    isplitl [S3]; · iexact S3
    isplitl [S4]; · iexact S4
    isplitl [S5]; · iexact S5
    isplitl [T3]; · iexact T3
    isplitl [T4]; · iexact T4
    isplitl [T5]; · iexact T5
    isplitl [R3]; · iexact R3
    isplitl [R4]; · iexact R4
    isplitl [R5]; · iexact R5
    isplitl [SZ]; · iexact SZ
    isplitl [Hc3]; · iexact Hc3
    iexact HO
  iintro %v0 %v1 ⟨%W8, HO, Hs3, G2, G1, G0, SZ, ZZ3, ZZ4, ZZ5⟩
  dsimp only
  iapply (phaseZG PV K c (v.2.1) (v.2.2.1) (v.2.2.2.1) (v.2.2.2.2.2.1) _ _ _ _ rfl _ _ _)
  isplitl [S6 S7 S8 T6 T7 T8 R6 R7 R8 Hs3 G2 G1 G0 HO]
  · isplitr; · iexact Hlev
    isplitl [S6]; · iexact S6
    isplitl [S7]; · iexact S7
    isplitl [S8]; · iexact S8
    isplitl [T6]; · iexact T6
    isplitl [T7]; · iexact T7
    isplitl [T8]; · iexact T8
    isplitl [R6]; · iexact R6
    isplitl [R7]; · iexact R7
    isplitl [R8]; · iexact R8
    isplitl [Hs3]; · iexact Hs3
    isplitl [G2]; · iexact G2
    isplitl [G1]; · iexact G1
    isplitl [G0]; · iexact G0
    iexact HO
  iintro %v2 ⟨%W9, HO, Hc3, ZZ6, ZZ7, ZZ8⟩
  iapply (phasePG PV K c (v.2.2.1) (v.2.2.2.1) _ _ _ _)
  isplitl [S9 S10 S11 T9 T10 T11 R9 R10 Hc3 F2 F1 F0 HO]
  · isplitr; · iexact Hlev
    isplitl [S9]; · iexact S9
    isplitl [S10]; · iexact S10
    isplitl [S11]; · iexact S11
    isplitl [T9]; · iexact T9
    isplitl [T10]; · iexact T10
    isplitl [T11]; · iexact T11
    isplitl [R9]; · iexact R9
    isplitl [R10]; · iexact R10
    isplitl [Hc3]; · iexact Hc3
    isplitl [F2]; · iexact F2
    isplitl [F1]; · iexact F1
    isplitl [F0]; · iexact F0
    iexact HO
  iintro ⟨%W10, HO, Hc3, Hc0, Hc1, ZZ9, ZZ10, ZS11⟩
  -- the last chunk, and the result
  unfold tail
  simp only [Prog.lift, Prog.bind_op, Prog.bind_ret, Prog.pure_eq_ret]
  iapply (wait_recv c PV K (dst := ch (qi c 1)) 11 (Memref.slice_unit_congr _ (off8_eq c 2) _ _ _ _) rfl rfl (n := 0) (by decide)) $$ [R11 HO]
  · isplitl [R11]; · iexact R11
    isplitl [HO]; · iexact HO
    iexact Hlev
  iintro ⟨%W11, Hgot, ZR11, HO⟩
  ihave Hgot := (Entails.of_eq (show recvPay PV c (11 : Fin 12).val = iprop(At (ch (qi c 2)).view c fullShare (HV PV (lt c) 2) ∗ emp) from rfl)) $$ Hgot
  icases Hgot with ⟨Hc2, -⟩
  ihave HA := (acc_gather PV c) $$ [Hc0 Hc1 Hc2 Hc3]
  · isplitl [Hc0]; · iexact Hc0
    isplitl [Hc1]; · iexact Hc1
    isplitl [Hc2]; · iexact Hc2
    iexact Hc3
  iapply (ld c (m := accM) rfl (inb' := inb_S256x1024_S256x1024_0_0)) $$ HA
  iintro HA
  ihave HO5 := (Entails.of_eq (Any.full outM.view c zero2 inb_S256x1024_S256x1024_0_0).symm) $$ HO5
  iapply (ldAny c (m := outM) rfl (inb' := inb_S256x1024_S256x1024_0_0)) $$ HO5
  iintro %u HO5
  iapply (stAny c (m := outM) rfl (inb' := inb_S256x1024_S256x1024_0_0)) $$ HO5
  iintro HO5
  ihave HO5 := (Entails.of_eq (At.full outM.view c fullShare zero2 inb_S256x1024_S256x1024_0_0 (OV PV c))) $$ HO5
  rw [wp_ret]; imodintro
  iapply Hk
  iexists W11
  unfold bodyOut hopsZ
  rw [sep12]
  isplitl [HX HWq Hwq Hk0 Hk1 Hk2 Hk3 Hk4 Hk5 Hk6 Hk7 Hv0 Hv1 Hv2 Hv3 Hv4 Hv5 Hv6 Hv7 HWo Hwo HO5 HC HA SA SZ Bk0 Bk1 Bv0 Bv1 Bq Bo Zk0 Zk1 Zv0 Zv1 Zq Zo]
  · isplitl [HX]; · iexact HX
    isplitl [HWq Hwq]
    · iapply HWq; iexact Hwq
    isplitl [Hk0 Hk1 Hk2 Hk3 Hk4 Hk5 Hk6 Hk7]
    · iapply (k_join c (KC c)); rw [kHeads, sep8]
      isplitl [Hk0]; · iexact Hk0
      isplitl [Hk1]; · iexact Hk1
      isplitl [Hk2]; · iexact Hk2
      isplitl [Hk3]; · iexact Hk3
      isplitl [Hk4]; · iexact Hk4
      isplitl [Hk5]; · iexact Hk5
      isplitl [Hk6]; · iexact Hk6
      iexact Hk7
    isplitl [Hv0 Hv1 Hv2 Hv3 Hv4 Hv5 Hv6 Hv7]
    · iapply (v_join c (VC c)); rw [vHeads, sep8]
      isplitl [Hv0]; · iexact Hv0
      isplitl [Hv1]; · iexact Hv1
      isplitl [Hv2]; · iexact Hv2
      isplitl [Hv3]; · iexact Hv3
      isplitl [Hv4]; · iexact Hv4
      isplitl [Hv5]; · iexact Hv5
      isplitl [Hv6]; · iexact Hv6
      iexact Hv7
    isplitl [HWo Hwo]
    · iapply HWo; iexact Hwo
    isplitl [HO5]; · iexact HO5
    isplitl [HC]
    · iapply (At.any _ _ _); iexact HC
    isplitl [HA]
    · ihave HA := (Entails.of_eq (At.full accM.view c fullShare zero2 inb_S256x1024_S256x1024_0_0 (OV PV c))) $$ HA; iapply (At.any _ _ _); iexact HA
    isplitl [SA]
    · iapply (slotsA_join c (fun _ => X c (ix2 (0 : Fin 256) (0 : Fin 1024)))); iexact SA
    isplitl [SZ]
    · iapply (slotsZ_join c (fun _ => X c (ix2 (0 : Fin 256) (0 : Fin 1024)))); iexact SZ
    isplitl [Bk0 Bk1]
    · iapply (kb_join c (fun _ => X c (ix2 (0 : Fin 256) (0 : Fin 1024)))); isplitl [Bk0]; · iexact Bk0
      iexact Bk1
    isplitl [Bv0 Bv1]
    · iapply (vb_join c (fun _ => X c (ix2 (0 : Fin 256) (0 : Fin 1024)))); isplitl [Bv0]; · iexact Bv0
      iexact Bv1
    isplitl [Bq]
    · iapply (At.any _ _ _); iexact Bq
    isplitl [Bo]
    · iapply (At.any _ _ _); iexact Bo
    isplitl [Zk0]; · iexact Zk0
    isplitl [Zk1]; · iexact Zk1
    isplitl [Zv0]; · iexact Zv0
    isplitl [Zv1]; · iexact Zv1
    isplitl [Zq]; · iexact Zq
    iexact Zo
  isplitl [ZZ0 ZZ1 ZZ2 ZZ3 ZZ4 ZZ5 ZZ6 ZZ7 ZZ8 ZZ9 ZZ10 ZS11 ZR11]
  · isplitl [ZZ0]; · iexact ZZ0
    isplitl [ZZ1]; · iexact ZZ1
    isplitl [ZZ2]; · iexact ZZ2
    isplitl [ZZ3]; · iexact ZZ3
    isplitl [ZZ4]; · iexact ZZ4
    isplitl [ZZ5]; · iexact ZZ5
    isplitl [ZZ6]; · iexact ZZ6
    isplitl [ZZ7]; · iexact ZZ7
    isplitl [ZZ8]; · iexact ZZ8
    isplitl [ZZ9]; · iexact ZZ9
    isplitl [ZZ10]; · iexact ZZ10
    isplitl [ZS11]; · iexact ZS11
    iexact ZR11
  isplitl [Zb]; · iexact Zb
  iexact HO

end Whole

end Cert.KernelIdeal.Hand

end
-- ==== Proof.Ghost.lean ====
/-
  What the launch hands each device of the protocol: the invariants of every cell, the tokens of the duties it pays, its
  positions in its own cells, and the credits its waits draw on.
-/
module

public import proofs.«01_k».proof.Proof.Sync
public import proofs.«01_k».proof.Proof.Gen.KernelIdeal.Launch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
/-- A product over the sixteen barrier, send and receive names: the barrier's, the sends', the receives'. -/
theorem bigSep25 (Φ : Fin 25 → sProp 𝕄) :
    bigSep Finset.univ Φ = iprop(Φ 0 ∗ (bigSep Finset.univ fun k : Fin 12 => Φ (iS k)) ∗ bigSep Finset.univ fun k : Fin 12 => Φ (iR k)) := by
  let e : (Fin 1 ⊕ Fin 12) ⊕ Fin 12 ≃ Fin 25 := (Equiv.sumCongr finSumFinEquiv (Equiv.refl (Fin 12))).trans finSumFinEquiv
  rw [BI.bigSep_univ_equiv e, BI.bigSep_univ_sum, BI.bigSep_univ_sum, bigSep_univ_eq_bigSepL [(0 : Fin 1)] (by decide) (by decide)]
  refine Entails.antisymm ?_ ?_
  · show iprop((Φ 0 ∗ bigSep Finset.univ fun k : Fin 12 => Φ (iS k)) ∗ bigSep Finset.univ fun k : Fin 12 => Φ (iR k)) ⊢ _
    iintro ⟨⟨H0, HS⟩, HR⟩
    isplitl [H0]; · iexact H0
    isplitl [HS] <;> iassumption
  · show _ ⊢ iprop((Φ 0 ∗ bigSep Finset.univ fun k : Fin 12 => Φ (iS k)) ∗ bigSep Finset.univ fun k : Fin 12 => Φ (iR k))
    iintro ⟨H0, HS, HR⟩
    isplitl [H0 HS]
    · isplitl [H0] <;> iassumption
    · iexact HR

/-! ## The cells and the tokens -/

/-- The semaphore named `i`: the barrier's, then the send and receive semaphores in their order. -/
def csem (i : Fin 25) : SemLoc sig :=
  if i.val = 0 then .reg barS else .dma ⟨7 + i.val, by have := i.isLt; show 7 + i.val < 32; omega⟩
abbrev kcell (ci : Dev nD × Fin 25) : GSem nD τ sig := ((ci.1 : Thread nD τ), csem ci.2)

theorem kcell_bar (c : Dev nD) : kcell (c, 0) = barCell c := rfl
theorem kcell_iS (c : Dev nD) (k : Fin 12) : kcell (c, iS k) = sendCell c k := by
  show ((c : Thread nD τ), csem (iS k)) = _
  unfold csem
  rw [if_neg (by show ¬ 1 + k.val = 0; omega)]
  exact congrArg (fun s : DmaSem sig => (((c : Thread nD τ), SemLoc.dma s) : GSem nD τ sig)) (Fin.ext (by show 7 + (1 + k.val) = 8 + k.val; omega))
theorem kcell_iR (c : Dev nD) (k : Fin 12) : kcell (c, iR k) = recvCell c k := by
  show ((c : Thread nD τ), csem (iR k)) = _
  unfold csem
  rw [if_neg (by show ¬ 13 + k.val = 0; omega)]
  exact congrArg (fun s : DmaSem sig => (((c : Thread nD τ), SemLoc.dma s) : GSem nD τ sig)) (Fin.ext (by show 7 + (13 + k.val) = 20 + k.val; omega))

theorem csem_injective : Function.Injective csem := by
  intro i j h
  unfold csem at h
  split at h <;> split at h
  case isTrue.isTrue hi hj => exact Fin.ext (hi.trans hj.symm)
  case isTrue.isFalse => cases h
  case isFalse.isTrue => cases h
  case isFalse.isFalse =>
    have h' := congrArg Fin.val (SemLoc.dma.inj h)
    dsimp only at h'
    exact Fin.ext (by omega)

theorem kcell_injective : Function.Injective kcell := by
  rintro ⟨c, i⟩ ⟨d, j⟩ h
  have h1 : c = d := congrArg (fun g : GSem nD τ sig => g.1.1) h
  have h2 : i = j := csem_injective (congrArg Prod.snd h)
  rw [h1, h2]
def hopCells : Finset (GSem nD τ sig) := Finset.univ.map ⟨kcell, kcell_injective⟩

/-- A device's own tokens: four of its barrier's, one of each send's and each receive's. -/
abbrev TI : Type := (Fin 4 ⊕ Fin 12) ⊕ Fin 12
def tokOf (x : Dev nD × TI) : GSem nD τ sig × ℕ × Fin 4 :=
  match x.2 with
  | .inl (.inl j) => (barCell x.1, 0, j)
  | .inl (.inr k) => (sendCell x.1 k, 0, 0)
  | .inr k => (recvCell x.1 k, 0, 0)

theorem tokOf_dev (x : Dev nD × TI) : (tokOf x).1.1.1 = x.1 := by
  obtain ⟨c, (j | k) | k⟩ := x <;> rfl

theorem tokOf_injective : Function.Injective tokOf := by
  intro x y h
  have h1 : x.1 = y.1 := (tokOf_dev x).symm.trans ((congrArg (fun z : GSem nD τ sig × ℕ × Fin 4 => z.1.1.1) h).trans (tokOf_dev y))
  have hs := congrArg (fun z : GSem nD τ sig × ℕ × Fin 4 => z.1.2) h
  have hd := congrArg (fun z : GSem nD τ sig × ℕ × Fin 4 => z.2.2) h
  obtain ⟨c, (j | k) | k⟩ := x <;> obtain ⟨c', (j' | k') | k'⟩ := y <;> dsimp only [tokOf] at hs hd h1 <;> subst h1 <;> first
    | (subst hd; rfl)
    | cases hs
    | (have h' := congrArg Fin.val (SemLoc.dma.inj hs)
       dsimp only at h'
       first
         | (exfalso; have := k.isLt; have := k'.isLt; omega)
         | (have h2 : k = k' := Fin.ext (by omega)
            rw [h2]))
def hopToks : Finset (GSem nD τ sig × ℕ × Fin 4) := Finset.univ.map ⟨tokOf, tokOf_injective⟩

/-- The launch element: the pipeline's, the protocol's, and no counter yet. -/
def u₀ : UU :=
  (initOf (Pipeline.cells cfgs cellOf_inj) (Pipeline.launchToks cfgs cellOf_inj), (initOf hopCells hopToks, 1))

section Launch
variable (PV : Dev nD → FVec F S256x1024 .f32)

/-- The duty tokens of device `c`'s own cells. -/
def toks (c : Dev nD) : sProp 𝕄 :=
  iprop(((bigSep Finset.univ fun j : Fin 4 => dutyTok ER (barCell c) 0 j) ∗ bigSep Finset.univ fun k : Fin 12 => dutyTok ER (sendCell c k) 0 0)
    ∗ bigSep Finset.univ fun k : Fin 12 => dutyTok ER (recvCell c k) 0 0)

/-- What the launch element deals device `c`. -/
def G (c : Dev nD) : sProp 𝕄 :=
  iprop((bigSep Finset.univ fun i : Fin 25 => roundState ER (sched PV) (kcell (c, i)) 0)
    ∗ ((bigSep Finset.univ fun i : Fin 25 => atPos ER (kcell (c, i)) 0 (∅ : Finset (Fin 4)) 0) ∗ bigSep Finset.univ fun i : Fin 25 => reached ER (kcell (c, i)) 0) ∗ toks (F := F) c)

omit [FloatOps F] in
theorem ownU_three (a : UR sig nD τ) (b : UB) : (ownU ((a, (b, 1)) : UU) : sProp 𝕄) ⊢ iprop(BI.own (EP a) ∗ BI.own (ER b)) := by
  refine (ownU_pair a (b, (1 : Counters))).trans (sep_mono_right (Entails.of_eq ?_))
  rfl

theorem fund : BI.own (ER (initOf hopCells hopToks)) ⊢ (|==> bigSep Finset.univ (G PV) : sProp 𝕄) := by
  have hX (Φ : GSem nD τ sig → sProp 𝕄) : bigSep hopCells Φ = bigSep Finset.univ fun c : Dev nD => bigSep Finset.univ fun i : Fin 25 => Φ (kcell (c, i)) := by
    unfold hopCells; rw [bigSep_map, bigSep_univ_prod]; rfl
  have hT : bigSep hopToks (fun x => (dutyTok ER x.1 x.2.1 x.2.2 : sProp 𝕄)) = bigSep Finset.univ fun c : Dev nD => toks c := by
    unfold hopToks; rw [bigSep_map, bigSep_univ_prod]
    exact bigSep_congr fun c _ => by unfold toks; rw [BI.bigSep_univ_sum, BI.bigSep_univ_sum]; rfl
  iintro HX
  imod (Rounds.fund ER (sched PV) hopCells hopToks) $$ HX with ⟨Hst, Hr, Hat, Htok⟩
  imodintro
  ihave Hst := (Entails.of_eq (hX fun g => roundState ER (sched PV) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores at launch -/

/-- The kernel's own semaphores: of the local copies, of the sends, of the receives. -/
def osem (i : (Fin 6 ⊕ Fin 12) ⊕ Fin 12) : SemLoc sig :=
  match i with
  | .inl (.inl t) => .dma ⟨2 + t.val, by have := t.isLt; show 2 + t.val < 32; omega⟩
  | .inl (.inr k) => .dma (sendS k)
  | .inr k => .dma (recvS k)

theorem ownSemFacts : Pipeline.OwnSemFacts cfg0.spec osem := by decide

/-- The counters of the local copies. -/
def copyZ (c : Dev nD) : sProp 𝕄 :=
  iprop(semVal ((c : Thread nD τ), SemLoc.dma (ksm 0)) 0 ∗ semVal ((c : Thread nD τ), SemLoc.dma (ksm 1)) 0 ∗ semVal ((c : Thread nD τ), SemLoc.dma (vsm 0)) 0
    ∗ semVal ((c : Thread nD τ), SemLoc.dma (vsm 1)) 0 ∗ semVal ((c : Thread nD τ), SemLoc.dma (wsm 0)) 0 ∗ semVal ((c : Thread nD τ), SemLoc.dma (wsm 1)) 0)

omit [FloatOps F] in
theorem ownSems0_eq (c : Dev nD) : (Pipeline.ownSems0 (Ix := Unit) (Name := ℕ) (U := UU) (Lvl := ℕ) (Val := Elt F) (τ := τ) osem c : sProp 𝕄)
    = iprop((copyZ (F := F) c ∗ bigSep Finset.univ fun k : Fin 12 => semVal (sendCell c k) 0) ∗ bigSep Finset.univ fun k : Fin 12 => semVal (recvCell c k) 0) := by
  unfold Pipeline.ownSems0
  rw [BI.bigSep_univ_sum, BI.bigSep_univ_sum, bigSep_univ_eq_bigSepL [(0 : Fin 6), 1, 2, 3, 4, 5] (by decide) (by decide)]
  rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem cells0 (c : Dev nD) :
    iprop(Pipeline.ownSems0 (Ix := Unit) (Name := ℕ) (U := UU) (Lvl := ℕ) (Val := Elt F) (τ := τ) osem c ∗ unscopedSems0 c)
      ⊢ iprop(copyZ (F := F) c ∗ (bigSep Finset.univ fun i : Fin 25 => semVal (kcell (c, i)) 0 : sProp 𝕄)) := by
  rw [ownSems0_eq, unscopedSems0_eq, bigSep25]
  simp only [kcell_iS, kcell_iR, kcell_bar]
  iintro ⟨⟨⟨HC, HS⟩, HR⟩, HB⟩
  isplitl [HC]; · iexact HC
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G PV c)
      ⊢ |={Set.univ}=> iprop((bigSep Finset.univ fun i => iprop(∃ κ : ℕ, cellInv ER (sched PV) κ (kcell (c, i))))
          ∗ ((bigSep Finset.univ fun i : Fin 25 => atPos ER (kcell (c, i)) 0 (∅ : Finset (Fin 4)) 0) ∗ bigSep Finset.univ fun i : Fin 25 => reached ER (kcell (c, i)) 0)
          ∗ toks (F := F) c ∗ copyZ (F := F) c) := by
  unfold G
  iintro ⟨Hos, Hus, Hst, Hat, Htok⟩
  ihave Hv := (cells0 (F := F) c) $$ [Hos Hus]
  · isplitl [Hos] <;> iassumption
  icases Hv with ⟨HC, Hv⟩
  imod (show iprop((bigSep Finset.univ fun i : Fin 25 => semVal (kcell (c, i)) 0) ∗ bigSep Finset.univ fun i : Fin 25 => roundState ER (sched PV) (kcell (c, i)) 0)
      ⊢ (|={Set.univ}=> bigSep Finset.univ fun i => iprop(∃ κ : ℕ, cellInv ER (sched PV) κ (kcell (c, i))) : sProp 𝕄) from by
        rw [← bigSep_sep']
        exact (bigSep_mono fun i _ => (Rounds.body_intro ER (sched PV) (kcell (c, i))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-! ## What device `c` starts with -/

/-- The tokens of the duties that device `c` pays. -/
def payToks (c : Dev nD) : sProp 𝕄 :=
  iprop((dutyTok ER (barCell (lt c)) 0 0 ∗ dutyTok ER (barCell (rt c)) 0 1 ∗ dutyTok ER (barCell (zp c)) 0 2 ∗ dutyTok ER (barCell (zn c)) 0 3)
    ∗ (bigSep Finset.univ fun k : Fin 12 => dutyTok ER (sendCell c k) 0 0) ∗ bigSep Finset.univ fun k : Fin 12 => dutyTok ER (recvCell (tgt c k) k) 0 0)

omit [FloatOps F] in
/-- Every token goes to the device that pays its duty. -/
theorem toks_deal : (bigSep Finset.univ fun c : Dev nD => (toks c : sProp 𝕄)) ⊢ bigSep Finset.univ fun c : Dev nD => payToks c := by
  have hb (c : Dev nD) : (bigSep Finset.univ fun j : Fin 4 => (dutyTok ER (barCell c) 0 j : sProp 𝕄))
      = iprop(dutyTok ER (barCell c) 0 0 ∗ dutyTok ER (barCell c) 0 1 ∗ dutyTok ER (barCell c) 0 2 ∗ dutyTok ER (barCell c) 0 3) :=
    bigSep_univ_eq_bigSepL [0, 1, 2, 3] (by decide) (by decide) _
  have hr : (bigSep Finset.univ fun c : Dev nD => bigSep Finset.univ fun k : Fin 12 => (dutyTok ER (recvCell c k) 0 0 : sProp 𝕄))
      = bigSep Finset.univ fun c : Dev nD => bigSep Finset.univ fun k : Fin 12 => dutyTok ER (recvCell (tgt c k) k) 0 0 := by
    rw [BI.bigSep_univ_comm, BI.bigSep_univ_comm (fun (c : Dev nD) (k : Fin 12) => (dutyTok ER (recvCell (tgt c k) k) 0 0 : sProp 𝕄))]
    exact bigSep_congr fun k _ => by
      rw [BI.bigSep_univ_equiv (ring k)]
      exact bigSep_congr fun c _ => by rw [ring_apply]
  unfold toks payToks
  simp only [hb, bigSep_sep']
  rw [hr, BI.bigSep_univ_equiv ringA.symm (fun c : Dev nD => (dutyTok ER (barCell c) 0 0 : sProp 𝕄)),
    BI.bigSep_univ_equiv ringA (fun c : Dev nD => (dutyTok ER (barCell c) 0 1 : sProp 𝕄)),
    BI.bigSep_univ_equiv ringZ.symm (fun c : Dev nD => (dutyTok ER (barCell c) 0 2 : sProp 𝕄)),
    BI.bigSep_univ_equiv ringZ (fun c : Dev nD => (dutyTok ER (barCell c) 0 3 : sProp 𝕄))]
  iintro ⟨⟨⟨H0, H1, H2, H3⟩, HS⟩, HR⟩
  isplitl [H0 H1 H2 H3]
  · isplitl [H0]; · iexact H0
    isplitl [H1]; · iexact H1
    isplitl [H2]; · iexact H2
    iexact H3
  isplitl [HS]; · iexact HS
  iexact HR

/-- The cells' invariants and first rounds, of all devices. -/
def records (K : Dev nD × Fin 25 → ℕ) : sProp 𝕄 :=
  iprop((bigSep Finset.univ fun ci : Dev nD × Fin 25 => cellInv ER (sched PV) (K ci) (kcell ci))
    ∗ bigSep Finset.univ fun ci : Dev nD × Fin 25 => reached ER (kcell ci) 0)
instance records_persistent (K : Dev nD × Fin 25 → ℕ) : BI.Persistent (records PV K) := by unfold records; infer_instance

theorem inv_at (K : Dev nD × Fin 25 → ℕ) (ci : Dev nD × Fin 25) : records PV K ⊢ cellInv ER (sched PV) (K ci) (kcell ci) := by
  unfold records
  exact sep_elim_left.trans (bigSep_elim (Φ := fun ci : Dev nD × Fin 25 => (cellInv ER (sched PV) (K ci) (kcell ci) : sProp 𝕄)) (Finset.mem_univ ci))
theorem reached_at (K : Dev nD × Fin 25 → ℕ) (ci : Dev nD × Fin 25) : records PV K ⊢ reached ER (kcell ci) 0 := by
  unfold records
  exact sep_elim_right.trans (bigSep_elim (Φ := fun ci : Dev nD × Fin 25 => (reached ER (kcell ci) 0 : sProp 𝕄)) (Finset.mem_univ ci))
theorem invB (K : Dev nD × Fin 25 → ℕ) (c : Dev nD) : records PV K ⊢ cellInv ER (sched PV) (K (c, 0)) (barCell c) := inv_at PV K (c, 0)
theorem invS (K : Dev nD × Fin 25 → ℕ) (c : Dev nD) (k : Fin 12) : records PV K ⊢ cellInv ER (sched PV) (K (c, iS k)) (sendCell c k) := by
  rw [← kcell_iS]; exact inv_at PV K (c, iS k)
theorem invR (K : Dev nD × Fin 25 → ℕ) (c : Dev nD) (k : Fin 12) : records PV K ⊢ cellInv ER (sched PV) (K (c, iR k)) (recvCell c k) := by
  rw [← kcell_iR]; exact inv_at PV K (c, iR k)
theorem reachedB (K : Dev nD × Fin 25 → ℕ) (c : Dev nD) : records PV K ⊢ reached ER (barCell c) 0 := reached_at PV K (c, 0)
theorem reachedS (K : Dev nD × Fin 25 → ℕ) (c : Dev nD) (k : Fin 12) : records PV K ⊢ reached ER (sendCell c k) 0 := by
  rw [← kcell_iS]; exact reached_at PV K (c, iS k)
theorem reachedR (K : Dev nD × Fin 25 → ℕ) (c : Dev nD) (k : Fin 12) : records PV K ⊢ reached ER (recvCell c k) 0 := by
  rw [← kcell_iR]; exact reached_at PV K (c, iR k)

/-- What stays with device `c`: its positions, the tokens it pays with, its local copies' counters. -/
def linear (c : Dev nD) : sProp 𝕄 :=
  iprop((bigSep Finset.univ fun i : Fin 25 => atPos ER (kcell (c, i)) 0 (∅ : Finset (Fin 4)) 0) ∗ payToks (F := F) c ∗ copyZ (F := F) c)

/-- Everything the launch hands device `c` of the protocol, but the credits. -/
def G' (c : Dev nD) : sProp 𝕄 := iprop(∃ K, records PV K ∗ linear (F := F) c)

theorem regroup :
    (bigSep Finset.univ fun c : Dev nD => iprop((bigSep Finset.univ fun i => iprop(∃ κ : ℕ, cellInv ER (sched PV) κ (kcell (c, i))))
          ∗ ((bigSep Finset.univ fun i : Fin 25 => atPos ER (kcell (c, i)) 0 (∅ : Finset (Fin 4)) 0) ∗ bigSep Finset.univ fun i : Fin 25 => reached ER (kcell (c, i)) 0)
          ∗ toks (F := F) c ∗ copyZ (F := F) c) : sProp 𝕄)
      ⊢ bigSep Finset.univ (G' PV) := by
  simp only [bigSep_sep']
  rw [← bigSep_univ_prod (fun ci : Dev nD × Fin 25 => iprop(∃ κ : ℕ, cellInv ER (sched PV) κ (kcell ci))),
    ← bigSep_univ_prod (fun ci : Dev nD × Fin 25 => (reached ER (kcell ci) 0 : sProp 𝕄))]
  iintro ⟨HI, ⟨Hat, #HR⟩, Htok, HC⟩
  ihave HK := (BI.bigSep_exists_pi Finset.univ (fun (ci : Dev nD × Fin 25) (κ : ℕ) => (cellInv ER (sched PV) κ (kcell ci) : sProp 𝕄))) $$ HI
  icases HK with ⟨%K, #HI⟩
  ihave Htok := (toks_deal (F := F)) $$ Htok
  iapply (BI.bigSep_with_persistent (R := records PV K) (Φ := linear (F := F)) (Ψ := G' PV) fun c _ => by
    unfold G'
    iintro ⟨#HR, HL⟩
    iexists K
    isplitr; · iexact HR
    iexact HL)
  isplitr
  · unfold records; isplitl; · iexact HI
    iexact HR
  · unfold linear; simp only [bigSep_sep']
    isplitl [Hat]; · iexact Hat
    isplitl [Htok] <;> iassumption

/-- The launch's step over all devices at once. -/
theorem glob : (bigSep Finset.univ fun c => iprop(Pipeline.ownSems0 (Ix := Unit) (Name := ℕ) (U := UU) (Lvl := ℕ) (Val := Elt F) (τ := τ) osem c ∗ unscopedSems0 c ∗ G PV c) : sProp 𝕄)
    ⊢ |={Set.univ}=> bigSep Finset.univ (G' PV) :=
  ((bigSep_mono fun c _ => core_alloc PV c).trans (bigSep_fupd _ _)).trans (BI.fupd_mono (regroup PV))

/-! ## The launch credits -/

omit [FloatOps F] in
theorem tgt_ring (k : Fin 12) : ∀ c, tgt ((ring k).symm c) k = c := fun c => by rw [← ring_apply, Equiv.apply_symm_apply]
omit [FloatOps F] in
theorem ring_tgt (k : Fin 12) : ∀ c, (ring k).symm (tgt c k) = c := fun c => by rw [← ring_apply, Equiv.symm_apply_apply]

omit [FloatOps F] in
theorem cred_hop (c : Dev nD) (k : Fin 12) (n : ℕ) :
    (Pipeline.launchCred (fun d => tallyAt (recvCell (tgt d k) k) () n) c : sProp 𝕄) ⊢ cred (tallyAt (recvCell c k) () n) :=
  Pipeline.launchCred_tallyAt (.dma (recvS k)) (fun d => tgt d k) (ring k).symm (tgt_ring k) (ring_tgt k) () n c

omit [FloatOps F] in
/-- The credits of the last `n` hops. -/
theorem creds_hops (c : Dev nD) : ∀ n : ℕ, n ≤ 12 → (Pipeline.launchCred (fun d => oweN d n) c : sProp 𝕄)
    ⊢ bigSep (Finset.range n) fun i => cred (tallyAt (recvCell c ⟨11 - i, by omega⟩) () (amt (11 - i)))
  | 0, _ => by
      rw [show (fun d : Dev nD => oweN d 0) = fun _ => 0 from rfl, Pipeline.launchCred_zero, Finset.range_zero, BI.bigSep_empty]
      exact .rfl
  | n + 1, hn => by
      have h1 := cred_hop (F := F) c ⟨11 - n, by omega⟩ (amt (11 - n))
      rw [show (fun d : Dev nD => oweN d (n + 1)) = fun d => oweN d n + tallyAt (recvCell (tgt d ⟨11 - n, by omega⟩) ⟨11 - n, by omega⟩) () (amt (11 - n)) from rfl,
        Pipeline.launchCred_add, Finset.range_add_one, BI.bigSep_insert Finset.notMem_range_self]
      exact (BIClass.sep_mono (creds_hops c n (by omega)) h1).trans BI.sep_comm

omit [FloatOps F] in
/-- Four units for the barrier, and each hop's credit. -/
theorem creds (c : Dev nD) :
    (Pipeline.launchCred O₀ c : sProp 𝕄)
      ⊢ iprop(cred (tallyAt (barCell c) () 4) ∗ bigSep Finset.univ fun k : Fin 12 => cred (tallyAt (recvCell c k) () (amt k.val))) := by
  have hbar (f finv : Dev nD → Dev nD) (h1 : ∀ c, f (finv c) = c) (h2 : ∀ d, finv (f d) = d) :
      (Pipeline.launchCred (fun d => tallyAt (barCell (f d)) () 1) c : sProp 𝕄) ⊢ cred (tallyAt (barCell c) () 1) :=
    Pipeline.launchCred_tallyAt (.reg barS) f finv h1 h2 () 1 c
  have h4 : (tallyAt (barCell c) () 4 : CellTallies nD τ sig Unit)
      = tallyAt (barCell c) () 1 + tallyAt (barCell c) () 1 + tallyAt (barCell c) () 1 + tallyAt (barCell c) () 1 := by
    rw [show (4 : ℕ) = 1 + 1 + 1 + 1 from rfl, tallyAt_add, tallyAt_add, tallyAt_add]
  have hh := (creds_hops (F := F) c 12 (Nat.le_refl 12)).trans (Entails.of_eq (show _ = bigSep Finset.univ fun k : Fin 12 => cred (tallyAt (recvCell c k) () (amt k.val)) from by
    rw [bigSep_eq_bigSepL_of_eq [11, 10, 9, 8, 7, 6, 5, 4, 3, 2, 1, 0] (by decide) (by decide), bigSep_univ_eq_bigSepL [0, 1, 2, 3, 4, 5, 6, 7, 8, 9, 10, 11] (by decide) (by decide)]
    rfl))
  rw [show O₀ = fun d => oweN d 12 + tallyAt (barCell (zn d)) () 1 + tallyAt (barCell (zp d)) () 1 + tallyAt (barCell (rt d)) () 1 + tallyAt (barCell (lt d)) () 1 from rfl]
  rw [Pipeline.launchCred_add, Pipeline.launchCred_add, Pipeline.launchCred_add, Pipeline.launchCred_add, h4]
  iintro ⟨⟨⟨⟨HH, H1⟩, H2⟩, H3⟩, H4⟩
  isplitr [HH]
  · iapply (cred_add _ _).2
    isplitr [H4]
    · iapply (cred_add _ _).2
      isplitr [H3]
      · iapply (cred_add _ _).2
        isplitl [H1]
        · iapply (hbar zn zp zn_zp zp_zn); iexact H1
        · iapply (hbar zp zn zp_zn zn_zp); iexact H2
      · iapply (hbar rt lt rt_lt lt_rt); iexact H3
    · iapply (hbar lt rt lt_rt rt_lt); iexact H4
  · iapply hh; iexact HH

end Launch

end Cert.KernelIdeal.Hand

end
-- ==== Proof.Run.lean ====
/-
  The whole program: the body's run launched on the sixteen devices, from any memory.
-/
module

public import proofs.«01_k».proof.Proof.Body
public import proofs.«01_k».proof.Proof.Ghost
public import Idealize.ShloMosaic.Lib.Pipeline.CollectiveSegs

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter at zero, any generator registers. -/
def s₀ : MemSt nD τ sig (Elt F) := ⟨m, fun _ => 0, ρ⟩

/-! ## Contents -/

/-- Each device's block of each argument: `x` as its window stages it, the others as the launch finds them. -/
def Xm (c : Dev nD) : FVec F S256x1024 .f32 := (win0_0.blk (0 : Fin 1)).view.read (Elt F) (m ((c : Thread nD τ).loc main_arg0))
def Wqm (c : Dev nD) : FVec F S1024x16384 .f32 := m ((c : Thread nD τ).loc main_arg1)
def Km (c : Dev nD) : FVec F S4096x8x128 .f32 := m ((c : Thread nD τ).loc main_arg2)
def Vm (c : Dev nD) : FVec F S4096x8x128 .f32 := m ((c : Thread nD τ).loc main_arg3)
def Wom (c : Dev nD) : FVec F S16384x1024 .f32 := m ((c : Thread nD τ).loc main_arg4)
/-- Each device's partial result. -/
def Pm : Dev nD → FVec F S256x1024 .f32 := PVof (Xm m) (Wqm m) (Km m) (Vm m) (Wom m)

omit [FloatOps F] in
/-- A whole buffer held is its view held. -/
theorem at_whole (b : Ref sig .tc) (c : Dev nD) (f : Buf (Elt F) ((c : Thread nD τ).loc b)) :
    (((c : Thread nD τ).loc b) ↦{fullShare} f : sProp 𝕄) ⊢ At (View.whole b) c fullShare f := by
  unfold At
  simp only [View.read_whole, View.set_whole]
  iintro H; iexists f; isplitl [H]; · iexact H
  ipureintro; rfl
omit [FloatOps F] in
theorem whole_at (b : Ref sig .tc) (c : Dev nD) (f : Buf (Elt F) ((c : Thread nD τ).loc b)) :
    (At (View.whole b) c fullShare f : sProp 𝕄) ⊢ (((c : Thread nD τ).loc b) ↦{fullShare} f) := by
  unfold At
  simp only [View.read_whole, View.set_whole]
  iintro ⟨%g, H, %h⟩; subst h; iexact H
omit [FloatOps F] in
theorem any_whole (b : Ref sig .tc) (c : Dev nD) :
    (∃ f : Buf (Elt F) ((c : Thread nD τ).loc b), ((c : Thread nD τ).loc b) ↦{fullShare} f : sProp 𝕄) ⊢ Any (View.whole b) c := by
  unfold Any; simp only [View.set_whole]; exact .rfl
omit [FloatOps F] in
theorem whole_any (b : Ref sig .tc) (c : Dev nD) :
    (Any (View.whole b) c : sProp 𝕄) ⊢ (∃ f : Buf (Elt F) ((c : Thread nD τ).loc b), ((c : Thread nD τ).loc b) ↦{fullShare} f) := by
  unfold Any; simp only [View.set_whole]; exact .rfl

/-! ## The call's proof data -/

/-- The four arguments that the body reads where they lie. -/
def args (c : Dev nD) : sProp 𝕄 :=
  iprop((((c : Thread nD τ).loc main_arg1) ↦{fullShare} m ((c : Thread nD τ).loc main_arg1)) ∗ (((c : Thread nD τ).loc main_arg2) ↦{fullShare} m ((c : Thread nD τ).loc main_arg2))
    ∗ (((c : Thread nD τ).loc main_arg3) ↦{fullShare} m ((c : Thread nD τ).loc main_arg3)) ∗ (((c : Thread nD τ).loc main_arg4) ↦{fullShare} m ((c : Thread nD τ).loc main_arg4)))
/-- What the launch brings the body. -/
def start (c : Dev nD) : sProp 𝕄 :=
  iprop(G' (Pm m) c ∗ (cred (tallyAt (barCell c) () 4) ∗ bigSep Finset.univ fun k : Fin 12 => cred (tallyAt (recvCell c k) () (amt k.val))) ∗ levAts L lv ∗ args m c)
abbrev scr (c : Dev nD) : sProp 𝕄 := Pipeline.scopedRest (Ix := Unit) (Name := ℕ) (U := UU) (Lvl := ℕ) (Val := Elt F) spec0 c
def Φ₀ (c : Dev nD) : sProp 𝕄 := iprop(start m c ∗ scr c)
def Φ₁ (c : Dev nD) : sProp 𝕄 :=
  iprop((unscopedSems0 c ∗ args m c) ∗ Pipeline.ownSems0 (Ix := Unit) (Name := ℕ) (U := UU) (Lvl := ℕ) (Val := Elt F) (τ := τ) osem c ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Xm m c
    | ⟨1, _⟩ => OV (Pm m) c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev pt₀ : Fin cfg0.N := t0_0

def bodyPre (c : Dev nD) : sProp 𝕄 :=
  iprop(Φ₀ m c ∗ (dats m ρ 0 c).owesAt () pt₀.castSucc
    ∗ (∃ d, stg c cc0_stg0_0 ((dats m ρ 0 c).before (0 : Fin 2) pt₀ d))
    ∗ (∃ d, stg c cc0_stg1_0 ((dats m ρ 0 c).before (1 : Fin 2) pt₀ d)))
def bodyPost (c : Dev nD) : sProp 𝕄 :=
  iprop(Φ₁ m c ∗ (dats m ρ 0 c).owesAt () pt₀.succ ∗ stg c cc0_stg0_0 (Xm m c) ∗ stg c cc0_stg1_0 (OV (Pm m) c))

/-- The hops' part of what the launch hands over, hop by hop. -/
theorem hops_intro (PV : Dev nD → FVec F S256x1024 .f32) (K : Dev nD × Fin 25 → ℕ) (c : Dev nD) :
    iprop(records PV K ∗ bigSep Finset.univ fun k : Fin 12 => iprop(atPos ER (sendCell c k) 0 (∅ : Finset (Fin 4)) 0 ∗ atPos ER (recvCell c k) 0 (∅ : Finset (Fin 4)) 0
        ∗ dutyTok ER (sendCell c k) 0 0 ∗ dutyTok ER (recvCell (tgt c k) k) 0 0 ∗ cred (tallyAt (recvCell c k) () (amt k.val))))
      ⊢ hops PV K c := by
  unfold hops
  refine BI.bigSep_with_persistent fun k _ => ?_
  iintro ⟨#HR, HaS, HaR, HtS, HtR, Hc⟩
  unfold Start WaitS WaitR
  isplitl [HtS HtR]
  · isplitr; · iapply (invS PV K c k); iexact HR
    isplitr; · iapply (invR PV K (tgt c k) k); iexact HR
    isplitl [HtS]; · iexact HtS
    isplitr; · iapply (reachedS PV K c k); iexact HR
    isplitl [HtR]; · iexact HtR
    iapply (reachedR PV K (tgt c k) k); iexact HR
  isplitl [HaS]
  · isplitr; · iapply (invS PV K c k); iexact HR
    iexact HaS
  isplitr; · iapply (invR PV K c k); iexact HR
  isplitl [HaR] <;> iassumption

theorem sig_intro (PV : Dev nD → FVec F S256x1024 .f32) (K : Dev nD × Fin 25 → ℕ) (e : Dev nD) (j : Fin 4) :
    iprop(records PV K ∗ dutyTok ER (barCell e) 0 j) ⊢ Sig PV K e j := by
  iintro ⟨#HR, Ht⟩
  unfold Sig
  isplitr; · iapply (invB PV K e); iexact HR
  isplitl [Ht]; · iexact Ht
  iapply (reachedB PV K e); iexact HR

/-- What the body leaves is what the pipeline takes back. -/
theorem post_intro (c : Dev nD) (W' : Waits sig Unit) :
    iprop(bodyOut (Xm m) (Wqm m) (Km m) (Vm m) (Wom m) (Pm m) c ∗ hopsZ (F := F) c ∗ semVal (barCell c) 0 ∗ owes (c : Thread nD τ) (oweN c 0) W') ⊢ bodyPost m ρ c := by
  unfold bodyPost Φ₁ bodyOut args scr hopsZ zeros Dat.owesAt Pipeline.owesWithin
  rw [unscopedSems0_eq, ownSems0_eq, scopedRest0_eq, bigSep_sep']
  unfold copyZ
  iintro ⟨⟨HX, A1, A2, A3, A4, HOut, C0, C1, C2, C3, C4, C5, C6, C7, Zk0, Zk1, Zv0, Zv1, Zq, Zo⟩, ⟨ZS, ZR⟩, HzB, HO⟩
  isplitr [HX HOut HO]
  · isplitl [HzB A1 A2 A3 A4]
    · isplitl [HzB]; · iexact HzB
      isplitl [A1]; · iapply (whole_at main_arg1 c (Wqm m c)); iexact A1
      isplitl [A2]; · iapply (whole_at main_arg2 c (Km m c)); iexact A2
      isplitl [A3]; · iapply (whole_at main_arg3 c (Vm m c)); iexact A3
      iapply (whole_at main_arg4 c (Wom m c)); iexact A4
    isplitl [Zk0 Zk1 Zv0 Zv1 Zq Zo ZS ZR]
    · isplitr [ZR]
      · isplitr [ZS]
        · isplitl [Zk0]; · iexact Zk0
          isplitl [Zk1]; · iexact Zk1
          isplitl [Zv0]; · iexact Zv0
          isplitl [Zv1]; · iexact Zv1
          isplitl [Zq] <;> iassumption
        · iexact ZS
      · iexact ZR
    isplitl [C0]; · iapply (whole_any cc0_scratch0 c); iexact C0
    isplitl [C1]; · iapply (whole_any cc0_scratch1 c); iexact C1
    isplitl [C2]; · iapply (whole_any cc0_scratch2 c); iexact C2
    isplitl [C3]; · iapply (whole_any cc0_scratch3 c); iexact C3
    isplitl [C4]; · iapply (whole_any cc0_scratch4 c); iexact C4
    isplitl [C5]; · iapply (whole_any cc0_scratch5 c); iexact C5
    isplitl [C6]; · iapply (whole_any cc0_scratch6 c); iexact C6
    iapply (whole_any cc0_scratch7 c); iexact C7
  isplitl [HO]
  · iexists W'
    isplitr; · ipureintro; exact fun _ _ => Or.inl trivial
    iexact HO
  isplitl [HX]
  · iexists (Xm m c); isplitr; · (ipureintro; rfl)
    iapply (whole_at cc0_stg0_0 c (Xm m c)); iexact HX
  · iexists (OV (Pm m) c); isplitr; · (ipureintro; rfl)
    iapply (whole_at cc0_stg1_0 c (OV (Pm m) c)); iexact HOut

set_option maxHeartbeats 1000000 in
/-- The body, run from what the launch and the pipeline hand it. -/
theorem sound_body (c : Dev nD) :
    bodyPre m ρ c ⊢ wp frame (wpE (defs₀ (F := F)) 𝒱₀ (c : Thread nD τ) none) Set.univ (onArgs (cc0__body (F := F))) (fun _ => bodyPost m ρ c) := by
  unfold bodyPre Φ₀ start G' linear payToks args copyZ scr Dat.owesAt Pipeline.owesWithin
  rw [bigSep25, scopedRest0_eq]
  simp only [kcell_iS, kcell_iR, kcell_bar]
  iintro ⟨⟨⟨⟨%K, #HR, ⟨HaB, HaS, HaR⟩, ⟨⟨T0, T1, T2, T3⟩, HtS, HtR⟩, ⟨Zk0, Zk1, Zv0, Zv1, Zq, Zo⟩⟩, ⟨HcB, HcR⟩, #Hlev, ⟨A1, A2, A3, A4⟩⟩, ⟨C0, C1, C2, C3, C4, C5, C6, C7⟩⟩, ⟨%W, %hW, HO⟩, ⟨%d0, %f0, %h0, HX⟩, ⟨%d1, %f1, -, HOut⟩⟩
  have hx : (dats m ρ 0 c).before (0 : Fin 2) pt₀ d0 = Xm m c := by
    unfold Dat.before; rw [if_pos (by rfl)]; rfl
  rw [hx] at h0; subst h0
  iapply (body (Xm m) (Wqm m) (Km m) (Vm m) (Wom m) (Pm m) K c rfl W _)
  isplitr []
  · isplitr; · iexact Hlev
    isplitl [T0 T1 T2 T3 HaB HcB]
    · isplitl [T0]
      · iapply (sig_intro (Pm m) K (lt c) 0); isplitr; · iexact HR
        iexact T0
      isplitl [T1]
      · iapply (sig_intro (Pm m) K (rt c) 1); isplitr; · iexact HR
        iexact T1
      isplitl [T2]
      · iapply (sig_intro (Pm m) K (zp c) 2); isplitr; · iexact HR
        iexact T2
      isplitl [T3]
      · iapply (sig_intro (Pm m) K (zn c) 3); isplitr; · iexact HR
        iexact T3
      unfold BarW
      isplitr; · iapply (invB (Pm m) K c); iexact HR
      isplitl [HaB] <;> iassumption
    isplitl [HaS HaR HtS HtR HcR]
    · iapply (hops_intro (Pm m) K c)
      isplitr; · iexact HR
      simp only [bigSep_sep']
      isplitl [HaS]; · iexact HaS
      isplitl [HaR]; · iexact HaR
      isplitl [HtS]; · iexact HtS
      isplitl [HtR] <;> iassumption
    isplitr [HO]
    · unfold bodyIn
      isplitl [HX]; · iapply (at_whole cc0_stg0_0 c (Xm m c)); iexact HX
      isplitl [A1]; · iapply (at_whole main_arg1 c (Wqm m c)); iexact A1
      isplitl [A2]; · iapply (at_whole main_arg2 c (Km m c)); iexact A2
      isplitl [A3]; · iapply (at_whole main_arg3 c (Vm m c)); iexact A3
      isplitl [A4]; · iapply (at_whole main_arg4 c (Wom m c)); iexact A4
      isplitl [HOut]; · iapply (any_whole cc0_stg1_0 c); iexists f1; iexact HOut
      isplitl [C0]; · iapply (any_whole cc0_scratch0 c); iexact C0
      isplitl [C1]; · iapply (any_whole cc0_scratch1 c); iexact C1
      isplitl [C2]; · iapply (any_whole cc0_scratch2 c); iexact C2
      isplitl [C3]; · iapply (any_whole cc0_scratch3 c); iexact C3
      isplitl [C4]; · iapply (any_whole cc0_scratch4 c); iexact C4
      isplitl [C5]; · iapply (any_whole cc0_scratch5 c); iexact C5
      isplitl [C6]; · iapply (any_whole cc0_scratch6 c); iexact C6
      isplitl [C7]; · iapply (any_whole cc0_scratch7 c); iexact C7
      isplitl [Zk0]; · iexact Zk0
      isplitl [Zk1]; · iexact Zk1
      isplitl [Zv0]; · iexact Zv0
      isplitl [Zv1]; · iexact Zv1
      isplitl [Zq] <;> iassumption
    · iexact HO
  · iintro ⟨%W', HB, HZ, HzB, HO⟩
    iapply (post_intro m ρ c W')
    isplitl [HB]; · iexact HB
    isplitl [HZ]; · iexact HZ
    isplitl [HzB] <;> iassumption

set_option maxRecDepth 8000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ _
  exact sound_body m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Pm m) c)
      ⊢ |={Set.univ}=> iprop(start m c ∗ emp) := by
  rw [show (Pipeline.unscopedRestP Pipeline.Prefetch.none cfg0.spec c (fun b => m ((c : Thread nD τ).loc b)) : sProp 𝕄) = args m c from
    Pipeline.unscopedRestP_eq_of_list _ c Pipeline.Prefetch.none _ [main_arg1, main_arg2, main_arg3, main_arg4] (by decide) (by decide)]
  iintro ⟨HA, Hlev, Hcr, -, HG⟩
  ihave Hc := (creds (F := F) c) $$ Hcr
  imodintro
  unfold start
  isplitl
  · isplitl [HG]; · iexact HG
    isplitl [Hc]; · iexact Hc
    isplitl [Hlev]; · iexact Hlev
    iexact HA
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop((unscopedSems0 c ∗ args m c) ∗ Pipeline.ownSems0 osem c ∗ Pipeline.scopedRest cfg0.spec c) := by
  rw [show (dats m ρ 0 c).Φ (Fin.last cfg0.N) = Φ₁ m c from rfl]
  unfold Φ₁
  exact .rfl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What a final memory keeps of device `c`'s arguments. -/
def Kept (c : Dev nD) (s : MemSt nD τ sig (Elt F)) : Prop :=
  s.mem ((c : Thread nD τ).loc main_arg1) = m ((c : Thread nD τ).loc main_arg1) ∧ s.mem ((c : Thread nD τ).loc main_arg2) = m ((c : Thread nD τ).loc main_arg2)
    ∧ s.mem ((c : Thread nD τ).loc main_arg3) = m ((c : Thread nD τ).loc main_arg3) ∧ s.mem ((c : Thread nD τ).loc main_arg4) = m ((c : Thread nD τ).loc main_arg4)

omit [FloatOps F] in
theorem args_read (c : Dev nD) (s' : Phys nD τ sig (Elt F)) : iprop(args m c ∗ SI s') ⊢ (⌜Kept m c s'.mem⌝ : sProp 𝕄) := by
  unfold args Kept
  iintro ⟨⟨H1, H2, H3, H4⟩, HS⟩
  icombine H1 HS gives %h1
  icombine H2 HS gives %h2
  icombine H3 HS gives %h3
  icombine H4 HS gives %h4
  ipureintro
  exact ⟨Buf.eq_of_forall_mem_univ h1, Buf.eq_of_forall_mem_univ h2, Buf.eq_of_forall_mem_univ h3, Buf.eq_of_forall_mem_univ h4⟩

/-- What a run ends in: the windows' arrays at what the pipeline leaves in them, the other arguments as launched. -/
def QC : PUnit × MemSt nD τ sig (Elt F) → Prop := fun r =>
  ∀ c : Dev nD, (∀ w : Fin cfg0.W, r.2.mem ((cfg0.win w).arr.view.loc (c : Thread nD τ)) = (dats m ρ 0 c).arrAt w cfg0.N) ∧ Kept m c r.2

set_option maxRecDepth 8000 in
/-- Every weakly fair execution of the program ends, the arguments as launched, the result as computed, and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Pm m)) (G' := G' (Pm m)) (u₀ := u₀)
    (hu₀ := by
      unfold u₀
      iintro Hu
      ihave H := (ownU_three _ _) $$ Hu
      icases H with ⟨HP, HX⟩
      imod (fund (Pm m)) $$ HX with HG
      imodintro
      isplitl [HP] <;> iassumption)
    (hglob := glob (Pm m))
    (hA := fun _ _ => rfl) (hpf := fun _ k => k.elim0)
    (X := start m) (Y := fun c => iprop(unscopedSems0 c ∗ args m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ Kept m c s)
    (hY := fun c s' => by
      iintro ⟨⟨Hu, Ha⟩, -, HSI⟩
      ihave %hk := (args_read m c s') $$ [Ha HSI]
      · isplitl [Ha] <;> iassumption
      imod (Pipeline.unscopedSems0_read (X := unscopedSems0 c) (c := c) fupd_intro s') $$ [Hu HSI] with ⟨%hu, HSI⟩
      · isplitl [Hu] <;> iassumption
      imodintro
      isplitr; · ipureintro; exact ⟨hu, hk⟩
      iexact HSI)
    (hQ := fun _ h hs => ⟨fun c => ⟨fun w => (h c).1 w, (h c).2.2.2⟩, sem_eq_zero hs fun c => (h c).2.2.1⟩)

end Cert.KernelIdeal.Hand

end
-- ==== Proof.Final.lean ====
/- What a run leaves in memory, read off the pipeline's own account of it: the arguments as they were launched, and the result
   array at the all-reduced value. Stated for any floats. -/
module

public import proofs.«01_k».proof.Proof.Run
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The staged argument is only read. -/
theorem end_arg0 (c : Dev nD) : (dats m ρ 0 c).arrAt (0 : Fin 2) cfg0.N = m ((c : Thread nD τ).loc main_arg0) :=
  (dats m ρ 0 c).arrAt_in (0 : Fin 2) rfl _

/-- The result array ends at what the body left in its staging buffer, the one block being the whole of it. -/
theorem end_out (c : Dev nD) : (dats m ρ 0 c).arrAt (1 : Fin 2) cfg0.N = OV (Pm m) c :=
  (dats m ρ 0 c).arrAt_eq_of_after_last (1 : Fin 2) t0_0 (by decide +kernel) _ (fun _ => rfl)

/-- The staged block of the first argument is the whole of it. -/
theorem Xm_eq (c : Dev nD) : Xm m c = m ((c : Thread nD τ).loc main_arg0) := by
  funext i
  unfold Xm
  refine congrArg (m ((c : Thread nD τ).loc main_arg0)) (?_ : (win0_0.blk (0 : Fin 1)).view.emb i = i)
  funext a; apply Fin.ext
  exact Pipeline.Window.rect_emb_val_of_index_zero win0_0 t0_0 a (by fin_cases a <;> rfl) i

/-- Every run ends with the arguments as launched, every counter at zero and the result computed. -/
theorem run_end : θ_run defs (onTc (τ := τ) (main (F := F))) ⟨m, fun _ => 0, ρ⟩ (fun r => (∀ c : Dev nD,
      r.2.mem ((c : Thread nD τ).loc main_v1) = OV (Pm m) c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c =>
    ⟨((h.1 c).1 (1 : Fin 2)).trans (end_out m ρ c), ((h.1 c).1 (0 : Fin 2)).trans (end_arg0 m ρ c), (h.1 c).2⟩, h.2⟩) (run_main m ρ)

end Cert.KernelIdeal.Hand

end
-- ==== Proof.Frames.lean ====
/- The three frames: each program runs, its arguments end as they were launched and every semaphore counter reads zero again. The
   kernel's two are the run of `Final.lean`, once at each float instance; the reference declares no semaphore. -/
module

public import proofs.«01_k».proof.Defs
public import proofs.«01_k».proof.Proof.Final
public import proofs.«01_k».proof.Proof.Compiled.Final
public import proofs.«01_k».proof.Proof.Gen.ReferenceIdeal
public import proofs.«01_k».proof.Proof.Gen.ReferenceIdeal.Run

@[expose] public section

noncomputable section

namespace Cert.Proof

open Idealize.ShloMosaic Idealize.SL.Sem

theorem frame_kernel : Cert.quiescent_Kernel := by
  intro m g _
  exact (θ_run _ _ _).mono (fun _ h => ⟨fun c => (h.1 c).2, h.2⟩) (Cert.Kernel.Hand.run_end (F := Bits) m g)

theorem frame_kernelIdeal : Cert.quiescent_KernelIdeal := by
  intro m g _
  exact (θ_run _ _ _).mono (fun _ h => ⟨fun c => (h.1 c).2, h.2⟩) (Cert.KernelIdeal.Hand.run_end (F := Ideal) m g)

theorem frame_reference : Cert.quiescent_ReferenceIdeal := by
  intro m g _
  exact (θ_run _ _ _).mono (fun r h => ⟨fun c => (h c).2, sem_eq_zero_of_no_sems (by decide) r.2⟩)
    (Cert.ReferenceIdeal.Value.run (F := Ideal) m g)

end Cert.Proof

end
-- ==== Proof.Attn.lean ====
/- Masked softmax attention of one query against all keys, as one formula over the ideal floats: both programs are read down to it. -/
module

public import Idealize.ShloMosaic.Lib.Pointwise

@[expose] public section

noncomputable section

namespace Cert.Attn

open Idealize.ShloMosaic

/-- The mask on blocks: the same block, the first block of keys, or block numbers adding to a multiple of three. -/
def bit (a b : ℕ) : BitVec 1 := if a = b ∨ b = 0 ∨ (a + b) % 3 = 0 then 1#1 else 0#1

/-- A scaled score where the mask keeps it, the large negative number where it does not. -/
def logit (b : BitVec 1) (x : EReal) : EReal := Scalar.select b (x * Ideal.ofBits .f32 0x3DB504F3#32) (Ideal.ofBits .f32 0xCE6E6B28#32)
/-- The exponential of a row's entry less the row's maximum. -/
def expo (s : Fin 4096 → EReal) (j : Fin 4096) : EReal := Ideal.exp (s j - Finset.univ.fold max (Ideal.ofBits .f32 0xFF800000#32) s)
/-- A row's weights. -/
def soft (s : Fin 4096 → EReal) (j : Fin 4096) : EReal := Ideal.div (expo s j) (∑ x, expo s x)
/-- One entry of the context: query `q` at position `i`, keys `k`, one column of the values `v`. -/
def attn (i : Fin 256) (q : Fin 128 → EReal) (k : Fin 4096 → Fin 128 → EReal) (v : Fin 4096 → EReal) : EReal :=
  ∑ j, soft (fun j => logit (bit (i.val / 64) (j.val / 64)) (∑ d, q d * k j d)) j * v j

/-- A head's number and a column in it, out of a column of all the heads. -/
def hd (k : Fin 16384) : Fin 128 := ⟨k.val / 128, by omega⟩
def cl (k : Fin 16384) : Fin 128 := ⟨k.val % 128, Nat.mod_lt _ (by decide)⟩
/-- … and back. -/
def flat (h d : Fin 128) : Fin 16384 := ⟨h.val * 128 + d.val, by omega⟩

/-- THE RESULT: row `i`, column `l`. -/
def result (X : (⟨2, ![256, 1024]⟩ : Shape).Idx → EReal) (Wq : (⟨2, ![1024, 16384]⟩ : Shape).Idx → EReal) (K V : (⟨3, ![4096, 128, 128]⟩ : Shape).Idx → EReal)
    (Wo : (⟨2, ![16384, 1024]⟩ : Shape).Idx → EReal) (i : Fin 256) (l : Fin 1024) : EReal :=
  ∑ k : Fin 16384, attn i (fun d => ∑ x, X (ix2 i x) * Wq (ix2 x (flat (hd k) d))) (fun j d => K (ix3 j (hd k) d)) (fun j => V (ix3 j (hd k) (cl k))) * Wo (ix2 k l)

end Cert.Attn

end
-- ==== Proof.KerMask.lean ====
/- The kernel's mask at an index. -/
module

public import proofs.«01_k».proof.Proof.Heads
public import proofs.«01_k».proof.Proof.Attn

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Attn (bit)

set_option maxRecDepth 16384

/-- The kernel's own division of a position by 64. -/
def blockOf (x : BitVec 32) : BitVec 32 :=
  Scalar.select (IntOp.andi (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem blockOf_eq (j : Fin 4096) : blockOf (BitVec.ofNat 32 j.val) = BitVec.ofNat 32 (j.val / 64) := by
  revert j; decide +kernel

theorem block_row (i : Fin 256) (j : Fin 4096) : k0_pay6 k0_pay2 k0_pay3 k0_pay4 k0_pay5 (ix2 i j) = BitVec.ofNat 32 (i.val / 64) := by
  rw [← blockOf_eq ⟨i.val, by omega⟩]
  pointwise [k0_pay6, k0_pay2, k0_pay3, k0_pay4, k0_pay5]
  rfl
theorem block_col (i : Fin 256) (j : Fin 4096) : k0_pay7 (iota .tc S256x4096 32 [1] iota_S256x4096_d1_w32) (ix2 i j) = BitVec.ofNat 32 (j.val / 64) := by
  rw [← blockOf_eq j]
  pointwise [k0_pay7]
  rfl

theorem maskV_apply (i : Fin 256) (j : Fin 4096) : maskV (ix2 i j) = bit (i.val / 64) (j.val / 64) := by
  pointwise [maskV, k0_pay13, k0_pay8, k0_pay9, k0_pay10, k0_pay11, k0_pay12]
  rw [block_row, block_col]
  have ha : i.val / 64 < 4 := by omega
  have hb : j.val / 64 < 64 := by omega
  generalize i.val / 64 = a at *
  generalize j.val / 64 = b at *
  obtain ⟨a, rfl⟩ : ∃ x : Fin 4, x.val = a := ⟨⟨a, ha⟩, rfl⟩
  obtain ⟨b, rfl⟩ : ∃ x : Fin 64, x.val = b := ⟨⟨b, hb⟩, rfl⟩
  clear ha hb
  revert a b; decide +kernel

end Cert.KernelIdeal.Hand

end
-- ==== Proof.KerRead.lean ====
/- A device's partial result at an index. -/
module

public import proofs.«01_k».proof.Proof.KerMask

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Attn (bit logit attn)

set_option maxRecDepth 16384

/-! ## One head -/

theorem casts_in : S4096x1x128.ShapeCasts S4096x128 := by decide
theorem casts_out : S4096x128.ShapeCasts S1x4096x128 := by decide
theorem head1_apply (h : Fin 8) (w : FVec Ideal S4096x8x128 .f32) (j : Fin 4096) (d : Fin 128) : head1 h w (ix3 0 j d) = w (ix3 j h d) := by
  have e : head1 h w = shapeCast S1x4096x128 (shapeCast S4096x128 (head3 h w) casts_in) casts_out := rfl
  rw [e]
  pointwise
  rfl

theorem inb_cols (h : Fin 8) : S256x1024.Slices ![0, 128 * h.val] S256x128 := by revert h; decide

/-- All eight heads are one function of the head's own columns, keys and values. -/
theorem headV_eq (q : FVec Ideal S256x1024 .f32) (m : IVec S256x4096 1) (kw vw : FVec Ideal S4096x8x128 .f32) (h : Fin 8) :
    headV q m kw vw h.val = k0_pay20 m (extractStridedSlice S256x128 ![0, 128 * h.val] q (inb_cols h)) (head1 h kw) (head1 h vw) := by
  fin_cases h <;> rfl

theorem cols_apply (q : FVec Ideal S256x1024 .f32) (h : Fin 8) (i : Fin 256) (d : Fin 128) :
    extractStridedSlice S256x128 ![0, 128 * h.val] q (inb_cols h) (ix2 i d) = q (ix2 i (⟨128 * h.val + d.val, by omega⟩ : Fin 1024)) := by
  pointwise

theorem head_apply (q : FVec Ideal S256x1024 .f32) (kw vw : FVec Ideal S4096x8x128 .f32) (h : Fin 8) (i : Fin 256) (d : Fin 128) :
    headV q maskV kw vw h.val (ix2 i d)
      = attn i (fun x => q (ix2 i (⟨128 * h.val + x.val, by omega⟩ : Fin 1024))) (fun j x => kw (ix3 j h x)) (fun j => vw (ix3 j h d)) := by
  rw [headV_eq]
  pointwise [k0_pay20]
  simp only [maskV_apply, cols_apply, head1_apply]
  rfl

/-! ## The partial result -/

theorem queries_apply (X : FVec Ideal S256x1024 .f32) (W : FVec Ideal S1024x1024 .f32) (i : Fin 256) (l : Fin 1024) :
    k0_pay1 (F := Ideal) X W (ix2 i l) = ∑ x, X (ix2 i x) * W (ix2 x l) := by
  pointwise [k0_pay1]
theorem project_apply (C : FVec Ideal S256x1024 .f32) (W : FVec Ideal S1024x1024 .f32) (i : Fin 256) (l : Fin 1024) :
    k0_pay30 (F := Ideal) (k0_pay28 (F := Ideal) C) (k0_pay29 (F := Ideal) W) (constant S256x1024 .f32 0x00000000#32) (ix2 i l) = ∑ k, C (ix2 i k) * W (ix2 k l) := by
  pointwise [k0_pay30, k0_pay28, k0_pay29]

theorem off1_eq : ∀ c : Dev nD, ∀ a, k0_off1 c a = (![0, 1024 * c.val] : Fin 2 → ℕ) a := by decide +kernel
theorem off2_eq : ∀ c : Dev nD, ∀ a, k0_off2 c a = (![1024 * c.val, 0] : Fin 2 → ℕ) a := by decide +kernel

/-- A column of all the heads, out of a device and a column of its own. -/
def wide (c : Dev nD) (k : Fin 1024) : Fin 16384 := ⟨k.val + 1024 * c.val, by have := c.isLt; simp only [nD] at this; omega⟩

variable (X : Dev nD → FVec Ideal S256x1024 .f32) (Wq : Dev nD → FVec Ideal S1024x16384 .f32) (KC VC : Dev nD → FVec Ideal S4096x8x128 .f32)
  (Wo : Dev nD → FVec Ideal S16384x1024 .f32)

theorem wqB_apply (c : Dev nD) (x k : Fin 1024) : wqB Wq c (ix2 x k) = Wq c (ix2 x (wide c k)) := by
  refine congrArg (Wq c) ?_
  funext a; fin_cases a <;> apply Fin.ext
  · show k0_off1 c 0 + 1 * x.val = x.val; rw [off1_eq c 0]; show 0 + 1 * x.val = x.val; omega
  · show k0_off1 c 1 + 1 * k.val = k.val + 1024 * c.val; rw [off1_eq c 1]; show 1024 * c.val + 1 * k.val = _; omega
theorem woB_apply (c : Dev nD) (k l : Fin 1024) : woB Wo c (ix2 k l) = Wo c (ix2 (wide c k) l) := by
  refine congrArg (Wo c) ?_
  funext a; fin_cases a <;> apply Fin.ext
  · show k0_off2 c 0 + 1 * k.val = k.val + 1024 * c.val; rw [off2_eq c 0]; show 1024 * c.val + 1 * k.val = _; omega
  · show k0_off2 c 1 + 1 * l.val = l.val; rw [off2_eq c 1]; show 0 + 1 * l.val = l.val; omega

def hd8 (k : Fin 1024) : Fin 8 := ⟨k.val / 128, by omega⟩
def cl8 (k : Fin 1024) : Fin 128 := ⟨k.val % 128, Nat.mod_lt _ (by decide)⟩

theorem PV_apply (c : Dev nD) (i : Fin 256) (l : Fin 1024) :
    PVof X Wq KC VC Wo c (ix2 i l)
      = ∑ k : Fin 1024, attn i (fun d => ∑ x, X c (ix2 i x) * Wq c (ix2 x (wide c ⟨128 * (hd8 k).val + d.val, by have := (hd8 k).isLt; omega⟩)))
          (fun j d => KC c (ix3 j (hd8 k) d)) (fun j => VC c (ix3 j (hd8 k) (cl8 k))) * Wo c (ix2 (wide c k) l) := by
  unfold PVof
  rw [project_apply]
  refine Finset.sum_congr rfl fun k _ => ?_
  rw [woB_apply]
  refine congrArg (· * Wo c (ix2 (wide c k) l)) ?_
  show headV _ maskV (KC c) (VC c) (hd8 k).val (ix2 i (cl8 k)) = _
  rw [head_apply]
  simp only [queries_apply, wqB_apply]

end Cert.KernelIdeal.Hand

end
-- ==== Proof.Reduce.lean ====
/- The all-reduce as a value, over the ideal floats: every row of the finished array is the sum, over all sixteen devices, of
   that row of their partial results. -/
module

public import proofs.«01_k».proof.Proof.Proto
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## One hop -/

theorem shapeCast_lead64 (b : FVec Ideal S64x1024 .f32) : shapeCast S64x1024 (lead64 b) shapeCasts_S1x64x1024_S64x1024 = b := by
  funext i; exact congrArg b (Equiv.symm_apply_apply _ i)
theorem shapeCast_lead16 (b : FVec Ideal S16x1024 .f32) : shapeCast S16x1024 (lead16 b) shapeCasts_S1x16x1024_S16x1024 = b := by
  funext i; exact congrArg b (Equiv.symm_apply_apply _ i)

theorem hop64 (a b : FVec Ideal S64x1024 .f32) (r : Fin 64) (l : Fin 1024) :
    shapeCast S64x1024 (addf a (shapeCast S64x1024 (lead64 b) shapeCasts_S1x64x1024_S64x1024)) shapeCasts_S64x1024_S64x1024 (ix2 r l)
      = a (ix2 r l) + b (ix2 r l) := by
  rw [shapeCast_lead64]; pointwise
theorem hop16 (a b : FVec Ideal S16x1024 .f32) (r : Fin 16) (l : Fin 1024) :
    shapeCast S16x1024 (addf a (shapeCast S16x1024 (lead16 b) shapeCasts_S1x16x1024_S16x1024)) shapeCasts_S16x1024_S16x1024 (ix2 r l)
      = a (ix2 r l) + b (ix2 r l) := by
  rw [shapeCast_lead16]; pointwise

theorem addA_apply (s : ℕ) (a b : FVec Ideal S64x1024 .f32) (r : Fin 64) (l : Fin 1024) :
    addA s a (lead64 b) (ix2 r l) = a (ix2 r l) + b (ix2 r l) := by
  match s with
  | 0 => exact hop64 a b r l
  | 1 => exact hop64 a b r l
  | s + 2 => exact hop64 a b r l
theorem addZ_apply (s : ℕ) (a b : FVec Ideal S16x1024 .f32) (r : Fin 16) (l : Fin 1024) :
    addZ s a (lead16 b) (ix2 r l) = a (ix2 r l) + b (ix2 r l) := by
  match s with
  | 0 => exact hop16 a b r l
  | 1 => exact hop16 a b r l
  | s + 2 => exact hop16 a b r l

theorem rows64_apply (q : Fin 4) (v : FVec Ideal S256x1024 .f32) (r : Fin 64) (l : Fin 1024) :
    rows64 q v (ix2 r l) = v (ix2 (⟨64 * q.val + r.val, by omega⟩ : Fin 256) l) := by
  refine congrArg v ?_
  funext a; fin_cases a <;> apply Fin.ext
  · show 64 * q.val + 1 * r.val = 64 * q.val + r.val; omega
  · show 0 + 1 * l.val = l.val; omega

/-! ## The two reductions -/

theorem qi_walk : ∀ d : Dev nD, (qi d (Fin.ofNat 4 3)).val = (d.val % 4 + 1) % 4 ∧ (qi (lt d) (Fin.ofNat 4 2)).val = (d.val % 4 + 1) % 4 ∧
    (qi (lt (lt d)) (Fin.ofNat 4 1)).val = (d.val % 4 + 1) % 4 ∧ (qi (lt (lt (lt d))) 0).val = (d.val % 4 + 1) % 4 := by decide
theorem ui_walk : ∀ d : Dev nD, (ui d (Fin.ofNat 4 3)).val % 4 = (d.val / 4 + 1) % 4 ∧ (ui (zp d) (Fin.ofNat 4 2)).val % 4 = (d.val / 4 + 1) % 4 ∧
    (ui (zp (zp d)) (Fin.ofNat 4 1)).val % 4 = (d.val / 4 + 1) % 4 ∧ (ui (zp (zp (zp d))) 0).val % 4 = (d.val / 4 + 1) % 4 := by decide

section Vals
variable (PV : Dev nD → FVec Ideal S256x1024 .f32)

/-- A finished chunk of the plane's reduction is the sum of the four devices of the plane. -/
theorem AP_three (d : Dev nD) (r : Fin 64) (l : Fin 1024) (R : Fin 256) (hR : R.val = 64 * ((d.val % 4 + 1) % 4) + r.val) :
    AP PV d 3 (ix2 r l) = PV d (ix2 R l) + (PV (lt d) (ix2 R l) + (PV (lt (lt d)) (ix2 R l) + PV (lt (lt (lt d))) (ix2 R l))) := by
  have e : ∀ (k : Fin 4) (c : Dev nD) (s : Fin 4), (qi c s).val = (d.val % 4 + 1) % 4 →
      rows64 (qi c s) (PV c) (ix2 r l) = PV c (ix2 R l) := fun _ c s h => by
    rw [rows64_apply]; congr 2; apply Fin.ext; rw [hR, ← h]
  obtain ⟨d0, d1, d2, d3⟩ := qi_walk d
  simp only [AP, addA_apply]
  rw [e 0 _ _ d0, e 0 _ _ d1, e 0 _ _ d2, e 0 _ _ d3]

theorem ZP_three (d : Dev nD) (r : Fin 16) (l : Fin 1024) (R : Fin 64) (hR : R.val = 16 * ((d.val / 4 + 1) % 4) + r.val) :
    ZP PV d 3 (ix2 r l) = AP PV d 3 (ix2 R l) + (AP PV (zp d) 3 (ix2 R l) + (AP PV (zp (zp d)) 3 (ix2 R l) + AP PV (zp (zp (zp d))) 3 (ix2 R l))) := by
  have e : ∀ (c : Dev nD) (s : Fin 4), (ui c s).val % 4 = (d.val / 4 + 1) % 4 →
      sub16 ((ui c s).val % 4) (AP PV c 3) (ix2 r l) = AP PV c 3 (ix2 R l) := fun c s h => by
    unfold sub16; rw [h]
    refine congrArg (AP PV c 3) (congrArg (fun x => ix2 x l) (Fin.ext ?_))
    show (16 * ((d.val / 4 + 1) % 4) + r.val) % 64 = R.val
    omega
  obtain ⟨d0, d1, d2, d3⟩ := ui_walk d
  simp only [ZP, addZ_apply]
  rw [e _ _ d0, e _ _ d1, e _ _ d2, e _ _ d3]

/-- From any device, stepping back along the plane and across the planes meets every device once. -/
theorem walk_bijective (f : Dev nD) : Function.Bijective (fun p : Fin 4 × Fin 4 => lt^[p.2.val] (zp^[p.1.val] f)) := by
  revert f; decide +kernel

/-- A finished sub-block is the sum over all the devices. -/
theorem ZP_sum (f : Dev nD) (r : Fin 16) (l : Fin 1024) (R : Fin 256)
    (hR : R.val = 64 * ((f.val % 4 + 1) % 4) + (16 * ((f.val / 4 + 1) % 4) + r.val)) :
    ZP PV f 3 (ix2 r l) = ∑ c : Dev nD, PV c (ix2 R l) := by
  have hz : ∀ f : Dev nD, (zp f).val % 4 = f.val % 4 := by decide
  rw [ZP_three PV f r l ⟨16 * ((f.val / 4 + 1) % 4) + r.val, by omega⟩ rfl,
    AP_three PV f _ l R hR, AP_three PV (zp f) _ l R (by rw [hz]; exact hR), AP_three PV (zp (zp f)) _ l R (by rw [hz, hz]; exact hR),
    AP_three PV (zp (zp (zp f))) _ l R (by rw [hz, hz, hz]; exact hR)]
  rw [← Equiv.sum_comp (Equiv.ofBijective _ (walk_bijective f)) (fun c => PV c (ix2 R l)), Fintype.sum_prod_type]
  simp only [Equiv.ofBijective_apply, Fin.sum_univ_four]
  simp only [Fin.val_zero, Fin.val_one, Fin.val_two, show (3 : Fin 4).val = 3 from rfl, Function.iterate_succ, Function.iterate_zero, Function.comp, id]
  simp only [add_assoc]

/-! ## The two gathers -/

theorem GV_eq (d : Dev nD) (s : ℕ) : GV PV d s = ZP PV (zp^[s] d) 3 := by
  induction s generalizing d with
  | zero => rfl
  | succ s ih => exact ih (zp d)
theorem HV_eq (d : Dev nD) (s : ℕ) : HV PV d s = XV PV (lt^[s] d) := by
  induction s generalizing d with
  | zero => rfl
  | succ s ih => exact ih (lt d)

theorem zp_iter (d : Dev nD) (t : Fin 4) : (zp^[(d.val / 4 + 5 - t.val) % 4] d).val % 4 = d.val % 4 ∧
    ((zp^[(d.val / 4 + 5 - t.val) % 4] d).val / 4 + 1) % 4 = t.val := by
  revert d t; decide +kernel
theorem lt_iter (d : Dev nD) (t : Fin 4) : ((lt^[(d.val % 4 + 5 - t.val) % 4] d).val % 4 + 1) % 4 = t.val := by
  revert d t; decide +kernel

theorem XV_sum (d : Dev nD) (r : Fin 64) (l : Fin 1024) (R : Fin 256) (hR : R.val = 64 * ((d.val % 4 + 1) % 4) + r.val) :
    XV PV d (ix2 r l) = ∑ c : Dev nD, PV c (ix2 R l) := by
  have h := zp_iter d ⟨r.val / 16, by omega⟩
  show GV PV d ((d.val / 4 + 5 - r.val / 16) % 4) (ix2 ⟨r.val % 16, _⟩ l) = _
  rw [GV_eq]
  refine ZP_sum PV _ _ l R ?_
  rw [h.1, h.2, hR]
  show _ = _ + (16 * (r.val / 16) + r.val % 16)
  omega

/-- THE ALL-REDUCE: every row of the finished array is the sum of that row over the devices. -/
theorem OV_sum (d : Dev nD) (r : Fin 256) (l : Fin 1024) : OV PV d (ix2 r l) = ∑ c : Dev nD, PV c (ix2 r l) := by
  have h := lt_iter d ⟨r.val / 64, by omega⟩
  show HV PV d ((d.val % 4 + 5 - r.val / 64) % 4) (ix2 ⟨r.val % 64, _⟩ l) = _
  rw [HV_eq]
  refine XV_sum PV _ _ l r ?_
  rw [h]
  show _ = 64 * (r.val / 64) + r.val % 64
  omega

end Vals

end Cert.KernelIdeal.Hand

end
-- ==== Proof.KerResult.lean ====
/- The kernel's result on every device: the sum over the devices of their partial results is the one contraction over all the
   heads' columns. -/
module

public import proofs.«01_k».proof.Proof.KerRead
public import proofs.«01_k».proof.Proof.Reduce
public import Idealize.ShloMosaic.Lib.Layout

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Attn (attn hd cl flat result)

/-- Device `c`'s heads, of all the heads. -/
abbrev mine (c : Dev nD) (w : FVec Ideal ⟨3, ![4096, 128, 128]⟩ .f32) : FVec Ideal S4096x8x128 .f32 :=
  Layout.block ⟨3, ![4096, 8, 128]⟩ ⟨3, ![4096, 128, 128]⟩ 1 16 c w

theorem mine_apply (c : Dev nD) (w : FVec Ideal ⟨3, ![4096, 128, 128]⟩ .f32) (j : Fin 4096) (k : Fin 1024) (d : Fin 128) :
    mine c w (ix3 j (hd8 k) d) = w (ix3 j (hd (wide c k)) d) := by
  refine congrArg w ?_
  funext a; fin_cases a <;> apply Fin.ext
  · rfl
  · show c.val * 8 + k.val / 128 = (k.val + 1024 * c.val) / 128; omega
  · rfl

theorem cl_wide (c : Dev nD) (k : Fin 1024) : cl (wide c k) = cl8 k := Fin.ext (by show (k.val + 1024 * c.val) % 128 = k.val % 128; omega)
theorem wide_flat (c : Dev nD) (k : Fin 1024) (d : Fin 128) (h : 128 * (hd8 k).val + d.val < 1024) :
    wide c ⟨128 * (hd8 k).val + d.val, h⟩ = flat (hd (wide c k)) d :=
  Fin.ext (by show 128 * (k.val / 128) + d.val + 1024 * c.val = (k.val + 1024 * c.val) / 128 * 128 + d.val; omega)

/-- The columns of all the heads, device by device. -/
theorem sum_wide (f : Fin 16384 → EReal) : ∑ c : Dev nD, ∑ k : Fin 1024, f (wide c k) = ∑ k, f k := by
  rw [← Fintype.sum_prod_type']
  exact Equiv.sum_comp (finProdFinEquiv (m := 16) (n := 1024)) f

/-- THE KERNEL'S RESULT. -/
theorem kernel_apply (X : FVec Ideal S256x1024 .f32) (Wq : FVec Ideal S1024x16384 .f32) (K V : FVec Ideal ⟨3, ![4096, 128, 128]⟩ .f32)
    (Wo : FVec Ideal S16384x1024 .f32) (c : Dev nD) (i : Fin 256) (l : Fin 1024) :
    OV (PVof (fun _ => X) (fun _ => Wq) (fun c => mine c K) (fun c => mine c V) (fun _ => Wo)) c (ix2 i l) = result X Wq K V Wo i l := by
  rw [OV_sum]
  unfold result
  rw [← sum_wide]
  refine Finset.sum_congr rfl fun c _ => ?_
  rw [PV_apply]
  refine Finset.sum_congr rfl fun k _ => ?_
  simp only [mine_apply, wide_flat, cl_wide]

end Cert.KernelIdeal.Hand

end
-- ==== Proof.RefSteps.lean ====
/- The reference's result in named steps (queries, mask, scores, weights, context, output), over the ideal floats. -/
module

public import proofs.«01_k».proof.Proof.Gen.ReferenceIdeal.Run
public import Idealize.ShloMosaic.Lib.Pointwise

@[expose] public section

noncomputable section

namespace Cert.ReferenceIdeal.Hand

open Cert.ReferenceIdeal Cert.ReferenceIdeal.Gen
open Idealize.ShloMosaic Idealize.ShloMosaic.TcCoe Idealize.SL.Sem

/-! ## The steps -/

/-- The number of the 64-block a position lies in, by the reference's own division: the queries' and the keys'. -/
def blockQ : IVec S256 32 :=
  select (andi (cmpi .ne (signi (iotaInDim S256 32 0)) (broadcastInDim S256 ![] bcast_S_S256 (signi (id (constantI S_ 32 64#32)))))
      (cmpi .ne (Host.remsi (iotaInDim S256 32 0) (broadcastInDim S256 ![] bcast_S_S256 (id (constantI S_ 32 64#32)))) (broadcastInDim S256 ![] bcast_S_S256 (constantI S_ 32 0#32))))
    (subi (Host.divsi (iotaInDim S256 32 0) (broadcastInDim S256 ![] bcast_S_S256 (id (constantI S_ 32 64#32)))) (broadcastInDim S256 ![] bcast_S_S256 (constantI S_ 32 1#32)))
    (Host.divsi (iotaInDim S256 32 0) (broadcastInDim S256 ![] bcast_S_S256 (id (constantI S_ 32 64#32))))
def blockK : IVec S4096 32 :=
  select (andi (cmpi .ne (signi (iotaInDim S4096 32 0)) (broadcastInDim S4096 ![] bcast_S_S4096 (signi (id (constantI S_ 32 64#32)))))
      (cmpi .ne (Host.remsi (iotaInDim S4096 32 0) (broadcastInDim S4096 ![] bcast_S_S4096 (id (constantI S_ 32 64#32)))) (broadcastInDim S4096 ![] bcast_S_S4096 (constantI S_ 32 0#32))))
    (subi (Host.divsi (iotaInDim S4096 32 0) (broadcastInDim S4096 ![] bcast_S_S4096 (id (constantI S_ 32 64#32)))) (broadcastInDim S4096 ![] bcast_S_S4096 (constantI S_ 32 1#32)))
    (Host.divsi (iotaInDim S4096 32 0) (broadcastInDim S4096 ![] bcast_S_S4096 (id (constantI S_ 32 64#32))))

def rowQ : IVec S256x4096 32 := broadcastInDim S256x4096 ![0, 1] bcast_S256x1_S256x4096_0_1 (broadcastInDim S256x1 ![0] bcast_S256_S256x1_0 blockQ)
def colK : IVec S1x4096 32 := broadcastInDim S1x4096 ![1] bcast_S4096_S1x4096_1 blockK
def colK2 : IVec S256x4096 32 := broadcastInDim S256x4096 ![0, 1] bcast_S1x4096_S256x4096_0_1 colK
/-- The divisor three, and the remainder by it before its sign is mended. -/
def three : IVec S_ 32 := select (cmpi .eq (id (constantI S_ 32 3#32)) (constantI S_ 32 0#32)) (constantI S_ 32 1#32) (id (constantI S_ 32 3#32))
def rem3 : IVec S256x4096 32 := Host.remsi (addi rowQ colK2) (broadcastInDim S256x4096 ![] bcast_S_S256x4096 three)
def mod3 : IVec S256x4096 32 :=
  select (andi (cmpi .ne (cmpi .slt rem3 (broadcastInDim S256x4096 ![] bcast_S_S256x4096 (constantI S_ 32 0#32))) (broadcastInDim S256x4096 ![] bcast_S_S256x4096 (cmpi .slt three (constantI S_ 32 0#32))))
      (cmpi .ne rem3 (broadcastInDim S256x4096 ![] bcast_S_S256x4096 (constantI S_ 32 0#32))))
    (addi rem3 (broadcastInDim S256x4096 ![] bcast_S_S256x4096 three)) rem3
/-- The mask. -/
def mask : IVec S256x4096 1 :=
  ori (ori (cmpi .eq rowQ colK2) (broadcastInDim S256x4096 ![0, 1] bcast_S1x4096_S256x4096_0_1 (cmpi .eq colK (broadcastInDim S1x4096 ![] bcast_S_S1x4096 (constantI S_ 32 0#32)))))
    (cmpi .eq mod3 (broadcastInDim S256x4096 ![] bcast_S_S256x4096 (constantI S_ 32 0#32)))
/-- Whether any key of a row is kept. -/
def keep : IVec S256 1 := Host.reduce IntOp.ori mask (constantI S_ 1 0#1) reducesTo_S256x4096_S256_d1 h_S_

variable (X : FVec Ideal S256x1024 .f32) (Wq : FVec Ideal S1024x16384 .f32) (K V : FVec Ideal S4096x128x128 .f32) (Wo : FVec Ideal S16384x1024 .f32)

def queries : FVec Ideal S256x128x128 .f32 :=
  shapeCast S256x128x128 (Host.dotGeneral dot_S256x1024_S1024x16384_S256x16384_1_0_0_1_n_n none X Wq) shapeCasts_S256x16384_S256x128x128
/-- The masked scores, of the queries. -/
def scores (Q : FVec Ideal S256x128x128 .f32) : FVec Ideal S128x256x4096 .f32 :=
  select (broadcastInDim S128x256x4096 ![0, 1, 2] bcast_S1x256x4096_S128x256x4096_0_1_2 (broadcastInDim S1x256x4096 ![1, 2] bcast_S256x4096_S1x256x4096_1_2 mask))
    (mulf (Host.dotGeneral dot_S256x128x128_S4096x128x128_S128x256x4096_2_2_0_0_1_1 none Q K)
      (broadcastInDim S128x256x4096 ![] bcast_S_S128x256x4096 (constant (F := Ideal) S_ .f32 0x3DB504F3#32)))
    (broadcastInDim S128x256x4096 ![] bcast_S_S128x256x4096 (id (constant (F := Ideal) S_ .f32 0xCE6E6B28#32)))
/-- The exponentials, of the scores. -/
def expo (s : FVec Ideal S128x256x4096 .f32) : FVec Ideal S128x256x4096 .f32 :=
  Host.exp (subf s (broadcastInDim S128x256x4096 ![0, 1, 2] bcast_S128x256x1_S128x256x4096_0_1_2 (broadcastInDim S128x256x1 ![0, 1] bcast_S128x256_S128x256x1_0_1
    (Host.reduce (FloatOps.maximumf (F := Ideal) (φ := .f32)) s (constant (F := Ideal) S_ .f32 0xFF800000#32) reducesTo_S128x256x4096_S128x256_d2 h_S_))))
/-- The weights, of the exponentials. -/
def weights (e : FVec Ideal S128x256x4096 .f32) : FVec Ideal S128x256x4096 .f32 :=
  select (broadcastInDim S128x256x4096 ![0, 1, 2] bcast_S1x256x1_S128x256x4096_0_1_2 (broadcastInDim S1x256x1 ![1] bcast_S256_S1x256x1_1 keep))
    (Host.divf e (broadcastInDim S128x256x4096 ![0, 1, 2] bcast_S128x256x1_S128x256x4096_0_1_2
      (select (broadcastInDim S128x256x1 ![0, 1, 2] bcast_S1x256x1_S128x256x1_0_1_2 (broadcastInDim S1x256x1 ![1] bcast_S256_S1x256x1_1 keep))
        (broadcastInDim S128x256x1 ![0, 1] bcast_S128x256_S128x256x1_0_1 (Host.reduceAdd e (constant (F := Ideal) S_ .f32 0x00000000#32) reducesTo_S128x256x4096_S128x256_d2 h_S_))
        (broadcastInDim S128x256x1 ![] bcast_S_S128x256x1 (id (constant (F := Ideal) S_ .f32 0x3F800000#32))))))
    (broadcastInDim S128x256x4096 ![] bcast_S_S128x256x4096 (id (constant (F := Ideal) S_ .f32 0x00000000#32)))
/-- The context, of the weights. -/
def context (w : FVec Ideal S128x256x4096 .f32) : FVec Ideal S256x128x128 .f32 :=
  transpose S256x128x128 [2, 0, 1] (Host.dotGeneral dot_S4096x128x128_S128x256x4096_S128x128x256_0_2_2_1_1_0 none V w) transposes_S128x128x256_S256x128x128_2_0_1
/-- The output, of the context. -/
def output (c : FVec Ideal S256x128x128 .f32) : FVec Ideal S256x1024 .f32 :=
  Host.dotGeneral dot_S256x16384_S16384x1024_S256x1024_1_0_0_1_n_n none (shapeCast S256x16384 c shapeCasts_S256x128x128_S256x16384) Wo

set_option maxRecDepth 8192 in
/-- The reference's result is these steps. -/
theorem result_eq (m : (ℓ : Loc nD τ sig) → Buf (Elt Ideal) ℓ) (c : Dev nD) :
    Value.res_out0 m c = output (m ((c.tc : Thread nD τ).loc main_arg4)) (context (m ((c.tc : Thread nD τ).loc main_arg3))
      (weights (expo (scores (m ((c.tc : Thread nD τ).loc main_arg2)) (queries (m ((c.tc : Thread nD τ).loc main_arg0)) (m ((c.tc : Thread nD τ).loc main_arg1))))))) := rfl

end Cert.ReferenceIdeal.Hand

end
-- ==== Proof.RefMask.lean ====
/- The reference's mask at an index. -/
module

public import proofs.«01_k».proof.Proof.RefSteps
public import proofs.«01_k».proof.Proof.Attn
public import Idealize.ShloMosaic.Lib.Routing.OpsOrder

@[expose] public section

noncomputable section

namespace Cert.ReferenceIdeal.Hand

open Cert.ReferenceIdeal Cert.ReferenceIdeal.Gen
open Idealize.ShloMosaic Idealize.ShloMosaic.TcCoe Idealize.SL.Sem
open Cert.Attn

set_option maxRecDepth 16384

/-! ## The mask at an index -/

theorem blockQ_apply (i : Fin 256) : blockQ (ix1 i) = BitVec.ofNat 32 (i.val / 64) := by
  pointwise [blockQ]
  revert i; decide +kernel
theorem blockK_apply (j : Fin 4096) : blockK (ix1 j) = BitVec.ofNat 32 (j.val / 64) := by
  pointwise [blockK]
  revert j; decide +kernel

theorem mask_apply (i : Fin 256) (j : Fin 4096) : mask (ix2 i j) = bit (i.val / 64) (j.val / 64) := by
  pointwise [mask, mod3, rem3, rowQ, colK, colK2, three]
  rw [blockQ_apply, blockK_apply]
  have ha : i.val / 64 < 4 := by omega
  have hb : j.val / 64 < 64 := by omega
  generalize i.val / 64 = a at *
  generalize j.val / 64 = b at *
  obtain ⟨a, rfl⟩ : ∃ x : Fin 4, x.val = a := ⟨⟨a, ha⟩, rfl⟩
  obtain ⟨b, rfl⟩ : ∃ x : Fin 64, x.val = b := ⟨⟨b, hb⟩, rfl⟩
  clear ha hb
  revert a b; decide +kernel

/-- Every row keeps a key: those of the first block. -/
theorem keep_apply (i : Fin 256) : keep (ix1 i) = 1#1 := by
  pointwise [keep]
  rw [Idealize.ShloMosaic.Routing.fold_ori]
  refine ⟨0, Finset.mem_univ _, ?_⟩
  rw [mask_apply]
  exact if_pos (Or.inr (Or.inl rfl))

end Cert.ReferenceIdeal.Hand

end
-- ==== Proof.RefRead.lean ====
/- The reference's steps at an index, and its result. -/
module

public import proofs.«01_k».proof.Proof.RefMask
public import proofs.«01_k».proof.Proof.Attn

@[expose] public section

noncomputable section

namespace Cert.ReferenceIdeal.Hand

open Cert.ReferenceIdeal Cert.ReferenceIdeal.Gen
open Idealize.ShloMosaic Idealize.ShloMosaic.TcCoe Idealize.SL.Sem
open Cert.Attn (bit logit hd cl flat result)

variable (X : FVec Ideal S256x1024 .f32) (Wq : FVec Ideal S1024x16384 .f32) (K V : FVec Ideal S4096x128x128 .f32) (Wo : FVec Ideal S16384x1024 .f32)

set_option maxRecDepth 16384

/-! ## The steps at an index -/

theorem queries_apply (i : Fin 256) (h d : Fin 128) : queries X Wq (ix3 i h d) = ∑ x, X (ix2 i x) * Wq (ix2 x (flat h d)) := by
  pointwise [queries]
  rfl
theorem scores_apply (Q : FVec Ideal S256x128x128 .f32) (h : Fin 128) (i : Fin 256) (j : Fin 4096) :
    scores K Q (ix3 h i j) = logit (bit (i.val / 64) (j.val / 64)) (∑ d, Q (ix3 i h d) * K (ix3 j h d)) := by
  pointwise [scores]
  rw [mask_apply]; rfl
theorem expo_apply (s : FVec Ideal S128x256x4096 .f32) (h : Fin 128) (i : Fin 256) (j : Fin 4096) :
    expo s (ix3 h i j) = Cert.Attn.expo (fun j => s (ix3 h i j)) j := by
  pointwise [expo]
  rfl
theorem weights_apply (e : FVec Ideal S128x256x4096 .f32) (h : Fin 128) (i : Fin 256) (j : Fin 4096) :
    weights e (ix3 h i j) = Ideal.div (e (ix3 h i j)) (∑ x, e (ix3 h i x)) := by
  pointwise [weights]
  rw [keep_apply]; rfl
theorem context_apply (w : FVec Ideal S128x256x4096 .f32) (i : Fin 256) (h d : Fin 128) :
    context V w (ix3 i h d) = ∑ j, V (ix3 j h d) * w (ix3 h i j) := by
  pointwise [context]
theorem output_apply (c : FVec Ideal S256x128x128 .f32) (i : Fin 256) (l : Fin 1024) :
    output Wo c (ix2 i l) = ∑ k, c (ix3 i (hd k) (cl k)) * Wo (ix2 k l) := by
  pointwise [output]
  rfl

/-- THE REFERENCE'S RESULT. -/
theorem reference_apply (i : Fin 256) (l : Fin 1024) :
    output Wo (context V (weights (expo (scores K (queries X Wq))))) (ix2 i l) = result X Wq K V Wo i l := by
  rw [output_apply]
  refine Finset.sum_congr rfl fun k _ => congrArg (· * Wo (ix2 k l)) ?_
  rw [context_apply]
  refine Finset.sum_congr rfl fun j _ => ?_
  rw [mul_comm, weights_apply]
  simp only [expo_apply, scores_apply, queries_apply]
  rfl

end Cert.ReferenceIdeal.Hand

end
-- ==== Proof.Algebraic.lean ====
/- The equation: over the ideal floats every device ends with the reference's result. Both are read down to one formula
   (`Attn.lean`), the kernel's in `KerResult.lean` and the reference's in `RefRead.lean`. -/
module

public import proofs.«01_k».proof.Defs
public import proofs.«01_k».proof.Proof.Final
public import proofs.«01_k».proof.Proof.KerResult
public import proofs.«01_k».proof.Proof.RefRead

@[expose] public section

noncomputable section

namespace Cert.Proof

open Idealize.ShloMosaic Idealize.SL.Sem
open Cert.KernelIdeal.Hand (Pm Xm Wqm Km Vm Wom Xm_eq OV PVof mine kernel_apply)

theorem algebraic : Cert.algebraic_KernelIdeal_ReferenceIdeal := by
  intro m g m' g' _ hin
  refine ⟨Cert.ReferenceIdeal.Value.res_out0 m' 0, ?_, ?_⟩
  · have hP : Pm m = PVof (fun _ => m' (((0 : Dev Cert.ReferenceIdeal.nD).tc : Thread Cert.ReferenceIdeal.nD Cert.ReferenceIdeal.τ).loc Cert.ReferenceIdeal.main_arg0))
        (fun _ => m' (((0 : Dev Cert.ReferenceIdeal.nD).tc : Thread Cert.ReferenceIdeal.nD Cert.ReferenceIdeal.τ).loc Cert.ReferenceIdeal.main_arg1))
        (fun c => mine c (m' (((0 : Dev Cert.ReferenceIdeal.nD).tc : Thread Cert.ReferenceIdeal.nD Cert.ReferenceIdeal.τ).loc Cert.ReferenceIdeal.main_arg2)))
        (fun c => mine c (m' (((0 : Dev Cert.ReferenceIdeal.nD).tc : Thread Cert.ReferenceIdeal.nD Cert.ReferenceIdeal.τ).loc Cert.ReferenceIdeal.main_arg3)))
        (fun _ => m' (((0 : Dev Cert.ReferenceIdeal.nD).tc : Thread Cert.ReferenceIdeal.nD Cert.ReferenceIdeal.τ).loc Cert.ReferenceIdeal.main_arg4)) := by
      have h0 : Xm m = _ := funext fun c => (Xm_eq m c).trans (hin c).1
      have h1 : Wqm m = _ := funext fun c => (hin c).2.1
      have h2 : Km m = _ := funext fun c => (hin c).2.2.1
      have h3 : Vm m = _ := funext fun c => (hin c).2.2.2.1
      have h4 : Wom m = _ := funext fun c => (hin c).2.2.2.2
      unfold Pm
      rw [h0, h1, h2, h3, h4]
    refine (θ_run _ _ _).mono (fun r h c => ⟨((h.1 c).1).trans ?_, (h.1 c).2⟩) (Cert.KernelIdeal.Hand.run_end (F := Ideal) m g)
    rw [hP, Cert.ReferenceIdeal.Hand.result_eq]
    funext i
    rw [eq_ix2 i]
    exact (kernel_apply _ _ _ _ _ c (i 0) (i 1)).trans (Cert.ReferenceIdeal.Hand.reference_apply _ _ _ _ _ (i 0) (i 1)).symm
  · exact (θ_run _ _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_reference, trivial, algebraic⟩

end Cert.Proof

end
